-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite [hPre_finite : Cert.Pre_finite.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) = (fun _ => 1#1)

def Pre_ProjectRefIdeal (m : (ℓ : Loc Cert.ProjectRefIdeal.nD Cert.ProjectRefIdeal.τ Cert.ProjectRefIdeal.sig) → Buf (Elt Ideal) ℓ) : Prop :=
  True

def Pre_ProjectRefIdeal_finite [hPre_finite : Cert.Pre_finite.Facts] (m : (ℓ : Loc Cert.ProjectRefIdeal.nD Cert.ProjectRefIdeal.τ Cert.ProjectRefIdeal.sig) → Buf (Elt Ideal) ℓ) : Prop :=
  ∀ c : Dev Cert.ProjectRefIdeal.nD,
    (Cert.Pre_finite.fn (F := Ideal) (m ((c.tc : Thread Cert.ProjectRefIdeal.nD Cert.ProjectRefIdeal.τ).loc Cert.ProjectRefIdeal.main_arg0)) (m ((c.tc : Thread Cert.ProjectRefIdeal.nD Cert.ProjectRefIdeal.τ).loc Cert.ProjectRefIdeal.main_arg1)) (m ((c.tc : Thread Cert.ProjectRefIdeal.nD Cert.ProjectRefIdeal.τ).loc Cert.ProjectRefIdeal.main_arg2)) (m ((c.tc : Thread Cert.ProjectRefIdeal.nD Cert.ProjectRefIdeal.τ).loc Cert.ProjectRefIdeal.main_arg3)) (m ((c.tc : Thread Cert.ProjectRefIdeal.nD Cert.ProjectRefIdeal.τ).loc Cert.ProjectRefIdeal.main_arg4)) (m ((c.tc : Thread Cert.ProjectRefIdeal.nD Cert.ProjectRefIdeal.τ).loc Cert.ProjectRefIdeal.main_arg5)) (m ((c.tc : Thread Cert.ProjectRefIdeal.nD Cert.ProjectRefIdeal.τ).loc Cert.ProjectRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6)
      ∧ r.2.mem ((c.tc : Thread Cert.MixedRefIdeal.nD Cert.MixedRefIdeal.τ).loc Cert.MixedRefIdeal.main_arg7) = m ((c.tc : Thread Cert.MixedRefIdeal.nD Cert.MixedRefIdeal.τ).loc Cert.MixedRefIdeal.main_arg7))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectIdeal_pre_finite [hProjectIdeal : Cert.ProjectIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6))
      ∧ r.2.sem = fun _ => 0)

def quiescent_ProjectRefIdeal_pre_finite [hProjectRefIdeal : Cert.ProjectRefIdeal.Facts] [hPre_finite : Cert.Pre_finite.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal_finite m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v12)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v12) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v43) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v7)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v7) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v27) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)
      ∧ m' ((c.tc : Thread Cert.MixedRefIdeal.nD Cert.MixedRefIdeal.τ).loc Cert.MixedRefIdeal.main_arg6) = m ((c.tc : Thread Cert.MixedIdeal.nD Cert.MixedIdeal.τ).loc Cert.MixedIdeal.main_arg6)
      ∧ m' ((c.tc : Thread Cert.MixedRefIdeal.nD Cert.MixedRefIdeal.τ).loc Cert.MixedRefIdeal.main_arg7) = m ((c.tc : Thread Cert.MixedIdeal.nD Cert.MixedIdeal.τ).loc Cert.MixedIdeal.main_arg7)) →
    ∃ (v0 : (c : Dev Cert.MixedIdeal.nD) → Buf (Elt Ideal) ((c.tc : Thread Cert.MixedIdeal.nD Cert.MixedIdeal.τ).loc Cert.MixedIdeal.main_v7)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v7) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v25) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6)
          ∧ r.2.mem ((c.tc : Thread Cert.MixedRefIdeal.nD Cert.MixedRefIdeal.τ).loc Cert.MixedRefIdeal.main_arg7) = m' ((c.tc : Thread Cert.MixedRefIdeal.nD Cert.MixedRefIdeal.τ).loc Cert.MixedRefIdeal.main_arg7))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)) →
    ∃ (v0 : (c : Dev Cert.PlainIdeal.nD) → Buf (Elt Ideal) ((c.tc : Thread Cert.PlainIdeal.nD Cert.PlainIdeal.τ).loc Cert.PlainIdeal.main_v3)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v3) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v21) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v6)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v6) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v24) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_Project_ProjectIdeal : Prop :=
  True

def algebraic_ProjectIdeal_ProjectRefIdeal_pre_finite [hProjectIdeal : Cert.ProjectIdeal.Facts] [hProjectRefIdeal : Cert.ProjectRefIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal_finite m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v93_0)) (v1 : (c : Dev Cert.ProjectIdeal.nD) → Buf (Elt Ideal) ((c.tc : Thread Cert.ProjectIdeal.nD Cert.ProjectIdeal.τ).loc Cert.ProjectIdeal.main_v93_1)) (v2 : (c : Dev Cert.ProjectIdeal.nD) → Buf (Elt Ideal) ((c.tc : Thread Cert.ProjectIdeal.nD Cert.ProjectIdeal.τ).loc Cert.ProjectIdeal.main_v93_2)) (v3 : (c : Dev Cert.ProjectIdeal.nD) → Buf (Elt Ideal) ((c.tc : Thread Cert.ProjectIdeal.nD Cert.ProjectIdeal.τ).loc Cert.ProjectIdeal.main_v93_3)) (v4 : (c : Dev Cert.ProjectIdeal.nD) → Buf (Elt Ideal) ((c.tc : Thread Cert.ProjectIdeal.nD Cert.ProjectIdeal.τ).loc Cert.ProjectIdeal.main_v93_4)) (v5 : (c : Dev Cert.ProjectIdeal.nD) → Buf (Elt Ideal) ((c.tc : Thread Cert.ProjectIdeal.nD Cert.ProjectIdeal.τ).loc Cert.ProjectIdeal.main_v93_5)) (v6 : (c : Dev Cert.ProjectIdeal.nD) → Buf (Elt Ideal) ((c.tc : Thread Cert.ProjectIdeal.nD Cert.ProjectIdeal.τ).loc Cert.ProjectIdeal.main_v93_6)) (v7 : (c : Dev Cert.ProjectIdeal.nD) → Buf (Elt Ideal) ((c.tc : Thread Cert.ProjectIdeal.nD Cert.ProjectIdeal.τ).loc Cert.ProjectIdeal.main_v93_7)) (v8 : (c : Dev Cert.ProjectIdeal.nD) → Buf (Elt Ideal) ((c.tc : Thread Cert.ProjectIdeal.nD Cert.ProjectIdeal.τ).loc Cert.ProjectIdeal.main_v93_8)) (v9 : (c : Dev Cert.ProjectIdeal.nD) → Buf (Elt Ideal) ((c.tc : Thread Cert.ProjectIdeal.nD Cert.ProjectIdeal.τ).loc Cert.ProjectIdeal.main_v93_9)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v93_0) = v0 c
          ∧ r.2.mem ((c.tc : Thread Cert.ProjectIdeal.nD Cert.ProjectIdeal.τ).loc Cert.ProjectIdeal.main_v93_1) = v1 c
          ∧ r.2.mem ((c.tc : Thread Cert.ProjectIdeal.nD Cert.ProjectIdeal.τ).loc Cert.ProjectIdeal.main_v93_2) = v2 c
          ∧ r.2.mem ((c.tc : Thread Cert.ProjectIdeal.nD Cert.ProjectIdeal.τ).loc Cert.ProjectIdeal.main_v93_3) = v3 c
          ∧ r.2.mem ((c.tc : Thread Cert.ProjectIdeal.nD Cert.ProjectIdeal.τ).loc Cert.ProjectIdeal.main_v93_4) = v4 c
          ∧ r.2.mem ((c.tc : Thread Cert.ProjectIdeal.nD Cert.ProjectIdeal.τ).loc Cert.ProjectIdeal.main_v93_5) = v5 c
          ∧ r.2.mem ((c.tc : Thread Cert.ProjectIdeal.nD Cert.ProjectIdeal.τ).loc Cert.ProjectIdeal.main_v93_6) = v6 c
          ∧ r.2.mem ((c.tc : Thread Cert.ProjectIdeal.nD Cert.ProjectIdeal.τ).loc Cert.ProjectIdeal.main_v93_7) = v7 c
          ∧ r.2.mem ((c.tc : Thread Cert.ProjectIdeal.nD Cert.ProjectIdeal.τ).loc Cert.ProjectIdeal.main_v93_8) = v8 c
          ∧ r.2.mem ((c.tc : Thread Cert.ProjectIdeal.nD Cert.ProjectIdeal.τ).loc Cert.ProjectIdeal.main_v93_9) = v9 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v126) = v0 c
          ∧ r.2.mem ((c.tc : Thread Cert.ProjectRefIdeal.nD Cert.ProjectRefIdeal.τ).loc Cert.ProjectRefIdeal.main_v127) = v1 c
          ∧ r.2.mem ((c.tc : Thread Cert.ProjectRefIdeal.nD Cert.ProjectRefIdeal.τ).loc Cert.ProjectRefIdeal.main_v128) = v2 c
          ∧ r.2.mem ((c.tc : Thread Cert.ProjectRefIdeal.nD Cert.ProjectRefIdeal.τ).loc Cert.ProjectRefIdeal.main_v129) = v3 c
          ∧ r.2.mem ((c.tc : Thread Cert.ProjectRefIdeal.nD Cert.ProjectRefIdeal.τ).loc Cert.ProjectRefIdeal.main_v130) = v4 c
          ∧ r.2.mem ((c.tc : Thread Cert.ProjectRefIdeal.nD Cert.ProjectRefIdeal.τ).loc Cert.ProjectRefIdeal.main_v131) = v5 c
          ∧ r.2.mem ((c.tc : Thread Cert.ProjectRefIdeal.nD Cert.ProjectRefIdeal.τ).loc Cert.ProjectRefIdeal.main_v132) = v6 c
          ∧ r.2.mem ((c.tc : Thread Cert.ProjectRefIdeal.nD Cert.ProjectRefIdeal.τ).loc Cert.ProjectRefIdeal.main_v133) = v7 c
          ∧ r.2.mem ((c.tc : Thread Cert.ProjectRefIdeal.nD Cert.ProjectRefIdeal.τ).loc Cert.ProjectRefIdeal.main_v134) = v8 c
          ∧ r.2.mem ((c.tc : Thread Cert.ProjectRefIdeal.nD Cert.ProjectRefIdeal.τ).loc Cert.ProjectRefIdeal.main_v135) = v9 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hFirst : Cert.First.Facts) (hFirstIdeal : Cert.FirstIdeal.Facts) (hFirstRefIdeal : Cert.FirstRefIdeal.Facts) (hMixed : Cert.Mixed.Facts) (hMixedIdeal : Cert.MixedIdeal.Facts) (hMixedRefIdeal : Cert.MixedRefIdeal.Facts) (hPlain : Cert.Plain.Facts) (hPlainIdeal : Cert.PlainIdeal.Facts) (hPlainRefIdeal : Cert.PlainRefIdeal.Facts) (hLatent : Cert.Latent.Facts) (hLatentIdeal : Cert.LatentIdeal.Facts) (hLatentRefIdeal : Cert.LatentRefIdeal.Facts) (hProject : Cert.Project.Facts) (hProjectIdeal : Cert.ProjectIdeal.Facts) (hProjectRefIdeal : Cert.ProjectRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Sample (hSample := hSample)
    ∧ quiescent_SampleIdeal (hSampleIdeal := hSampleIdeal)
    ∧ quiescent_SampleRefIdeal (hSampleRefIdeal := hSampleRefIdeal)
    ∧ quiescent_First (hFirst := hFirst)
    ∧ quiescent_FirstIdeal (hFirstIdeal := hFirstIdeal)
    ∧ quiescent_FirstRefIdeal (hFirstRefIdeal := hFirstRefIdeal)
    ∧ quiescent_Mixed (hMixed := hMixed)
    ∧ quiescent_MixedIdeal (hMixedIdeal := hMixedIdeal)
    ∧ quiescent_MixedRefIdeal (hMixedRefIdeal := hMixedRefIdeal)
    ∧ quiescent_Plain (hPlain := hPlain)
    ∧ quiescent_PlainIdeal (hPlainIdeal := hPlainIdeal)
    ∧ quiescent_PlainRefIdeal (hPlainRefIdeal := hPlainRefIdeal)
    ∧ quiescent_Latent (hLatent := hLatent)
    ∧ quiescent_LatentIdeal (hLatentIdeal := hLatentIdeal)
    ∧ quiescent_LatentRefIdeal (hLatentRefIdeal := hLatentRefIdeal)
    ∧ quiescent_Project (hProject := hProject)
    ∧ quiescent_ProjectIdeal (hProjectIdeal := hProjectIdeal)
    ∧ quiescent_ProjectIdeal_pre_finite (hProjectIdeal := hProjectIdeal) (hPre_finite := hPre_finite)
    ∧ quiescent_ProjectRefIdeal (hProjectRefIdeal := hProjectRefIdeal)
    ∧ quiescent_ProjectRefIdeal_pre_finite (hProjectRefIdeal := hProjectRefIdeal) (hPre_finite := hPre_finite)
    ∧ preserves_Kernel_KernelIdeal
    ∧ algebraic_KernelIdeal_ReferenceIdeal (hKernelIdeal := hKernelIdeal) (hReferenceIdeal := hReferenceIdeal)
    ∧ preserves_Sample_SampleIdeal
    ∧ algebraic_SampleIdeal_SampleRefIdeal (hSampleIdeal := hSampleIdeal) (hSampleRefIdeal := hSampleRefIdeal)
    ∧ preserves_First_FirstIdeal
    ∧ algebraic_FirstIdeal_FirstRefIdeal (hFirstIdeal := hFirstIdeal) (hFirstRefIdeal := hFirstRefIdeal)
    ∧ preserves_Mixed_MixedIdeal
    ∧ algebraic_MixedIdeal_MixedRefIdeal (hMixedIdeal := hMixedIdeal) (hMixedRefIdeal := hMixedRefIdeal)
    ∧ preserves_Plain_PlainIdeal
    ∧ algebraic_PlainIdeal_PlainRefIdeal (hPlainIdeal := hPlainIdeal) (hPlainRefIdeal := hPlainRefIdeal)
    ∧ preserves_Latent_LatentIdeal
    ∧ algebraic_LatentIdeal_LatentRefIdeal (hLatentIdeal := hLatentIdeal) (hLatentRefIdeal := hLatentRefIdeal)
    ∧ preserves_Project_ProjectIdeal
    ∧ algebraic_ProjectIdeal_ProjectRefIdeal_pre_finite (hProjectIdeal := hProjectIdeal) (hProjectRefIdeal := hProjectRefIdeal) (hPre_finite := hPre_finite)
-- ==== Pre_finite.lean ====
abbrev S10x8320x1024 : Shape := ⟨3, ![10, 8320, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x384 : Shape := ⟨2, ![256, 384]⟩
abbrev S128x512 : Shape := ⟨2, ![128, 512]⟩
abbrev S_ : Shape := ⟨0, ![]⟩

class Facts : Prop where
  bcast_S_S10x8320x1024 : S_.BroadcastsInDim S10x8320x1024 (![] : Fin 0 → Fin S10x8320x1024.rank)
  reducesTo_S10x8320x1024_S_d0_1_2 : S10x8320x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2464 : S_.BroadcastsInDim S1024x2464 (![] : Fin 0 → Fin S1024x2464.rank)
  reducesTo_S1024x2464_S_d0_1 : S1024x2464.ReducesTo [0, 1] S_
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_

variable [Facts]

def fn_part1 {F : FTy → Type} [FloatOps F] (main_arg5 : FVec F S256x384 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x384 .f32 := Host.absf main_arg5
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  main_v23

def fn {F : FTy → Type} [FloatOps F] (main_arg0 : FVec F S10x8320x1024 .f32) (main_arg1 : FVec F S1024 .f32) (main_arg2 : FVec F S1024x2464 .f32) (main_arg3 : FVec F S256 .f32) (main_arg4 : FVec F S128 .f32) (main_arg5 : FVec F S256x384 .f32) (main_arg6 : FVec F S128x512 .f32) : IVec S_ 1 :=
  let main_v0 : FVec F S10x8320x1024 .f32 := Host.absf main_arg0
  let main_cst : FVec F S_ .f32 := constant S_ .f32 0x7F800000#32
  let main_v1 : FVec F S10x8320x1024 .f32 := broadcastInDim S10x8320x1024 ![] bcast_S_S10x8320x1024 main_cst
  let main_v2 : IVec S10x8320x1024 1 := cmpf .olt main_v0 main_v1
  let main_c : IVec S_ 1 := constantI S_ 1 1#1
  let main_v3 : IVec S_ 1 := (fun x v => Host.reduce IntOp.andi x v reducesTo_S10x8320x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2464 .f32 := Host.absf main_arg2
  let main_cst_2 : FVec F S_ .f32 := constant S_ .f32 0x7F800000#32
  let main_v10 : FVec F S1024x2464 .f32 := broadcastInDim S1024x2464 ![] bcast_S_S1024x2464 main_cst_2
  let main_v11 : IVec S1024x2464 1 := cmpf .olt main_v9 main_v10
  let main_c_3 : IVec S_ 1 := constantI S_ 1 1#1
  let main_v12 : IVec S_ 1 := (fun x v => Host.reduce IntOp.andi x v reducesTo_S1024x2464_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S256x1024 : Shape := ⟨2, ![256, 1024]⟩
abbrev S83200x1024 : Shape := ⟨2, ![83200, 1024]⟩
abbrev S83200x512 : Shape := ⟨2, ![83200, 512]⟩
abbrev S83200x256 : Shape := ⟨2, ![83200, 256]⟩
abbrev S1x1024 : Shape := ⟨2, ![1, 1024]⟩
abbrev S2x8192x1024 : Shape := ⟨3, ![2, 8192, 1024]⟩
abbrev S512x512 : Shape := ⟨2, ![512, 512]⟩
abbrev S512x256 : Shape := ⟨2, ![512, 256]⟩
abbrev S1x512x1024 : Shape := ⟨3, ![1, 512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 22
  | .vmem => 17
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S512x1024, .bf16⟩
  | .hbm, ⟨11, _⟩ => ⟨S256x1024, .bf16⟩
  | .hbm, ⟨12, _⟩ => ⟨S256x1024, .bf16⟩
  | .hbm, ⟨13, _⟩ => ⟨S1024x5632, .bf16⟩
  | .hbm, ⟨14, _⟩ => ⟨S2816x1024, .bf16⟩
  | .hbm, ⟨15, _⟩ => ⟨S83200x1024, .f32⟩
  | .hbm, ⟨16, _⟩ => ⟨S83200x512, .bf16⟩
  | .hbm, ⟨17, _⟩ => ⟨S83200x256, .bf16⟩
  | .hbm, ⟨18, _⟩ => ⟨S83200x256, .bf16⟩
  | .hbm, ⟨19, _⟩ => ⟨S1x1024, .f32⟩
  | .hbm, ⟨20, _⟩ => ⟨S1x1024, .f32⟩
  | .hbm, ⟨21, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S10x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult2 (i : grid0.Coords) : BitVec 32 :=
  let arg0 : BitVec 32 := BitVec.ofNat 32 (i 0).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult3 (i : grid0.Coords) : BitVec 32 :=
  let arg0 : BitVec 32 := BitVec.ofNat 32 (i 0).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult4 (i : grid0.Coords) : BitVec 32 :=
  let arg0 : BitVec 32 := BitVec.ofNat 32 (i 0).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S2x8320x1024 : Shape := ⟨3, ![2, 8320, 1024]⟩
abbrev S2x8320x512 : Shape := ⟨3, ![2, 8320, 512]⟩
abbrev S2x8320x256 : Shape := ⟨3, ![2, 8320, 256]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S2x8320x5632 : Shape := ⟨3, ![2, 8320, 5632]⟩
abbrev S2x8320x2816 : Shape := ⟨3, ![2, 8320, 2816]⟩
abbrev S2x8192x1024 : Shape := ⟨3, ![2, 8192, 1024]⟩
abbrev S2x8192 : Shape := ⟨2, ![2, 8192]⟩
abbrev S2x8192x1 : Shape := ⟨3, ![2, 8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S2x8320x1024, .f32⟩
  | .hbm, ⟨10, _⟩ => ⟨S2x8320x512, .bf16⟩
  | .hbm, ⟨11, _⟩ => ⟨S2x8320x256, .bf16⟩
  | .hbm, ⟨12, _⟩ => ⟨S2x8320x256, .bf16⟩
  | .hbm, ⟨13, _⟩ => ⟨S2x8320x1024, .bf16⟩
  | .hbm, ⟨14, _⟩ => ⟨S2x8320x1024, .f32⟩
  | .hbm, ⟨15, _⟩ => ⟨S2x8320x1024, .f32⟩
  | .hbm, ⟨16, _⟩ => ⟨S2x8320x1024, .f32⟩
  | .hbm, ⟨17, _⟩ => ⟨S2x8320x1024, .f32⟩
  | .hbm, ⟨18, _⟩ => ⟨S_, .f32⟩
  | .hbm, ⟨19, _⟩ => ⟨S2x8320, .f32⟩
  | .hbm, ⟨20, _⟩ => ⟨S2x8320x1, .f32⟩
  | .hbm, ⟨21, _⟩ => ⟨S_, .f32⟩
  | .hbm, ⟨22, _⟩ => ⟨S2x8320x1, .f32⟩
  | .hbm, ⟨23, _⟩ => ⟨S2x8320x1, .f32⟩
  | .hbm, ⟨24, _⟩ => ⟨S_, .f32⟩
  | .hbm, ⟨25, _⟩ => ⟨S2x8320x1, .f32⟩
  | .hbm, ⟨26, _⟩ => ⟨S2x8320x1, .f32⟩
  | .hbm, ⟨27, _⟩ => ⟨S2x8320x1, .f32⟩
  | .hbm, ⟨28, _⟩ => ⟨S2x8320x1024, .f32⟩
  | .hbm, ⟨29, _⟩ => ⟨S2x8320x1024, .f32⟩
  | .hbm, ⟨30, _⟩ => ⟨S1x1x1024, .f32⟩
  | .hbm, ⟨31, _⟩ => ⟨S2x8320x1024, .f32⟩
  | .hbm, ⟨32, _⟩ => ⟨S2x8320x1024, .f32⟩
  | .hbm, ⟨33, _⟩ => ⟨S2x8320x5632, .f32⟩
  | .hbm, ⟨34, _⟩ => ⟨S2x8320x2816, .f32⟩
  | .hbm, ⟨35, _⟩ => ⟨S2x8320x2816, .f32⟩
  | .hbm, ⟨36, _⟩ => ⟨S2x8320x2816, .f32⟩
  | .hbm, ⟨37, _⟩ => ⟨S2x8320x2816, .f32⟩
  | .hbm, ⟨38, _⟩ => ⟨S_, .f32⟩
  | .hbm, ⟨39, _⟩ => ⟨S2x8320x2816, .f32⟩
  | .hbm, ⟨40, _⟩ => ⟨S2x8320x2816, .f32⟩
  | .hbm, ⟨41, _⟩ => ⟨S_, .f32⟩
  | .hbm, ⟨42, _⟩ => ⟨S2x8320x2816, .f32⟩
  | .hbm, ⟨43, _⟩ => ⟨S2x8320x2816, .f32⟩
  | .hbm, ⟨44, _⟩ => ⟨S2x8320x2816, .f32⟩
  | .hbm, ⟨45, _⟩ => ⟨S2x8320x2816, .f32⟩
  | .hbm, ⟨46, _⟩ => ⟨S2x8320x1024, .f32⟩
  | .hbm, ⟨47, _⟩ => ⟨S_, .f32⟩
  | .hbm, ⟨48, _⟩ => ⟨S2x8320x1024, .f32⟩
  | .hbm, ⟨49, _⟩ => ⟨S2x8320x1024, .f32⟩
  | .hbm, ⟨50, _⟩ => ⟨S2x8320x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | _, _ => ⟨S10x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Sample.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S256x1024 : Shape := ⟨2, ![256, 1024]⟩
abbrev S83200x1024 : Shape := ⟨2, ![83200, 1024]⟩
abbrev S83200x512 : Shape := ⟨2, ![83200, 512]⟩
abbrev S83200x256 : Shape := ⟨2, ![83200, 256]⟩
abbrev S1x1024 : Shape := ⟨2, ![1, 1024]⟩
abbrev S8x8192x1024 : Shape := ⟨3, ![8, 8192, 1024]⟩
abbrev S512x512 : Shape := ⟨2, ![512, 512]⟩
abbrev S512x256 : Shape := ⟨2, ![512, 256]⟩
abbrev S1x512x1024 : Shape := ⟨3, ![1, 512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 22
  | .vmem => 17
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S512x1024, .bf16⟩
  | .hbm, ⟨11, _⟩ => ⟨S256x1024, .bf16⟩
  | .hbm, ⟨12, _⟩ => ⟨S256x1024, .bf16⟩
  | .hbm, ⟨13, _⟩ => ⟨S1024x5632, .bf16⟩
  | .hbm, ⟨14, _⟩ => ⟨S2816x1024, .bf16⟩
  | .hbm, ⟨15, _⟩ => ⟨S83200x1024, .f32⟩
  | .hbm, ⟨16, _⟩ => ⟨S83200x512, .bf16⟩
  | .hbm, ⟨17, _⟩ => ⟨S83200x256, .bf16⟩
  | .hbm, ⟨18, _⟩ => ⟨S83200x256, .bf16⟩
  | .hbm, ⟨19, _⟩ => ⟨S1x1024, .f32⟩
  | .hbm, ⟨20, _⟩ => ⟨S1x1024, .f32⟩
  | .hbm, ⟨21, _⟩ => ⟨S8x8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S10x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult2 (i : grid0.Coords) : BitVec 32 :=
  let arg0 : BitVec 32 := BitVec.ofNat 32 (i 0).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult3 (i : grid0.Coords) : BitVec 32 :=
  let arg0 : BitVec 32 := BitVec.ofNat 32 (i 0).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def k0_mult4 (i : grid0.Coords) : BitVec 32 :=
  let arg0 : BitVec 32 := BitVec.ofNat 32 (i 0).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let arg1 : BitVec 32 := BitVec.ofNat 32 (i 1).val
  let c512_i32 : BitVec 32 := 512#32
  let v3 : BitVec 32 := Scalar.muli arg1 c512_i32
  let v4 : BitVec 32 := Scalar.addi v2 v3
  v4
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32 : BitVec 32 := 0#32
  let c0_i32_0 : BitVec 32 := 0#32
  ![v5.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32 : BitVec 32 := 0#32
  let c0_i32_0 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c8320_i32 : BitVec 32 := 8320#32
  let v1 : BitVec 32 := Scalar.muli v0 c8320_i32
  let c128_i32 : BitVec 32 := 128#32
  let v2 : BitVec 32 := Scalar.addi v1 c128_i32
  let c512_i32 : BitVec 32 := 512#32
  let v3 : BitVec 32 := Scalar.muli arg1 c512_i32
  let v4 : BitVec 32 := Scalar.addi v2 v3
  let v5 : BitVec 32 := v4
  let c0_i32 : BitVec 32 := 0#32
  let c0_i32_0 : BitVec 32 := 0#32
  ![v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SampleRefIdeal.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x8320x1024 : Shape := ⟨3, ![8, 8320, 1024]⟩
abbrev S8x8320x512 : Shape := ⟨3, ![8, 8320, 512]⟩
abbrev S8x8320x256 : Shape := ⟨3, ![8, 8320, 256]⟩
abbrev S_ : Shape := ⟨0, ![]⟩
abbrev S8x8320 : Shape := ⟨2, ![8, 8320]⟩
abbrev S8x8320x1 : Shape := ⟨3, ![8, 8320, 1]⟩
abbrev S1x1x1024 : Shape := ⟨3, ![1, 1, 1024]⟩
abbrev S8x8320x5632 : Shape := ⟨3, ![8, 8320, 5632]⟩
abbrev S8x8320x2816 : Shape := ⟨3, ![8, 8320, 2816]⟩
abbrev S8x8192x1024 : Shape := ⟨3, ![8, 8192, 1024]⟩
abbrev S8x8192 : Shape := ⟨2, ![8, 8192]⟩
abbrev S8x8192x1 : Shape := ⟨3, ![8, 8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S8x8320x1024, .f32⟩
  | .hbm, ⟨10, _⟩ => ⟨S8x8320x512, .bf16⟩
  | .hbm, ⟨11, _⟩ => ⟨S8x8320x256, .bf16⟩
  | .hbm, ⟨12, _⟩ => ⟨S8x8320x256, .bf16⟩
  | .hbm, ⟨13, _⟩ => ⟨S8x8320x1024, .bf16⟩
  | .hbm, ⟨14, _⟩ => ⟨S8x8320x1024, .f32⟩
  | .hbm, ⟨15, _⟩ => ⟨S8x8320x1024, .f32⟩
  | .hbm, ⟨16, _⟩ => ⟨S8x8320x1024, .f32⟩
  | .hbm, ⟨17, _⟩ => ⟨S8x8320x1024, .f32⟩
  | .hbm, ⟨18, _⟩ => ⟨S_, .f32⟩
  | .hbm, ⟨19, _⟩ => ⟨S8x8320, .f32⟩
  | .hbm, ⟨20, _⟩ => ⟨S8x8320x1, .f32⟩
  | .hbm, ⟨21, _⟩ => ⟨S_, .f32⟩
  | .hbm, ⟨22, _⟩ => ⟨S8x8320x1, .f32⟩
  | .hbm, ⟨23, _⟩ => ⟨S8x8320x1, .f32⟩
  | .hbm, ⟨24, _⟩ => ⟨S_, .f32⟩
  | .hbm, ⟨25, _⟩ => ⟨S8x8320x1, .f32⟩
  | .hbm, ⟨26, _⟩ => ⟨S8x8320x1, .f32⟩
  | .hbm, ⟨27, _⟩ => ⟨S8x8320x1, .f32⟩
  | .hbm, ⟨28, _⟩ => ⟨S8x8320x1024, .f32⟩
  | .hbm, ⟨29, _⟩ => ⟨S8x8320x1024, .f32⟩
  | .hbm, ⟨30, _⟩ => ⟨S1x1x1024, .f32⟩
  | .hbm, ⟨31, _⟩ => ⟨S8x8320x1024, .f32⟩
  | .hbm, ⟨32, _⟩ => ⟨S8x8320x1024, .f32⟩
  | .hbm, ⟨33, _⟩ => ⟨S8x8320x5632, .f32⟩
  | .hbm, ⟨34, _⟩ => ⟨S8x8320x2816, .f32⟩
  | .hbm, ⟨35, _⟩ => ⟨S8x8320x2816, .f32⟩
  | .hbm, ⟨36, _⟩ => ⟨S8x8320x2816, .f32⟩
  | .hbm, ⟨37, _⟩ => ⟨S8x8320x2816, .f32⟩
  | .hbm, ⟨38, _⟩ => ⟨S_, .f32⟩
  | .hbm, ⟨39, _⟩ => ⟨S8x8320x2816, .f32⟩
  | .hbm, ⟨40, _⟩ => ⟨S8x8320x2816, .f32⟩
  | .hbm, ⟨41, _⟩ => ⟨S_, .f32⟩
  | .hbm, ⟨42, _⟩ => ⟨S8x8320x2816, .f32⟩
  | .hbm, ⟨43, _⟩ => ⟨S8x8320x2816, .f32⟩
  | .hbm, ⟨44, _⟩ => ⟨S8x8320x2816, .f32⟩
  | .hbm, ⟨45, _⟩ => ⟨S8x8320x2816, .f32⟩
  | .hbm, ⟨46, _⟩ => ⟨S8x8320x1024, .f32⟩
  | .hbm, ⟨47, _⟩ => ⟨S_, .f32⟩
  | .hbm, ⟨48, _⟩ => ⟨S8x8320x1024, .f32⟩
  | .hbm, ⟨49, _⟩ => ⟨S8x8320x1024, .f32⟩
  | .hbm, ⟨50, _⟩ => ⟨S8x8320x1024, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x8192x1, .f32⟩
  | .hbm, ⟨63, _⟩ => ⟨S8x8192x1024, .f32⟩
  | .hbm, ⟨64, _⟩ => ⟨S8x8192x1024, .f32⟩
  | .hbm, ⟨65, _⟩ => ⟨S1x1x1024, .f32⟩
  | .hbm, ⟨66, _⟩ => ⟨S8x8192x1024, .f32⟩
  | .hbm, ⟨67, _⟩ => ⟨S8x8192x1024, .f32⟩
  | _, _ => ⟨S10x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== First.lean ====
abbrev S2x8192x1024 : Shape := ⟨3, ![2, 8192, 1024]⟩
abbrev S8x8192x1024 : Shape := ⟨3, ![8, 8192, 1024]⟩
abbrev S16x1024 : Shape := ⟨2, ![16, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S112x1024 : Shape := ⟨2, ![112, 1024]⟩
abbrev S128x1024 : Shape := ⟨2, ![128, 1024]⟩
abbrev S16384x1024 : Shape := ⟨2, ![16384, 1024]⟩
abbrev S65536x1024 : Shape := ⟨2, ![65536, 1024]⟩
abbrev S1x1024 : Shape := ⟨2, ![1, 1024]⟩
abbrev S10x8320x1024 : Shape := ⟨3, ![10, 8320, 1024]⟩
abbrev S640x1024 : Shape := ⟨2, ![640, 1024]⟩
abbrev S1x640x1024 : Shape := ⟨3, ![1, 640, 1024]⟩
abbrev S512x1024 : Shape := ⟨2, ![512, 1024]⟩
abbrev S640 : Shape := ⟨1, ![640]⟩
abbrev S640x1 : Shape := ⟨2, ![640, 1]⟩
abbrev S1024x1536 : Shape := ⟨2, ![1024, 1536]⟩
abbrev S640x1536 : Shape := ⟨2, ![640, 1536]⟩
abbrev S1536x1024 : Shape := ⟨2, ![1536, 1024]⟩
abbrev S1024x1280 : Shape := ⟨2, ![1024, 1280]⟩
abbrev S640x1280 : Shape := ⟨2, ![640, 1280]⟩
abbrev S1280x1024 : Shape := ⟨2, ![1280, 1024]⟩

abbrev nBuf : Space → Nat
  | .hbm => 15
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S8x8192x1024, .f32⟩
  | .hbm, ⟨2, _⟩ => ⟨S16x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S_, .f32⟩
  | .hbm, ⟨7, _⟩ => ⟨S112x1024, .f32⟩
  | .hbm, ⟨8, _⟩ => ⟨S128x1024, .f32⟩
  | .hbm, ⟨9, _⟩ => ⟨S1024x5632, .bf16⟩
  | .hbm, ⟨10, _⟩ => ⟨S2816x1024, .bf16⟩
  | .hbm, ⟨11, _⟩ => ⟨S16384x1024, .f32⟩
  | .hbm, ⟨12, _⟩ => ⟨S65536x1024, .f32⟩
  | .hbm, ⟨13, _⟩ => ⟨S1x1024, .f32⟩
  | .hbm, ⟨14, _⟩ => ⟨S10x8320x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S128x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x640x1024, .f32⟩
  | .local _ .vmem, ⟨9, _⟩ => ⟨S1x640x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![10, 13], ![false, false]⟩

def k0_mult1 (i : grid0.Coords) : BitVec 32 :=
  let arg0 : BitVec 32 := BitVec.ofNat 32 (i 0).val
  let c0_i32_1 : BitVec 32 := 0#32
  let v6 : BitVec 1 := Scalar.cmpi .slt arg0 c0_i32_1
  let c0_i32_2 : BitVec 32 := 0#32
  let c2_i32 : BitVec 32 := 2#32
  let v7 : BitVec 1 := Scalar.cmpi .sge arg0 c2_i32
  let c15744_i32 : BitVec 32 := 15744#32
  let c0_i32 : BitVec 32 := 0#32
  let v0 : BitVec 32 := Scalar.subi arg0 c0_i32
  let c8192_i32 : BitVec 32 := 8192#32
  let v1 : BitVec 32 := Scalar.muli v0 c8192_i32
  let arg1 : BitVec 32 := BitVec.ofNat 32 (i 1).val
  let c640_i32 : BitVec 32 := 640#32
  let v2 : BitVec 32 := Scalar.muli arg1 c640_i32
  let c128_i32 : BitVec 32 := 128#32
  let v3 : BitVec 32 := Scalar.subi v2 c128_i32
  let c0_i32_0 : BitVec 32 := 0#32
  let v4 : BitVec 32 := Scalar.maxsi v3 c0_i32_0
  let v5 : BitVec 32 := Scalar.addi v1 v4
  let v8 : BitVec 32 := Scalar.select v7 c15744_i32 v5
  let v9 : BitVec 32 := Scalar.select v6 c0_i32_2 v8
  v9
def k0_mult2 (i : grid0.Coords) : BitVec 32 :=
  let arg0 : BitVec 32 := BitVec.ofNat 32 (i 0).val
  let c2_i32_0 : BitVec 32 := 2#32
  let v6 : BitVec 1 := Scalar.cmpi .slt arg0 c2_i32_0
  let c0_i32_1 : BitVec 32 := 0#32
  let c10_i32 : BitVec 32 := 10#32
  let v7 : BitVec 1 := Scalar.cmpi .sge arg0 c10_i32
  let c64896_i32 : BitVec 32 := 64896#32
  let c2_i32 : BitVec 32 := 2#32
  let v0 : BitVec 32 := Scalar.subi arg0 c2_i32
  let c8192_i32 : BitVec 32 := 8192#32
  let v1 : BitVec 32 := Scalar.muli v0 c8192_i32
  let arg1 : BitVec 32 := BitVec.ofNat 32 (i 1).val
  let c640_i32 : BitVec 32 := 640#32
  let v2 : BitVec 32 := Scalar.muli arg1 c640_i32
  let c128_i32 : BitVec 32 := 128#32
  let v3 : BitVec 32 := Scalar.subi v2 c128_i32
  let c0_i32 : BitVec 32 := 0#32
  let v4 : BitVec 32 := Scalar.maxsi v3 c0_i32
  let v5 : BitVec 32 := Scalar.addi v1 v4
  let v8 : BitVec 32 := Scalar.select v7 c64896_i32 v5
  let v9 : BitVec 32 := Scalar.select v6 c0_i32_1 v8
  v9
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c8192_i32 : BitVec 32 := 8192#32
  let v1 : BitVec 32 := Scalar.muli v0 c8192_i32
  let c640_i32 : BitVec 32 := 640#32
  let v2 : BitVec 32 := Scalar.muli arg1 c640_i32
  let c128_i32 : BitVec 32 := 128#32
  let v3 : BitVec 32 := Scalar.subi v2 c128_i32
  let c0_i32_0 : BitVec 32 := 0#32
  let v4 : BitVec 32 := Scalar.maxsi v3 c0_i32_0
  let v5 : BitVec 32 := Scalar.addi v1 v4
  let c0_i32_1 : BitVec 32 := 0#32
  let v6 : BitVec 1 := Scalar.cmpi .slt arg0 c0_i32_1
  let c2_i32 : BitVec 32 := 2#32
  let v7 : BitVec 1 := Scalar.cmpi .sge arg0 c2_i32
  let c15744_i32 : BitVec 32 := 15744#32
  let v8 : BitVec 32 := Scalar.select v7 c15744_i32 v5
  let c0_i32_2 : BitVec 32 := 0#32
  let v9 : BitVec 32 := Scalar.select v6 c0_i32_2 v8
  let v10 : BitVec 32 := v9
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c8192_i32 : BitVec 32 := 8192#32
  let v1 : BitVec 32 := Scalar.muli v0 c8192_i32
  let c640_i32 : BitVec 32 := 640#32
  let v2 : BitVec 32 := Scalar.muli arg1 c640_i32
  let c128_i32 : BitVec 32 := 128#32
  let v3 : BitVec 32 := Scalar.subi v2 c128_i32
  let c0_i32 : BitVec 32 := 0#32
  let v4 : BitVec 32 := Scalar.maxsi v3 c0_i32
  let v5 : BitVec 32 := Scalar.addi v1 v4
  let c2_i32_0 : BitVec 32 := 2#32
  let v6 : BitVec 1 := Scalar.cmpi .slt arg0 c2_i32_0
  let c10_i32 : BitVec 32 := 10#32
  let v7 : BitVec 1 := Scalar.cmpi .sge arg0 c10_i32
  let c64896_i32 : BitVec 32 := 64896#32
  let v8 : BitVec 32 := Scalar.select v7 c64896_i32 v5
  let c0_i32_1 : BitVec 32 := 0#32
  let v9 : BitVec 32 := Scalar.select v6 c0_i32_1 v8
  let v10 : BitVec 32 := v9
  let c0_i32_2 : BitVec 32 := 0#32
  let c0_i32_3 : BitVec 32 := 0#32
  ![v10.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FirstRefIdeal.lean ====
abbrev S2x8192x1024 : Shape := ⟨3, ![2, 8192, 1024]⟩
abbrev S8x8192x1024 : Shape := ⟨3, ![8, 8192, 1024]⟩
abbrev S16x1024 : Shape := ⟨2, ![16, 1024]⟩
abbrev S1024 : Shape := ⟨1, ![1024]⟩
abbrev S1024x5632 : Shape := ⟨2, ![1024, 5632]⟩
abbrev S2816x1024 : Shape := ⟨2, ![2816, 1024]⟩
abbrev S10x8192x1024 : Shape := ⟨3, ![10, 8192, 1024]⟩
abbrev S_ : Shape := ⟨0, ![]⟩
abbrev S112x1024 : Shape := ⟨2, ![112, 1024]⟩
abbrev S128x1024 : Shape := ⟨2, ![128, 1024]⟩
abbrev S1x128x1024 : Shape := ⟨3, ![1, 128, 1024]⟩
abbrev S10x128x1024 : Shape := ⟨3, ![10, 128, 1024]⟩
abbrev S10x8320x1024 : Shape := ⟨3, ![10, 8320, 1024]⟩
abbrev S10x8320 : Shape := ⟨2, ![10, 8320]⟩
abbrev S10x8320x1 : Shape := ⟨3, ![10, 8320, 1]⟩
abbrev S1x1x1024 : Shape := ⟨3, ![1, 1, 1024]⟩
abbrev S10x8320x5632 : Shape := ⟨3, ![10, 8320, 5632]⟩
abbrev S10x8320x2816 : Shape := ⟨3, ![10, 8320, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x8192x1024, .f32⟩
  | .hbm, ⟨2, _⟩ => ⟨S16x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S10x8192x1024, .f32⟩
  | .hbm, ⟨7, _⟩ => ⟨S_, .f32⟩
  | .hbm, ⟨8, _⟩ => ⟨S112x1024, .f32⟩
  | .hbm, ⟨9, _⟩ => ⟨S128x1024, .f32⟩
  | .hbm, ⟨10, _⟩ => ⟨S1x128x1024, .f32⟩
  | .hbm, ⟨11, _⟩ => ⟨S10x128x1024, .f32⟩
  | .hbm, ⟨12, _⟩ => ⟨S10x8320x1024, .f32⟩
  | .hbm, ⟨13, _⟩ => ⟨S10x8320x1024, .f32⟩
  | .hbm, ⟨14, _⟩ => ⟨S_, .f32⟩
  | .hbm, ⟨15, _⟩ => ⟨S10x8320, .f32⟩
  | .hbm, ⟨16, _⟩ => ⟨S10x8320x1, .f32⟩
  | .hbm, ⟨17, _⟩ => ⟨S_, .f32⟩
  | .hbm, ⟨18, _⟩ => ⟨S10x8320x1, .f32⟩
  | .hbm, ⟨19, _⟩ => ⟨S10x8320x1, .f32⟩
  | .hbm, ⟨20, _⟩ => ⟨S_, .f32⟩
  | .hbm, ⟨21, _⟩ => ⟨S10x8320x1, .f32⟩
  | .hbm, ⟨22, _⟩ => ⟨S10x8320x1, .f32⟩
  | .hbm, ⟨23, _⟩ => ⟨S10x8320x1, .f32⟩
  | .hbm, ⟨24, _⟩ => ⟨S10x8320x1024, .f32⟩
  | .hbm, ⟨25, _⟩ => ⟨S10x8320x1024, .f32⟩
  | .hbm, ⟨26, _⟩ => ⟨S1x1x1024, .f32⟩
  | .hbm, ⟨27, _⟩ => ⟨S10x8320x1024, .f32⟩
  | .hbm, ⟨28, _⟩ => ⟨S10x8320x1024, .f32⟩
  | .hbm, ⟨29, _⟩ => ⟨S10x8320x5632, .f32⟩
  | .hbm, ⟨30, _⟩ => ⟨S10x8320x2816, .f32⟩
  | .hbm, ⟨31, _⟩ => ⟨S10x8320x2816, .f32⟩
  | .hbm, ⟨32, _⟩ => ⟨S10x8320x2816, .f32⟩
  | .hbm, ⟨33, _⟩ => ⟨S10x8320x2816, .f32⟩
  | .hbm, ⟨34, _⟩ => ⟨S_, .f32⟩
  | .hbm, ⟨35, _⟩ => ⟨S10x8320x2816, .f32⟩
  | .hbm, ⟨36, _⟩ => ⟨S10x8320x2816, .f32⟩
  | .hbm, ⟨37, _⟩ => ⟨S_, .f32⟩
  | .hbm, ⟨38, _⟩ => ⟨S10x8320x2816, .f32⟩
  | .hbm, ⟨39, _⟩ => ⟨S10x8320x2816, .f32⟩
  | .hbm, ⟨40, _⟩ => ⟨S10x8320x2816, .f32⟩
  | .hbm, ⟨41, _⟩ => ⟨S10x8320x2816, .f32⟩
  | .hbm, ⟨42, _⟩ => ⟨S10x8320x1024, .f32⟩
  | .hbm, ⟨43, _⟩ => ⟨S_, .f32⟩
  | .hbm, ⟨44, _⟩ => ⟨S10x8320x1024, .f32⟩
  | .hbm, ⟨45, _⟩ => ⟨S10x8320x1024, .f32⟩
  | .hbm, ⟨46, _⟩ => ⟨S10x8320x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Mixed.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S256x1024 : Shape := ⟨2, ![256, 1024]⟩
abbrev S1x1024 : Shape := ⟨2, ![1, 1024]⟩
abbrev S1x640x1024 : Shape := ⟨3, ![1, 640, 1024]⟩
abbrev S1x640x512 : Shape := ⟨3, ![1, 640, 512]⟩
abbrev S1x640x256 : Shape := ⟨3, ![1, 640, 256]⟩
abbrev S640x1024 : Shape := ⟨2, ![640, 1024]⟩
abbrev S640x512 : Shape := ⟨2, ![640, 512]⟩
abbrev S640x256 : Shape := ⟨2, ![640, 256]⟩
abbrev S640 : Shape := ⟨1, ![640]⟩
abbrev S640x1 : Shape := ⟨2, ![640, 1]⟩
abbrev S1024x1536 : Shape := ⟨2, ![1024, 1536]⟩
abbrev S640x1536 : Shape := ⟨2, ![640, 1536]⟩
abbrev S1536x1024 : Shape := ⟨2, ![1536, 1024]⟩
abbrev S1024x1280 : Shape := ⟨2, ![1024, 1280]⟩
abbrev S640x1280 : Shape := ⟨2, ![640, 1280]⟩
abbrev S1280x1024 : Shape := ⟨2, ![1280, 1024]⟩

abbrev nBuf : Space → Nat
  | .hbm => 16
  | .vmem => 16
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S256x1024, .bf16⟩
  | .hbm, ⟨11, _⟩ => ⟨S256x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S10x8320x1024, .f32⟩
  | .local _ .vmem, ⟨0, _⟩ => ⟨S1x640x1024, .f32⟩
  | .local _ .vmem, ⟨1, _⟩ => ⟨S1x640x1024, .f32⟩
  | .local _ .vmem, ⟨2, _⟩ => ⟨S1x640x512, .bf16⟩
  | .local _ .vmem, ⟨3, _⟩ => ⟨S1x640x512, .bf16⟩
  | .local _ .vmem, ⟨4, _⟩ => ⟨S1x640x256, .bf16⟩
  | .local _ .vmem, ⟨5, _⟩ => ⟨S1x640x256, .bf16⟩
  | .local _ .vmem, ⟨6, _⟩ => ⟨S1x640x256, .bf16⟩
  | .local _ .vmem, ⟨7, _⟩ => ⟨S1x640x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x640x1024, .f32⟩
  | .local _ .vmem, ⟨15, _⟩ => ⟨S1x640x1024, .f32⟩
  | _, _ => ⟨S10x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![10, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x640x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixedRefIdeal.lean ====
abbrev S10x8320x1024 : Shape := ⟨3, ![10, 8320, 1024]⟩
abbrev S10x8320x512 : Shape := ⟨3, ![10, 8320, 512]⟩
abbrev S10x8320x256 : Shape := ⟨3, ![10, 8320, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S10x8320 : Shape := ⟨2, ![10, 8320]⟩
abbrev S10x8320x1 : Shape := ⟨3, ![10, 8320, 1]⟩
abbrev S1x1x1024 : Shape := ⟨3, ![1, 1, 1024]⟩
abbrev S10x8320x5632 : Shape := ⟨3, ![10, 8320, 5632]⟩
abbrev S10x8320x2816 : Shape := ⟨3, ![10, 8320, 2816]⟩

abbrev nBuf : Space → Nat
  | .hbm => 46
  | .vmem => 0
  | .smem => 0
  | _ => 0

abbrev bufTy : (tb : Table) → Fin (tcTables nBuf tb) → BufTy
  | .hbm, ⟨0, _⟩ => ⟨S10x8320x1024, .f32⟩
  | .hbm, ⟨1, _⟩ => ⟨S10x8320x512, .bf16⟩
  | .hbm, ⟨2, _⟩ => ⟨S10x8320x256, .bf16⟩
  | .hbm, ⟨3, _⟩ => ⟨S10x8320x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S10x8320x1024, .bf16⟩
  | .hbm, ⟨9, _⟩ => ⟨S10x8320x1024, .f32⟩
  | .hbm, ⟨10, _⟩ => ⟨S10x8320x1024, .f32⟩
  | .hbm, ⟨11, _⟩ => ⟨S10x8320x1024, .f32⟩
  | .hbm, ⟨12, _⟩ => ⟨S10x8320x1024, .f32⟩
  | .hbm, ⟨13, _⟩ => ⟨S_, .f32⟩
  | .hbm, ⟨14, _⟩ => ⟨S10x8320, .f32⟩
  | .hbm, ⟨15, _⟩ => ⟨S10x8320x1, .f32⟩
  | .hbm, ⟨16, _⟩ => ⟨S_, .f32⟩
  | .hbm, ⟨17, _⟩ => ⟨S10x8320x1, .f32⟩
  | .hbm, ⟨18, _⟩ => ⟨S10x8320x1, .f32⟩
  | .hbm, ⟨19, _⟩ => ⟨S_, .f32⟩
  | .hbm, ⟨20, _⟩ => ⟨S10x8320x1, .f32⟩
  | .hbm, ⟨21, _⟩ => ⟨S10x8320x1, .f32⟩
  | .hbm, ⟨22, _⟩ => ⟨S10x8320x1, .f32⟩
  | .hbm, ⟨23, _⟩ => ⟨S10x8320x1024, .f32⟩
  | .hbm, ⟨24, _⟩ => ⟨S10x8320x1024, .f32⟩
  | .hbm, ⟨25, _⟩ => ⟨S1x1x1024, .f32⟩
  | .hbm, ⟨26, _⟩ => ⟨S10x8320x1024, .f32⟩
  | .hbm, ⟨27, _⟩ => ⟨S10x8320x1024, .f32⟩
  | .hbm, ⟨28, _⟩ => ⟨S10x8320x5632, .f32⟩
  | .hbm, ⟨29, _⟩ => ⟨S10x8320x2816, .f32⟩
  | .hbm, ⟨30, _⟩ => ⟨S10x8320x2816, .f32⟩
  | .hbm, ⟨31, _⟩ => ⟨S10x8320x2816, .f32⟩
  | .hbm, ⟨32, _⟩ => ⟨S10x8320x2816, .f32⟩
  | .hbm, ⟨33, _⟩ => ⟨S_, .f32⟩
  | .hbm, ⟨34, _⟩ => ⟨S10x8320x2816, .f32⟩
  | .hbm, ⟨35, _⟩ => ⟨S10x8320x2816, .f32⟩
  | .hbm, ⟨36, _⟩ => ⟨S_, .f32⟩
  | .hbm, ⟨37, _⟩ => ⟨S10x8320x2816, .f32⟩
  | .hbm, ⟨38, _⟩ => ⟨S10x8320x2816, .f32⟩
  | .hbm, ⟨39, _⟩ => ⟨S10x8320x2816, .f32⟩
  | .hbm, ⟨40, _⟩ => ⟨S10x8320x2816, .f32⟩
  | .hbm, ⟨41, _⟩ => ⟨S10x8320x1024, .f32⟩
  | .hbm, ⟨42, _⟩ => ⟨S_, .f32⟩
  | .hbm, ⟨43, _⟩ => ⟨S10x8320x1024, .f32⟩
  | .hbm, ⟨44, _⟩ => ⟨S10x8320x1024, .f32⟩
  | .hbm, ⟨45, _⟩ => ⟨S10x8320x1024, .f32⟩
  | _, _ => ⟨S10x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Plain.lean ====
abbrev S10x8320x1024 : Shape := ⟨3, ![10, 8320, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x640x1024 : Shape := ⟨3, ![1, 640, 1024]⟩
abbrev S640x1024 : Shape := ⟨2, ![640, 1024]⟩
abbrev S640 : Shape := ⟨1, ![640]⟩
abbrev S640x1 : Shape := ⟨2, ![640, 1]⟩
abbrev S1024x1536 : Shape := ⟨2, ![1024, 1536]⟩
abbrev S640x1536 : Shape := ⟨2, ![640, 1536]⟩
abbrev S1536x1024 : Shape := ⟨2, ![1536, 1024]⟩
abbrev S1024x1280 : Shape := ⟨2, ![1024, 1280]⟩
abbrev S640x1280 : Shape := ⟨2, ![640, 1280]⟩
abbrev S1280x1024 : Shape := ⟨2, ![1280, 1024]⟩

abbrev nBuf : Space → Nat
  | .hbm => 8
  | .vmem => 7
  | .smem => 0
  | _ => 0

abbrev bufTy : (tb : Table) → Fin (tcTables nBuf tb) → BufTy
  | .hbm, ⟨0, _⟩ => ⟨S10x8320x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S10x8320x1024, .f32⟩
  | .local _ .vmem, ⟨0, _⟩ => ⟨S1x640x1024, .f32⟩
  | .local _ .vmem, ⟨1, _⟩ => ⟨S1x640x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x640x1024, .f32⟩
  | .local _ .vmem, ⟨6, _⟩ => ⟨S1x640x1024, .f32⟩
  | _, _ => ⟨S10x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![10, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PlainRefIdeal.lean ====
abbrev S10x8320x1024 : Shape := ⟨3, ![10, 8320, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S10x8320 : Shape := ⟨2, ![10, 8320]⟩
abbrev S10x8320x1 : Shape := ⟨3, ![10, 8320, 1]⟩
abbrev S1x1x1024 : Shape := ⟨3, ![1, 1, 1024]⟩
abbrev S10x8320x5632 : Shape := ⟨3, ![10, 8320, 5632]⟩
abbrev S10x8320x2816 : Shape := ⟨3, ![10, 8320, 2816]⟩

abbrev nBuf : Space → Nat
  | .hbm => 38
  | .vmem => 0
  | .smem => 0
  | _ => 0

abbrev bufTy : (tb : Table) → Fin (tcTables nBuf tb) → BufTy
  | .hbm, ⟨0, _⟩ => ⟨S10x8320x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S10x8320x1024, .f32⟩
  | .hbm, ⟨5, _⟩ => ⟨S_, .f32⟩
  | .hbm, ⟨6, _⟩ => ⟨S10x8320, .f32⟩
  | .hbm, ⟨7, _⟩ => ⟨S10x8320x1, .f32⟩
  | .hbm, ⟨8, _⟩ => ⟨S_, .f32⟩
  | .hbm, ⟨9, _⟩ => ⟨S10x8320x1, .f32⟩
  | .hbm, ⟨10, _⟩ => ⟨S10x8320x1, .f32⟩
  | .hbm, ⟨11, _⟩ => ⟨S_, .f32⟩
  | .hbm, ⟨12, _⟩ => ⟨S10x8320x1, .f32⟩
  | .hbm, ⟨13, _⟩ => ⟨S10x8320x1, .f32⟩
  | .hbm, ⟨14, _⟩ => ⟨S10x8320x1, .f32⟩
  | .hbm, ⟨15, _⟩ => ⟨S10x8320x1024, .f32⟩
  | .hbm, ⟨16, _⟩ => ⟨S10x8320x1024, .f32⟩
  | .hbm, ⟨17, _⟩ => ⟨S1x1x1024, .f32⟩
  | .hbm, ⟨18, _⟩ => ⟨S10x8320x1024, .f32⟩
  | .hbm, ⟨19, _⟩ => ⟨S10x8320x1024, .f32⟩
  | .hbm, ⟨20, _⟩ => ⟨S10x8320x5632, .f32⟩
  | .hbm, ⟨21, _⟩ => ⟨S10x8320x2816, .f32⟩
  | .hbm, ⟨22, _⟩ => ⟨S10x8320x2816, .f32⟩
  | .hbm, ⟨23, _⟩ => ⟨S10x8320x2816, .f32⟩
  | .hbm, ⟨24, _⟩ => ⟨S10x8320x2816, .f32⟩
  | .hbm, ⟨25, _⟩ => ⟨S_, .f32⟩
  | .hbm, ⟨26, _⟩ => ⟨S10x8320x2816, .f32⟩
  | .hbm, ⟨27, _⟩ => ⟨S10x8320x2816, .f32⟩
  | .hbm, ⟨28, _⟩ => ⟨S_, .f32⟩
  | .hbm, ⟨29, _⟩ => ⟨S10x8320x2816, .f32⟩
  | .hbm, ⟨30, _⟩ => ⟨S10x8320x2816, .f32⟩
  | .hbm, ⟨31, _⟩ => ⟨S10x8320x2816, .f32⟩
  | .hbm, ⟨32, _⟩ => ⟨S10x8320x2816, .f32⟩
  | .hbm, ⟨33, _⟩ => ⟨S10x8320x1024, .f32⟩
  | .hbm, ⟨34, _⟩ => ⟨S_, .f32⟩
  | .hbm, ⟨35, _⟩ => ⟨S10x8320x1024, .f32⟩
  | .hbm, ⟨36, _⟩ => ⟨S10x8320x1024, .f32⟩
  | .hbm, ⟨37, _⟩ => ⟨S10x8320x1024, .f32⟩
  | _, _ => ⟨S10x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Latent.lean ====
abbrev S10x8320x512 : Shape := ⟨3, ![10, 8320, 512]⟩
abbrev S10x8320x256 : Shape := ⟨3, ![10, 8320, 256]⟩
abbrev S640 : Shape := ⟨1, ![640]⟩
abbrev S_ : Shape := ⟨0, ![]⟩
abbrev S1x640 : Shape := ⟨2, ![1, 640]⟩
abbrev S1x640x256 : Shape := ⟨3, ![1, 640, 256]⟩
abbrev S1x8320x256 : Shape := ⟨3, ![1, 8320, 256]⟩
abbrev S1x8320x128 : Shape := ⟨3, ![1, 8320, 128]⟩
abbrev S1x640x128 : Shape := ⟨3, ![1, 640, 128]⟩
abbrev S640x640 : Shape := ⟨2, ![640, 640]⟩
abbrev S640x1 : Shape := ⟨2, ![640, 1]⟩
abbrev S640x128 : Shape := ⟨2, ![640, 128]⟩

abbrev nBuf : Space → Nat
  | .hbm => 15
  | .vmem => 13
  | .smem => 0
  | _ => 0

abbrev bufTy : (tb : Table) → Fin (tcTables nBuf tb) → BufTy
  | .hbm, ⟨0, _⟩ => ⟨S10x8320x512, .bf16⟩
  | .hbm, ⟨1, _⟩ => ⟨S10x8320x512, .bf16⟩
  | .hbm, ⟨2, _⟩ => ⟨S10x8320x256, .bf16⟩
  | .hbm, ⟨3, _⟩ => ⟨S640, .i32⟩
  | .hbm, ⟨4, _⟩ => ⟨S_, .i32⟩
  | .hbm, ⟨5, _⟩ => ⟨S640, .i32⟩
  | .hbm, ⟨6, _⟩ => ⟨S640, .i1⟩
  | .hbm, ⟨7, _⟩ => ⟨S_, .f32⟩
  | .hbm, ⟨8, _⟩ => ⟨S_, .f32⟩
  | .hbm, ⟨9, _⟩ => ⟨S640, .f32⟩
  | .hbm, ⟨10, _⟩ => ⟨S640, .f32⟩
  | .hbm, ⟨11, _⟩ => ⟨S640, .f32⟩
  | .hbm, ⟨12, _⟩ => ⟨S640, .f32⟩
  | .hbm, ⟨13, _⟩ => ⟨S1x640, .f32⟩
  | .hbm, ⟨14, _⟩ => ⟨S10x8320x256, .bf16⟩
  | .local _ .vmem, ⟨0, _⟩ => ⟨S1x640x256, .bf16⟩
  | .local _ .vmem, ⟨1, _⟩ => ⟨S1x640x256, .bf16⟩
  | .local _ .vmem, ⟨2, _⟩ => ⟨S1x8320x256, .bf16⟩
  | .local _ .vmem, ⟨3, _⟩ => ⟨S1x8320x256, .bf16⟩
  | .local _ .vmem, ⟨4, _⟩ => ⟨S1x8320x128, .bf16⟩
  | .local _ .vmem, ⟨5, _⟩ => ⟨S1x8320x128, .bf16⟩
  | .local _ .vmem, ⟨6, _⟩ => ⟨S1x640, .f32⟩
  | .local _ .vmem, ⟨7, _⟩ => ⟨S1x640x128, .bf16⟩
  | .local _ .vmem, ⟨8, _⟩ => ⟨S1x640x128, .bf16⟩
  | .local _ .vmem, ⟨9, _⟩ => ⟨S640x640, .f32⟩
  | .local _ .vmem, ⟨10, _⟩ => ⟨S640x1, .f32⟩
  | .local _ .vmem, ⟨11, _⟩ => ⟨S640x1, .f32⟩
  | .local _ .vmem, ⟨12, _⟩ => ⟨S640x128, .f32⟩
  | _, _ => ⟨S10x8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![10, 2, 13], ![false, false, false]⟩

@[reducible] def k0_t1_loop : Scf.Loop 32 :=
  let c1_i32 : BitVec 32 := 1#32
  let c12_i32 : BitVec 32 := 12#32
  let v37 : BitVec 32 := Scalar.addi c1_i32 c12_i32
  let c1_i32_27 : BitVec 32 := 1#32
  ⟨c1_i32, v37, c1_i32_27⟩
def k0_mult1 (k0_t1 : Fin k0_t1_loop.trips) : BitVec 32 :=
  let c1_i32 : BitVec 32 := 1#32
  let c1_i32_27 : BitVec 32 := 1#32
  let arg12 : BitVec 32 := Scf.iv c1_i32 c1_i32_27 k0_t1
  let c640_i32 : BitVec 32 := 640#32
  let v92 : BitVec 32 := Scalar.muli arg12 c640_i32
  v92
def k0_off1 (k0_t1 : Fin k0_t1_loop.trips) : Fin 3 → Nat :=
  let c0_72 : Index := 0#32
  let c1_i32 : BitVec 32 := 1#32
  let c1_i32_27 : BitVec 32 := 1#32
  let arg12 : BitVec 32 := Scf.iv c1_i32 c1_i32_27 k0_t1
  let c640_i32 : BitVec 32 := 640#32
  let v92 : BitVec 32 := Scalar.muli arg12 c640_i32
  let v93 : BitVec 32 := v92
  let v94 : Index := Scalar.indexCast v93
  let c0_73 : Index := 0#32
  ![0, v94.toNat, 0]
def k0_off2 (k0_t1 : Fin k0_t1_loop.trips) : Fin 3 → Nat :=
  let c0_74 : Index := 0#32
  let c1_i32 : BitVec 32 := 1#32
  let c1_i32_27 : BitVec 32 := 1#32
  let arg12 : BitVec 32 := Scf.iv c1_i32 c1_i32_27 k0_t1
  let c640_i32 : BitVec 32 := 640#32
  let v92 : BitVec 32 := Scalar.muli arg12 c640_i32
  let v93 : BitVec 32 := v92
  let v97 : Index := Scalar.indexCast v93
  let c0_75 : Index := 0#32
  ![0, v97.toNat, 0]
@[reducible] def k0_t2_loop : Scf.Loop 32 :=
  let c1_i32_61 : BitVec 32 := 1#32
  let c12_i32_62 : BitVec 32 := 12#32
  let v79 : BitVec 32 := Scalar.addi c1_i32_61 c12_i32_62
  let c1_i32_63 : BitVec 32 := 1#32
  ⟨c1_i32_61, v79, c1_i32_63⟩
def k0_mult2 (k0_t2 : Fin k0_t2_loop.trips) : BitVec 32 :=
  let c1_i32_61 : BitVec 32 := 1#32
  let c1_i32_63 : BitVec 32 := 1#32
  let arg12 : BitVec 32 := Scf.iv c1_i32_61 c1_i32_63 k0_t2
  let c640_i32 : BitVec 32 := 640#32
  let v92 : BitVec 32 := Scalar.muli arg12 c640_i32
  v92
def k0_off3 (k0_t2 : Fin k0_t2_loop.trips) : Fin 3 → Nat :=
  let c0_72 : Index := 0#32
  let c1_i32_61 : BitVec 32 := 1#32
  let c1_i32_63 : BitVec 32 := 1#32
  let arg12 : BitVec 32 := Scf.iv c1_i32_61 c1_i32_63 k0_t2
  let c640_i32 : BitVec 32 := 640#32
  let v92 : BitVec 32 := Scalar.muli arg12 c640_i32
  let v93 : BitVec 32 := v92
  let v94 : Index := Scalar.indexCast v93
  let c128_73 : Index := 128#32
  ![0, v94.toNat, 128]
def k0_off4 (k0_t2 : Fin k0_t2_loop.trips) : Fin 3 → Nat :=
  let c0_74 : Index := 0#32
  let c1_i32_61 : BitVec 32 := 1#32
  let c1_i32_63 : BitVec 32 := 1#32
  let arg12 : BitVec 32 := Scf.iv c1_i32_61 c1_i32_63 k0_t2
  let c640_i32 : BitVec 32 := 640#32
  let v92 : BitVec 32 := Scalar.muli arg12 c640_i32
  let v93 : BitVec 32 := v92
  let v97 : Index := Scalar.indexCast v93
  let c0_75 : Index := 0#32
  ![0, v97.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== LatentRefIdeal.lean ====
abbrev S10x8320x512 : Shape := ⟨3, ![10, 8320, 512]⟩
abbrev S10x8320x256 : Shape := ⟨3, ![10, 8320, 256]⟩
abbrev S10x8320x4x128 : Shape := ⟨4, ![10, 8320, 4, 128]⟩
abbrev S10x8320x4x64 : Shape := ⟨4, ![10, 8320, 4, 64]⟩
abbrev S8320 : Shape := ⟨1, ![8320]⟩
abbrev S_ : Shape := ⟨0, ![]⟩
abbrev S10x4x8320x8320 : Shape := ⟨4, ![10, 4, 8320, 8320]⟩
abbrev S10x4x8320 : Shape := ⟨3, ![10, 4, 8320]⟩
abbrev S10x4x8320x1 : Shape := ⟨4, ![10, 4, 8320, 1]⟩
abbrev S10x8320x4 : Shape := ⟨3, ![10, 8320, 4]⟩
abbrev S10x4x64x8320 : Shape := ⟨4, ![10, 4, 64, 8320]⟩
abbrev S10x8320x4x1 : Shape := ⟨4, ![10, 8320, 4, 1]⟩

abbrev nBuf : Space → Nat
  | .hbm => 35
  | .vmem => 0
  | .smem => 0
  | _ => 0

abbrev bufTy : (tb : Table) → Fin (tcTables nBuf tb) → BufTy
  | .hbm, ⟨0, _⟩ => ⟨S10x8320x512, .bf16⟩
  | .hbm, ⟨1, _⟩ => ⟨S10x8320x512, .bf16⟩
  | .hbm, ⟨2, _⟩ => ⟨S10x8320x256, .bf16⟩
  | .hbm, ⟨3, _⟩ => ⟨S10x8320x512, .f32⟩
  | .hbm, ⟨4, _⟩ => ⟨S10x8320x4x128, .f32⟩
  | .hbm, ⟨5, _⟩ => ⟨S10x8320x512, .f32⟩
  | .hbm, ⟨6, _⟩ => ⟨S10x8320x4x128, .f32⟩
  | .hbm, ⟨7, _⟩ => ⟨S10x8320x256, .f32⟩
  | .hbm, ⟨8, _⟩ => ⟨S10x8320x4x64, .f32⟩
  | .hbm, ⟨9, _⟩ => ⟨S8320, .i32⟩
  | .hbm, ⟨10, _⟩ => ⟨S_, .i32⟩
  | .hbm, ⟨11, _⟩ => ⟨S8320, .i32⟩
  | .hbm, ⟨12, _⟩ => ⟨S8320, .i1⟩
  | .hbm, ⟨13, _⟩ => ⟨S10x4x8320x8320, .f32⟩
  | .hbm, ⟨14, _⟩ => ⟨S_, .f32⟩
  | .hbm, ⟨15, _⟩ => ⟨S_, .f32⟩
  | .hbm, ⟨16, _⟩ => ⟨S10x4x8320x8320, .i1⟩
  | .hbm, ⟨17, _⟩ => ⟨S10x4x8320x8320, .f32⟩
  | .hbm, ⟨18, _⟩ => ⟨S10x4x8320x8320, .f32⟩
  | .hbm, ⟨19, _⟩ => ⟨S_, .f32⟩
  | .hbm, ⟨20, _⟩ => ⟨S10x4x8320, .f32⟩
  | .hbm, ⟨21, _⟩ => ⟨S10x4x8320x1, .f32⟩
  | .hbm, ⟨22, _⟩ => ⟨S10x4x8320x8320, .f32⟩
  | .hbm, ⟨23, _⟩ => ⟨S10x4x8320x8320, .f32⟩
  | .hbm, ⟨24, _⟩ => ⟨S10x4x8320x8320, .f32⟩
  | .hbm, ⟨25, _⟩ => ⟨S_, .f32⟩
  | .hbm, ⟨26, _⟩ => ⟨S10x4x8320, .f32⟩
  | .hbm, ⟨27, _⟩ => ⟨S10x8320x4, .f32⟩
  | .hbm, ⟨28, _⟩ => ⟨S10x4x64x8320, .f32⟩
  | .hbm, ⟨29, _⟩ => ⟨S10x8320x4x64, .f32⟩
  | .hbm, ⟨30, _⟩ => ⟨S10x8320x4x1, .f32⟩
  | .hbm, ⟨31, _⟩ => ⟨S10x8320x4x64, .f32⟩
  | .hbm, ⟨32, _⟩ => ⟨S10x8320x4x64, .f32⟩
  | .hbm, ⟨33, _⟩ => ⟨S10x8320x256, .f32⟩
  | .hbm, ⟨34, _⟩ => ⟨S10x8320x256, .bf16⟩
  | _, _ => ⟨S10x8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Project.lean ====
abbrev S10x8320x1024 : Shape := ⟨3, ![10, 8320, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x384 : Shape := ⟨2, ![256, 384]⟩
abbrev S128x512 : Shape := ⟨2, ![128, 512]⟩
abbrev S8320 : Shape := ⟨1, ![8320]⟩
abbrev S16 : Shape := ⟨1, ![16]⟩
abbrev S_ : Shape := ⟨0, ![]⟩
abbrev S8320x1 : Shape := ⟨2, ![8320, 1]⟩
abbrev S1x16 : Shape := ⟨2, ![1, 16]⟩
abbrev S8320x16 : Shape := ⟨2, ![8320, 16]⟩
abbrev S8320x32 : Shape := ⟨2, ![8320, 32]⟩
abbrev S8320x64 : Shape := ⟨2, ![8320, 64]⟩
abbrev S8320x128 : Shape := ⟨2, ![8320, 128]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S1024x64 : Shape := ⟨2, ![1024, 64]⟩
abbrev S1024x16 : Shape := ⟨2, ![1024, 16]⟩
abbrev S1024x2816 : Shape := ⟨2, ![1024, 2816]⟩
abbrev S1024x3072 : Shape := ⟨2, ![1024, 3072]⟩
abbrev S256x4x96 : Shape := ⟨3, ![256, 4, 96]⟩
abbrev S256x4x64 : Shape := ⟨3, ![256, 4, 64]⟩
abbrev S256x4x32 : Shape := ⟨3, ![256, 4, 32]⟩
abbrev S256x4x128 : Shape := ⟨3, ![256, 4, 128]⟩
abbrev S256x512 : Shape := ⟨2, ![256, 512]⟩
abbrev S256x4x16 : Shape := ⟨3, ![256, 4, 16]⟩
abbrev S128x4x128 : Shape := ⟨3, ![128, 4, 128]⟩
abbrev S128x4x64 : Shape := ⟨3, ![128, 4, 64]⟩
abbrev S128x256 : Shape := ⟨2, ![128, 256]⟩
abbrev S256x1024 : Shape := ⟨2, ![256, 1024]⟩
abbrev S128x768 : Shape := ⟨2, ![128, 768]⟩
abbrev S1x1024 : Shape := ⟨2, ![1, 1024]⟩
abbrev S1x256 : Shape := ⟨2, ![1, 256]⟩
abbrev S1x128 : Shape := ⟨2, ![1, 128]⟩
abbrev S10x8320x512 : Shape := ⟨3, ![10, 8320, 512]⟩
abbrev S10x8320x128 : Shape := ⟨3, ![10, 8320, 128]⟩
abbrev S10x8320x256 : Shape := ⟨3, ![10, 8320, 256]⟩
abbrev S1x640x1024 : Shape := ⟨3, ![1, 640, 1024]⟩
abbrev S640x128 : Shape := ⟨2, ![640, 128]⟩
abbrev S1x640x512 : Shape := ⟨3, ![1, 640, 512]⟩
abbrev S1x640x128 : Shape := ⟨3, ![1, 640, 128]⟩
abbrev S1x640x256 : Shape := ⟨3, ![1, 640, 256]⟩
abbrev S640x1024 : Shape := ⟨2, ![640, 1024]⟩
abbrev S640 : Shape := ⟨1, ![640]⟩
abbrev S640x1 : Shape := ⟨2, ![640, 1]⟩
abbrev S1024x1024 : Shape := ⟨2, ![1024, 1024]⟩
abbrev S640x512 : Shape := ⟨2, ![640, 512]⟩
abbrev S640x256 : Shape := ⟨2, ![640, 256]⟩
abbrev S640x768 : Shape := ⟨2, ![640, 768]⟩

abbrev nBuf : Space → Nat
  | .hbm => 129
  | .vmem => 32
  | .smem => 0
  | _ => 0

abbrev hbmTy0_0 (i : Nat) : BufTy := match i % 128 with
  | 0 => ⟨S10x8320x1024, .f32⟩
  | 1 => ⟨S1024, .f32⟩
  | 2 => ⟨S1024x2464, .f32⟩
  | 3 => ⟨S256, .f32⟩
  | 4 => ⟨S128, .f32⟩
  | 5 => ⟨S256x384, .f32⟩
  | 6 => ⟨S128x512, .f32⟩
  | 7 => ⟨S8320, .i32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .i32⟩
  | 23 => ⟨S8320, .i32⟩
  | 24 => ⟨S8320, .i32⟩
  | 25 => ⟨S8320, .f32⟩
  | 26 => ⟨S8320x1, .f32⟩
  | 27 => ⟨S1x16, .f32⟩
  | 28 => ⟨S8320x16, .f32⟩
  | 29 => ⟨S8320x16, .f32⟩
  | 30 => ⟨S8320x16, .f32⟩
  | 31 => ⟨S8320x32, .f32⟩
  | 32 => ⟨S_, .f32⟩
  | 33 => ⟨S8320x64, .f32⟩
  | 34 => ⟨S_, .f32⟩
  | 35 => ⟨S8320x64, .f32⟩
  | 36 => ⟨S_, .f32⟩
  | 37 => ⟨S8320x32, .f32⟩
  | 38 => ⟨S8320x32, .f32⟩
  | 39 => ⟨S8320x128, .f32⟩
  | 40 => ⟨S8320x32, .f32⟩
  | 41 => ⟨S8320x128, .f32⟩
  | 42 => ⟨S1024x512, .f32⟩
  | 43 => ⟨S1024x512, .f32⟩
  | 44 => ⟨S1024x512, .f32⟩
  | 45 => ⟨S1024x256, .f32⟩
  | 46 => ⟨S1024x128, .f32⟩
  | 47 => ⟨S1024x128, .f32⟩
  | 48 => ⟨S1024x256, .f32⟩
  | 49 => ⟨S1024x128, .f32⟩
  | 50 => ⟨S1024x32, .f32⟩
  | 51 => ⟨S_, .f32⟩
  | 52 => ⟨S1024x64, .f32⟩
  | 53 => ⟨S1024x64, .f32⟩
  | 54 => ⟨S_, .f32⟩
  | 55 => ⟨S1024x64, .f32⟩
  | 56 => ⟨S1024x64, .f32⟩
  | 57 => ⟨S1024x64, .f32⟩
  | 58 => ⟨S_, .f32⟩
  | 59 => ⟨S1024x64, .f32⟩
  | 60 => ⟨S1024x64, .f32⟩
  | 61 => ⟨S1024x64, .f32⟩
  | 62 => ⟨S_, .f32⟩
  | 63 => ⟨S1024x64, .f32⟩
  | 64 => ⟨S1024x64, .f32⟩
  | 65 => ⟨S1024x64, .f32⟩
  | 66 => ⟨S_, .f32⟩
  | 67 => ⟨S1024x64, .f32⟩
  | 68 => ⟨S1024x64, .f32⟩
  | 69 => ⟨S1024x64, .f32⟩
  | 70 => ⟨S1024x64, .f32⟩
  | 71 => ⟨S1024x128, .f32⟩
  | 72 => ⟨S_, .f32⟩
  | 73 => ⟨S1024x64, .f32⟩
  | 74 => ⟨S_, .f32⟩
  | 75 => ⟨S1024x32, .f32⟩
  | 76 => ⟨S_, .f32⟩
  | 77 => ⟨S1024x512, .f32⟩
  | 78 => ⟨S1024x512, .f32⟩
  | 79 => ⟨S1024x16, .f32⟩
  | 80 => ⟨S1024x16, .f32⟩
  | 81 => ⟨S1024x16, .f32⟩
  | 82 => ⟨S1024x32, .f32⟩
  | 83 => ⟨S1024x2816, .f32⟩
  | 84 => ⟨S1024x256, .f32⟩
  | 85 => ⟨S1024x3072, .f32⟩
  | 86 => ⟨S1024x3072, .bf16⟩
  | 87 => ⟨S256x4x96, .f32⟩
  | 88 => ⟨S256x4x64, .f32⟩
  | 89 => ⟨S256x4x32, .f32⟩
  | 90 => ⟨S_, .f32⟩
  | 91 => ⟨S256x4x32, .f32⟩
  | 92 => ⟨S256x4x128, .f32⟩
  | 93 => ⟨S256x512, .f32⟩
  | 94 => ⟨S256x512, .bf16⟩
  | 95 => ⟨S_, .f32⟩
  | 96 => ⟨S256x4x64, .f32⟩
  | 97 => ⟨S256x4x16, .f32⟩
  | 98 => ⟨S256x4x16, .f32⟩
  | 99 => ⟨S256x4x16, .f32⟩
  | 100 => ⟨S256x4x32, .f32⟩
  | 101 => ⟨S256x4x128, .f32⟩
  | 102 => ⟨S256x512, .f32⟩
  | 103 => ⟨S256x512, .bf16⟩
  | 104 => ⟨S128x4x128, .f32⟩
  | 105 => ⟨S128x4x64, .f32⟩
  | 106 => ⟨S_, .f32⟩
  | 107 => ⟨S128x4x64, .f32⟩
  | 108 => ⟨S128x4x128, .f32⟩
  | 109 => ⟨S128x512, .f32⟩
  | 110 => ⟨S128x512, .bf16⟩
  | 111 => ⟨S128x4x64, .f32⟩
  | 112 => ⟨S128x256, .f32⟩
  | 113 => ⟨S128x256, .bf16⟩
  | 114 => ⟨S256x1024, .bf16⟩
  | 115 => ⟨S128x768, .bf16⟩
  | 116 => ⟨S1x1024, .f32⟩
  | 117 => ⟨S1x256, .f32⟩
  | 118 => ⟨S1x128, .f32⟩
  | 119 => ⟨S10x8320x512, .bf16⟩
  | 120 => ⟨S10x8320x512, .bf16⟩
  | 121 => ⟨S10x8320x512, .bf16⟩
  | 122 => ⟨S10x8320x512, .bf16⟩
  | 123 => ⟨S10x8320x128, .bf16⟩
  | 124 => ⟨S10x8320x128, .bf16⟩
  | 125 => ⟨S10x8320x128, .bf16⟩
  | 126 => ⟨S10x8320x512, .bf16⟩
  | 127 => ⟨S10x8320x512, .bf16⟩
  | _ => ⟨S10x8320x1024, .f32⟩

abbrev hbmTy0_1 (i : Nat) : BufTy := match i % 128 with
  | 0 => ⟨S10x8320x256, .bf16⟩
  | _ => ⟨S10x8320x1024, .f32⟩

abbrev hbmTy (i : Nat) : BufTy := match i / 128 with
  | 0 => hbmTy0_0 i
  | 1 => hbmTy0_1 i
  | _ => ⟨S10x8320x1024, .f32⟩

abbrev bufTy : (tb : Table) → Fin (tcTables nBuf tb) → BufTy
  | .hbm, ⟨i, _⟩ => hbmTy i
  | .local _ .vmem, ⟨0, _⟩ => ⟨S1x640x1024, .f32⟩
  | .local _ .vmem, ⟨1, _⟩ => ⟨S1x640x1024, .f32⟩
  | .local _ .vmem, ⟨2, _⟩ => ⟨S1x1024, .f32⟩
  | .local _ .vmem, ⟨3, _⟩ => ⟨S1024x3072, .bf16⟩
  | .local _ .vmem, ⟨4, _⟩ => ⟨S1x256, .f32⟩
  | .local _ .vmem, ⟨5, _⟩ => ⟨S1x128, .f32⟩
  | .local _ .vmem, ⟨6, _⟩ => ⟨S256x1024, .bf16⟩
  | .local _ .vmem, ⟨7, _⟩ => ⟨S128x768, .bf16⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S1x640x512, .bf16⟩
  | .local _ .vmem, ⟨13, _⟩ => ⟨S1x640x512, .bf16⟩
  | .local _ .vmem, ⟨14, _⟩ => ⟨S1x640x512, .bf16⟩
  | .local _ .vmem, ⟨15, _⟩ => ⟨S1x640x512, .bf16⟩
  | .local _ .vmem, ⟨16, _⟩ => ⟨S1x640x512, .bf16⟩
  | .local _ .vmem, ⟨17, _⟩ => ⟨S1x640x512, .bf16⟩
  | .local _ .vmem, ⟨18, _⟩ => ⟨S1x640x512, .bf16⟩
  | .local _ .vmem, ⟨19, _⟩ => ⟨S1x640x512, .bf16⟩
  | .local _ .vmem, ⟨20, _⟩ => ⟨S1x640x128, .bf16⟩
  | .local _ .vmem, ⟨21, _⟩ => ⟨S1x640x128, .bf16⟩
  | .local _ .vmem, ⟨22, _⟩ => ⟨S1x640x128, .bf16⟩
  | .local _ .vmem, ⟨23, _⟩ => ⟨S1x640x128, .bf16⟩
  | .local _ .vmem, ⟨24, _⟩ => ⟨S1x640x128, .bf16⟩
  | .local _ .vmem, ⟨25, _⟩ => ⟨S1x640x128, .bf16⟩
  | .local _ .vmem, ⟨26, _⟩ => ⟨S1x640x512, .bf16⟩
  | .local _ .vmem, ⟨27, _⟩ => ⟨S1x640x512, .bf16⟩
  | .local _ .vmem, ⟨28, _⟩ => ⟨S1x640x512, .bf16⟩
  | .local _ .vmem, ⟨29, _⟩ => ⟨S1x640x512, .bf16⟩
  | .local _ .vmem, ⟨30, _⟩ => ⟨S1x640x256, .bf16⟩
  | .local _ .vmem, ⟨31, _⟩ => ⟨S1x640x256, .bf16⟩
  | _, _ => ⟨S10x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93_0 : Ref sig .tc := ⟨.hbm, 119, rfl⟩
abbrev main_v93_1 : Ref sig .tc := ⟨.hbm, 120, rfl⟩
abbrev main_v93_2 : Ref sig .tc := ⟨.hbm, 121, rfl⟩
abbrev main_v93_3 : Ref sig .tc := ⟨.hbm, 122, rfl⟩
abbrev main_v93_4 : Ref sig .tc := ⟨.hbm, 123, rfl⟩
abbrev main_v93_5 : Ref sig .tc := ⟨.hbm, 124, rfl⟩
abbrev main_v93_6 : Ref sig .tc := ⟨.hbm, 125, rfl⟩
abbrev main_v93_7 : Ref sig .tc := ⟨.hbm, 126, rfl⟩
abbrev main_v93_8 : Ref sig .tc := ⟨.hbm, 127, rfl⟩
abbrev main_v93_9 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![10, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x640x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x640x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x640x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjectRefIdeal.lean ====
abbrev S10x8320x1024 : Shape := ⟨3, ![10, 8320, 1024]⟩
abbrev S1024 : Shape := ⟨1, ![1024]⟩
abbrev S1024x2464 : Shape := ⟨2, ![1024, 2464]⟩
abbrev S256 : Shape := ⟨1, ![256]⟩
abbrev S128 : Shape := ⟨1, ![128]⟩
abbrev S256x384 : Shape := ⟨2, ![256, 384]⟩
abbrev S128x512 : Shape := ⟨2, ![128, 512]⟩
abbrev S8320 : Shape := ⟨1, ![8320]⟩
abbrev S_ : Shape := ⟨0, ![]⟩
abbrev S16 : Shape := ⟨1, ![16]⟩
abbrev S8320x1 : Shape := ⟨2, ![8320, 1]⟩
abbrev S1x16 : Shape := ⟨2, ![1, 16]⟩
abbrev S8320x16 : Shape := ⟨2, ![8320, 16]⟩
abbrev S8320x32 : Shape := ⟨2, ![8320, 32]⟩
abbrev S10x8320 : Shape := ⟨2, ![10, 8320]⟩
abbrev S10x8320x1 : Shape := ⟨3, ![10, 8320, 1]⟩
abbrev S1x1x1024 : Shape := ⟨3, ![1, 1, 1024]⟩
abbrev S10x8320x2464 : Shape := ⟨3, ![10, 8320, 2464]⟩
abbrev S10x8320x512 : Shape := ⟨3, ![10, 8320, 512]⟩
abbrev S10x8320x256 : Shape := ⟨3, ![10, 8320, 256]⟩
abbrev S10x8320x128 : Shape := ⟨3, ![10, 8320, 128]⟩
abbrev S10x8320x32 : Shape := ⟨3, ![10, 8320, 32]⟩
abbrev S10x8320x64 : Shape := ⟨3, ![10, 8320, 64]⟩
abbrev S10x8320x4x32 : Shape := ⟨4, ![10, 8320, 4, 32]⟩
abbrev S1x1x256 : Shape := ⟨3, ![1, 1, 256]⟩
abbrev S10x8320x384 : Shape := ⟨3, ![10, 8320, 384]⟩
abbrev S10x8320x4x96 : Shape := ⟨4, ![10, 8320, 4, 96]⟩
abbrev S10x8320x4x64 : Shape := ⟨4, ![10, 8320, 4, 64]⟩
abbrev S8320x1x32 : Shape := ⟨3, ![8320, 1, 32]⟩
abbrev S10x8320x4x16 : Shape := ⟨4, ![10, 8320, 4, 16]⟩
abbrev S1x8320x1x32 : Shape := ⟨4, ![1, 8320, 1, 32]⟩
abbrev S10x8320x4x128 : Shape := ⟨4, ![10, 8320, 4, 128]⟩
abbrev S1x1x128 : Shape := ⟨3, ![1, 1, 128]⟩
abbrev S10x8320x16 : Shape := ⟨3, ![10, 8320, 16]⟩
abbrev S1x8320x32 : Shape := ⟨3, ![1, 8320, 32]⟩
abbrev S10x8320x1x32 : Shape := ⟨4, ![10, 8320, 1, 32]⟩

abbrev nBuf : Space → Nat
  | .hbm => 162
  | .vmem => 0
  | .smem => 0
  | _ => 0

abbrev hbmTy0_0 (i : Nat) : BufTy := match i % 128 with
  | 0 => ⟨S10x8320x1024, .f32⟩
  | 1 => ⟨S1024, .f32⟩
  | 2 => ⟨S1024x2464, .f32⟩
  | 3 => ⟨S256, .f32⟩
  | 4 => ⟨S128, .f32⟩
  | 5 => ⟨S256x384, .f32⟩
  | 6 => ⟨S128x512, .f32⟩
  | 7 => ⟨S8320, .i32⟩
  | 8 => ⟨S_, .i32⟩
  | 9 => ⟨S8320, .i32⟩
  | 10 => ⟨S8320, .i32⟩
  | 11 => ⟨S8320, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8320x1, .f32⟩
  | 27 => ⟨S1x16, .f32⟩
  | 28 => ⟨S8320x16, .f32⟩
  | 29 => ⟨S8320x16, .f32⟩
  | 30 => ⟨S8320x16, .f32⟩
  | 31 => ⟨S8320x32, .f32⟩
  | 32 => ⟨S8320x32, .f32⟩
  | 33 => ⟨S8320x32, .f32⟩
  | 34 => ⟨S10x8320x1024, .f32⟩
  | 35 => ⟨S_, .f32⟩
  | 36 => ⟨S10x8320, .f32⟩
  | 37 => ⟨S10x8320x1, .f32⟩
  | 38 => ⟨S_, .f32⟩
  | 39 => ⟨S10x8320x1, .f32⟩
  | 40 => ⟨S10x8320x1, .f32⟩
  | 41 => ⟨S_, .f32⟩
  | 42 => ⟨S10x8320x1, .f32⟩
  | 43 => ⟨S10x8320x1, .f32⟩
  | 44 => ⟨S10x8320x1, .f32⟩
  | 45 => ⟨S10x8320x1024, .f32⟩
  | 46 => ⟨S10x8320x1024, .f32⟩
  | 47 => ⟨S1x1x1024, .f32⟩
  | 48 => ⟨S10x8320x1024, .f32⟩
  | 49 => ⟨S10x8320x1024, .f32⟩
  | 50 => ⟨S10x8320x2464, .f32⟩
  | 51 => ⟨S10x8320x512, .f32⟩
  | 52 => ⟨S10x8320x512, .f32⟩
  | 53 => ⟨S10x8320x512, .f32⟩
  | 54 => ⟨S10x8320x256, .f32⟩
  | 55 => ⟨S10x8320x128, .f32⟩
  | 56 => ⟨S10x8320x128, .f32⟩
  | 57 => ⟨S10x8320x256, .f32⟩
  | 58 => ⟨S10x8320x128, .f32⟩
  | 59 => ⟨S10x8320x32, .f32⟩
  | 60 => ⟨S_, .f32⟩
  | 61 => ⟨S10x8320x64, .f32⟩
  | 62 => ⟨S_, .f32⟩
  | 63 => ⟨S10x8320x256, .f32⟩
  | 64 => ⟨S10x8320x256, .f32⟩
  | 65 => ⟨S10x8320x64, .f32⟩
  | 66 => ⟨S10x8320x64, .f32⟩
  | 67 => ⟨S10x8320x64, .f32⟩
  | 68 => ⟨S10x8320x64, .f32⟩
  | 69 => ⟨S10x8320x512, .f32⟩
  | 70 => ⟨S10x8320x64, .f32⟩
  | 71 => ⟨S10x8320x64, .f32⟩
  | 72 => ⟨S10x8320x128, .f32⟩
  | 73 => ⟨S_, .f32⟩
  | 74 => ⟨S10x8320x4x32, .f32⟩
  | 75 => ⟨S10x8320x256, .f32⟩
  | 76 => ⟨S_, .f32⟩
  | 77 => ⟨S10x8320, .f32⟩
  | 78 => ⟨S10x8320x1, .f32⟩
  | 79 => ⟨S_, .f32⟩
  | 80 => ⟨S10x8320x1, .f32⟩
  | 81 => ⟨S10x8320x1, .f32⟩
  | 82 => ⟨S_, .f32⟩
  | 83 => ⟨S10x8320x1, .f32⟩
  | 84 => ⟨S10x8320x1, .f32⟩
  | 85 => ⟨S10x8320x1, .f32⟩
  | 86 => ⟨S10x8320x256, .f32⟩
  | 87 => ⟨S10x8320x256, .f32⟩
  | 88 => ⟨S1x1x256, .f32⟩
  | 89 => ⟨S10x8320x256, .f32⟩
  | 90 => ⟨S10x8320x256, .f32⟩
  | 91 => ⟨S10x8320x384, .f32⟩
  | 92 => ⟨S10x8320x4x96, .f32⟩
  | 93 => ⟨S10x8320x4x64, .f32⟩
  | 94 => ⟨S10x8320x4x32, .f32⟩
  | 95 => ⟨S8320x1x32, .f32⟩
  | 96 => ⟨S8320x1x32, .f32⟩
  | 97 => ⟨S10x8320x4x16, .f32⟩
  | 98 => ⟨S10x8320x4x16, .f32⟩
  | 99 => ⟨S10x8320x4x16, .f32⟩
  | 100 => ⟨S10x8320x4x32, .f32⟩
  | 101 => ⟨S1x8320x1x32, .f32⟩
  | 102 => ⟨S10x8320x4x32, .f32⟩
  | 103 => ⟨S10x8320x4x32, .f32⟩
  | 104 => ⟨S1x8320x1x32, .f32⟩
  | 105 => ⟨S10x8320x4x32, .f32⟩
  | 106 => ⟨S10x8320x4x32, .f32⟩
  | 107 => ⟨S10x8320x4x32, .f32⟩
  | 108 => ⟨S10x8320x4x128, .f32⟩
  | 109 => ⟨S_, .f32⟩
  | 110 => ⟨S10x8320x4x128, .f32⟩
  | 111 => ⟨S10x8320x4x128, .f32⟩
  | 112 => ⟨S10x8320x128, .f32⟩
  | 113 => ⟨S_, .f32⟩
  | 114 => ⟨S10x8320, .f32⟩
  | 115 => ⟨S10x8320x1, .f32⟩
  | 116 => ⟨S_, .f32⟩
  | 117 => ⟨S10x8320x1, .f32⟩
  | 118 => ⟨S10x8320x1, .f32⟩
  | 119 => ⟨S_, .f32⟩
  | 120 => ⟨S10x8320x1, .f32⟩
  | 121 => ⟨S10x8320x1, .f32⟩
  | 122 => ⟨S10x8320x1, .f32⟩
  | 123 => ⟨S10x8320x128, .f32⟩
  | 124 => ⟨S10x8320x128, .f32⟩
  | 125 => ⟨S1x1x128, .f32⟩
  | 126 => ⟨S10x8320x128, .f32⟩
  | 127 => ⟨S10x8320x128, .f32⟩
  | _ => ⟨S10x8320x1024, .f32⟩

abbrev hbmTy0_1 (i : Nat) : BufTy := match i % 128 with
  | 0 => ⟨S10x8320x512, .f32⟩
  | 1 => ⟨S10x8320x4x128, .f32⟩
  | 2 => ⟨S10x8320x4x64, .f32⟩
  | 3 => ⟨S10x8320x4x64, .f32⟩
  | 4 => ⟨S10x8320x16, .f32⟩
  | 5 => ⟨S10x8320x16, .f32⟩
  | 6 => ⟨S10x8320x16, .f32⟩
  | 7 => ⟨S10x8320x32, .f32⟩
  | 8 => ⟨S1x8320x32, .f32⟩
  | 9 => ⟨S10x8320x32, .f32⟩
  | 10 => ⟨S10x8320x32, .f32⟩
  | 11 => ⟨S1x8320x32, .f32⟩
  | 12 => ⟨S10x8320x32, .f32⟩
  | 13 => ⟨S10x8320x32, .f32⟩
  | 14 => ⟨S10x8320x32, .f32⟩
  | 15 => ⟨S10x8320x1x32, .f32⟩
  | 16 => ⟨S10x8320x4x32, .f32⟩
  | 17 => ⟨S10x8320x4x128, .f32⟩
  | 18 => ⟨S_, .f32⟩
  | 19 => ⟨S10x8320x512, .f32⟩
  | 20 => ⟨S10x8320x512, .f32⟩
  | 21 => ⟨S10x8320x512, .f32⟩
  | 22 => ⟨S10x8320x512, .f32⟩
  | 23 => ⟨S10x8320x256, .f32⟩
  | 24 => ⟨S10x8320x512, .bf16⟩
  | 25 => ⟨S10x8320x512, .bf16⟩
  | 26 => ⟨S10x8320x512, .bf16⟩
  | 27 => ⟨S10x8320x512, .bf16⟩
  | 28 => ⟨S10x8320x128, .bf16⟩
  | 29 => ⟨S10x8320x128, .bf16⟩
  | 30 => ⟨S10x8320x128, .bf16⟩
  | 31 => ⟨S10x8320x512, .bf16⟩
  | 32 => ⟨S10x8320x512, .bf16⟩
  | 33 => ⟨S10x8320x256, .bf16⟩
  | _ => ⟨S10x8320x1024, .f32⟩

abbrev hbmTy (i : Nat) : BufTy := match i / 128 with
  | 0 => hbmTy0_0 i
  | 1 => hbmTy0_1 i
  | _ => ⟨S10x8320x1024, .f32⟩

abbrev bufTy : (tb : Table) → Fin (tcTables nBuf tb) → BufTy
  | .hbm, ⟨i, _⟩ => hbmTy i
  | _, _ => ⟨S10x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_v94 : Ref sig .tc := ⟨.hbm, 118, rfl⟩
abbrev main_cst_15 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_16 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩

abbrev nD : Nat := 1
abbrev τ : Topo := Topo.v7x

variable {F : FTy → Type} [FloatOps F]
-- ==== Proof.FeedForward.lean ====
module

public import Idealize.ShloMosaic.Lib.Pointwise

@[expose] public section

/-! The arithmetic of one token of the feed-forward part: what every kernel and every reference of this
    certificate compute for one row of 1024 features, written once over the extended reals. -/

noncomputable section

namespace Cert.FeedForward

open Idealize.ShloMosaic

/-- The number of features, 1024, that a mean over a row divides by. -/
def width : EReal := Ideal.ofBits FTy.f32 1149239296#32

/-- The small number (about 1e-6) that is added to a mean of squares before its root is taken. -/
def tiny : EReal := Ideal.ofBits FTy.f32 897988541#32

/-- One half: the weight of a feed-forward part beside the row it is added to. -/
def half : EReal := Ideal.ofBits FTy.f32 1056964608#32

/-- The factor of root-mean-square normalisation: one over the root of a row's mean square. -/
def invRms (x : Fin 1024 → EReal) : EReal := Ideal.rsqrt (Ideal.div (∑ k, x k * x k) width + tiny)

/-- A row normalised by its root mean square, each feature then scaled by its gain. -/
def normed (x g : Fin 1024 → EReal) (k : Fin 1024) : EReal := x k * invRms x * g k

/-- The gated product: `a` times the logistic function of `a`, times `b`. -/
def gated (a b : EReal) : EReal := a * Ideal.logistic a * b

/-- Hidden unit `j` of the feed-forward part: the gate is column `j` of the widened weights, the value column
    `2816 + j`. -/
def unit (n : Fin 1024 → EReal) (w : Fin 1024 → Fin 5632 → EReal) (j : Fin 2816) : EReal :=
  gated (∑ k, n k * w k ⟨j, by omega⟩) (∑ k, n k * w k ⟨2816 + j, by omega⟩)

/-- A row plus one half of its feed-forward part: normalise, widen, gate, narrow. -/
def ffn (x g : Fin 1024 → EReal) (w : Fin 1024 → Fin 5632 → EReal) (v : Fin 2816 → Fin 1024 → EReal)
    (d : Fin 1024) : EReal :=
  x d + half * ∑ j, unit (normed x g) w j * v j d

/-- A sum over `n = a + b` terms is the sum of the first `a` plus that of the last `b`. -/
theorem sum_parts {n : ℕ} (a b : ℕ) (h : n = a + b) (f : Fin n → EReal) :
    ∑ i, f i = ∑ i : Fin a, f ⟨i, by omega⟩ + ∑ i : Fin b, f ⟨a + i, by omega⟩ := by
  subst h
  exact Fin.sum_univ_add f

/-- The hidden units taken as a first chunk of 1536 and a second one of 1280 give the same sum. -/
theorem ffn_chunks (x g : Fin 1024 → EReal) (w : Fin 1024 → Fin 5632 → EReal) (v : Fin 2816 → Fin 1024 → EReal)
    (d : Fin 1024) :
    x d + half * (∑ j : Fin 1536, unit (normed x g) w ⟨j, by omega⟩ * v ⟨j, by omega⟩ d
      + ∑ j : Fin 1280, gated (∑ k, normed x g k * w k ⟨1536 + j, by omega⟩) (∑ k, normed x g k * w k ⟨4352 + j, by omega⟩)
        * v ⟨1536 + j, by omega⟩ d) = ffn x g w v d := by
  unfold ffn
  rw [sum_parts 1536 1280 rfl fun j => unit (normed x g) w j * v j d]
  have e (j : Fin 1280) : (⟨2816 + (1536 + j), by omega⟩ : Fin 5632) = ⟨4352 + j, by omega⟩ := Fin.ext (by simp only []; omega)
  simp only [unit, e]

/-- A row plus the output projection of the three attentions' outputs, laid side by side: 512 features of the
    first, 256 of the second, 256 of the third. -/
def mixed (x : Fin 1024 → EReal) (a : Fin 512 → EReal) (b c : Fin 256 → EReal) (w : Fin 1024 → Fin 1024 → EReal)
    (d : Fin 1024) : EReal :=
  x d + ∑ k : Fin 512, a k * w ⟨k, by omega⟩ d + ∑ k : Fin 256, b k * w ⟨512 + k, by omega⟩ d
    + ∑ k : Fin 256, c k * w ⟨768 + k, by omega⟩ d

/-- The same projection as one sum over all 1024 features, for any row `o` made of the three outputs. -/
theorem mixed_eq (x : Fin 1024 → EReal) (a : Fin 512 → EReal) (b c : Fin 256 → EReal)
    (w : Fin 1024 → Fin 1024 → EReal) (d : Fin 1024) (o : Fin 1024 → EReal)
    (ha : ∀ k : Fin 512, o ⟨k, by omega⟩ = a k) (hb : ∀ k : Fin 256, o ⟨512 + k, by omega⟩ = b k)
    (hc : ∀ k : Fin 256, o ⟨768 + k, by omega⟩ = c k) :
    x d + ∑ k, o k * w k d = mixed x a b c w d := by
  rw [sum_parts 768 256 rfl fun k => o k * w k d, sum_parts 512 256 rfl fun k : Fin 768 => _]
  unfold mixed
  simp only [← add_assoc, ha, hb, hc]

end Cert.FeedForward
-- ==== Proof.Prompts.lean ====
module

public import proofs.«01_k».proof.Proof.FeedForward
public import proofs.«01_k».proof.Proof.Gen.ReferenceIdeal.Run
public import proofs.«01_k».proof.Proof.Gen.KernelIdeal.Value
public import proofs.«01_k».proof.Defs
public import Idealize.ShloMosaic.Lib.Pipeline.ValueKit
public import Idealize.ShloMosaic.Lib.Pointwise

@[expose] public section

/-! The last feed-forward call for the prompts: output projection, feed-forward part and final norm, on the tokens
    behind the leading block of 128. The kernel's result array and the reference's are the same function of the
    arguments. -/

set_option maxRecDepth 16384

noncomputable section

namespace Cert.KernelIdeal.Rows

open Cert.KernelIdeal Cert.KernelIdeal.Gen Idealize.ShloMosaic Idealize.ShloMosaic.TcCoe Idealize.SL.Sem
open Cert.FeedForward

/-! ## What the body computes of its blocks -/

section Payloads

variable (h : Vec Ideal S512x1024 .f32) (a : Vec Ideal S512x512 .bf16) (wa : Vec Ideal S512x1024 .bf16)
  (b : Vec Ideal S512x256 .bf16) (wb : Vec Ideal S256x1024 .bf16) (e : Vec Ideal S512x256 .bf16)
  (we : Vec Ideal S256x1024 .bf16) (g : Vec Ideal S1x1024 .f32)

/-- Row `r` of the block after the output projection. -/
theorem projected_apply (w : Fin 1024 → Fin 1024 → EReal) (r : Fin 512) (d : Fin 1024)
    (ha : ∀ (k : Fin 512) d, wa (ix2 k d) = w ⟨k, by omega⟩ d) (hb : ∀ (k : Fin 256) d, wb (ix2 k d) = w ⟨512 + k, by omega⟩ d)
    (he : ∀ (k : Fin 256) d, we (ix2 k d) = w ⟨768 + k, by omega⟩ d) :
    k0_pay2 h a wa b wb e we (ix2 r d) = mixed (fun k => h (ix2 r k)) (fun k => a (ix2 r k)) (fun k => b (ix2 r k))
      (fun k => e (ix2 r k)) w d := by
  pointwise [k0_pay2]
  simp only [ha, hb, he, mixed]

/-- Row `r` normalised for the feed-forward part. -/
theorem normed_apply (x : Fin 1024 → EReal) (r : Fin 512) (k : Fin 1024)
    (hx : ∀ d, k0_pay2 h a wa b wb e we (ix2 r d) = x d) :
    k0_pay3 h a wa b wb e we g (ix2 r k) = normed x (fun k => g (ix2 0 k)) k := by
  pointwise [k0_pay3]
  simp only [hx, normed, invRms, width, tiny]

/-- Row `r` after the feed-forward part. -/
theorem fed_apply (y : FVec Ideal S512x1024 .f32) (n : FVec Ideal S512x1024 .bf16) (x gain : Fin 1024 → EReal)
    (w : Fin 1024 → Fin 5632 → EReal) (v : Fin 2816 → Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (r : Fin 512) (d : Fin 1024)
    (hy : ∀ d, y (ix2 r d) = x d) (hn : ∀ k, n (ix2 r k) = normed x gain k)
    (hg₁ : ∀ k (j : Fin 1536), wg₁ (ix2 k j) = w k ⟨j, by omega⟩) (hu₁ : ∀ k (j : Fin 1536), wu₁ (ix2 k j) = w k ⟨2816 + j, by omega⟩)
    (hv₁ : ∀ (j : Fin 1536) d, v₁ (ix2 j d) = v ⟨j, by omega⟩ d)
    (hg₂ : ∀ k (j : Fin 1280), wg₂ (ix2 k j) = w k ⟨1536 + j, by omega⟩) (hu₂ : ∀ k (j : Fin 1280), wu₂ (ix2 k j) = w k ⟨4352 + j, by omega⟩)
    (hv₂ : ∀ (j : Fin 1280) d, v₂ (ix2 j d) = v ⟨1536 + j, by omega⟩ d) :
    k0_pay4 y n wg₁ wu₁ v₁ wg₂ wu₂ v₂ (ix2 r d) = ffn x gain w v d := by
  refine Eq.trans ?_ (ffn_chunks x gain w v d)
  pointwise [k0_pay4]
  simp only [hy, hn, hg₁, hu₁, hv₁, hg₂, hu₂, hv₂, unit, gated, half]

/-- The final norm of row `r`. -/
theorem final_apply (y : FVec Ideal S512x1024 .f32) (n : FVec Ideal S512x1024 .bf16) (x gain : Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (u : Fin 1) (r : Fin 512) (d : Fin 1024)
    (hx : ∀ d, k0_pay4 y n wg₁ wu₁ v₁ wg₂ wu₂ v₂ (ix2 r d) = x d) (hg : ∀ d, g (ix2 0 d) = gain d) :
    k0_pay1 (k0_pay4 y n wg₁ wu₁ v₁ wg₂ wu₂ v₂) (k0_pay5 g) (k0_pay6 y n wg₁ wu₁ v₁ wg₂ wu₂ v₂)
      (FloatOps.ofBits FTy.f32 897988541#32) (ix3 u r d) = normed x gain d := by
  pointwise [k0_pay1, k0_pay5, k0_pay6]
  simp only [hx, hg, normed, invRms, width, tiny]

end Payloads

/-! ## The blocks -/

variable (m : (ℓ : Loc nD τ sig) → Buf (Elt Ideal) ℓ) (c : Dev nD)

/-- Where each window stands at each grid point: the four windows of tokens at the element row of the point's batch
    and tile, 128 rows into the batch; the weights whole; the result at block `(t / 16, t % 16)`. -/
theorem idx : ∀ t, win0_0.index t = ![(t.val / 16 + 0) * 8320 + 128 + t.val % 16 * 512, 0]
    ∧ win0_1.index t = ![(t.val / 16 + 0) * 8320 + 128 + t.val % 16 * 512, 0]
    ∧ win0_2.index t = ![(t.val / 16 + 0) * 8320 + 128 + t.val % 16 * 512, 0]
    ∧ win0_3.index t = ![(t.val / 16 + 0) * 8320 + 128 + t.val % 16 * 512, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 16, t.val % 16, 0] := by decide +kernel

/-- The batch, among the group's, that grid point `t` works on. -/
def batch (t : Fin cfg0.N) : Fin 2 := ⟨t.val / 16, by have : t.val < 32 := t.isLt; omega⟩

/-- The result row that row `r` of grid point `t`'s block is. -/
def token (t : Fin cfg0.N) (r : Fin 512) : Fin 8192 := ⟨t.val % 16 * 512 + r, by omega⟩

/-- The group's batch among all ten. -/
def wide (b : Fin 2) : Fin 10 := ⟨b, by omega⟩

/-- The token behind the leading block. -/
def behind (t : Fin 8192) : Fin 8320 := ⟨128 + t, by omega⟩

/-- An element of a window of tokens sits at the window's element row plus its own. -/
theorem place0 (t : Fin cfg0.N) (y : S512x1024.Idx) (x : Fin 2) :
    (((View.whole main_v6).slice (win0_0.rect t)).emb y x : ℕ) = win0_0.index t x + y x := win0_0.rect_emb_val_off t y x
theorem place1 (t : Fin cfg0.N) (y : S512x512.Idx) (x : Fin 2) :
    (((View.whole main_v7).slice (win0_1.rect t)).emb y x : ℕ) = win0_1.index t x + y x := win0_1.rect_emb_val_off t y x
theorem place2 (t : Fin cfg0.N) (y : S512x256.Idx) (x : Fin 2) :
    (((View.whole main_v8).slice (win0_2.rect t)).emb y x : ℕ) = win0_2.index t x + y x := win0_2.rect_emb_val_off t y x
theorem place3 (t : Fin cfg0.N) (y : S512x256.Idx) (x : Fin 2) :
    (((View.whole main_v9).slice (win0_3.rect t)).emb y x : ℕ) = win0_3.index t x + y x := win0_3.rect_emb_val_off t y x

/-- The windows of tokens hold, of the batch, the rows behind the leading block. -/
theorem rows_block (t : Fin cfg0.N) (r : Fin 512) (k : Fin 1024) :
    iblk m c 0 t (ix2 r k) = m (c.tc.loc main_arg0) (ix3 (wide (batch t)) (behind (token t r)) k) := by
  blk_ext! [iblk, V, idx t, batch, token, wide, behind]
  all_goals erw [place0, (idx t).1]
  all_goals simp
  all_goals omega
theorem a_block (t : Fin cfg0.N) (r : Fin 512) (k : Fin 512) :
    iblk m c 1 t (ix2 r k) = m (c.tc.loc main_arg1) (ix3 (wide (batch t)) (behind (token t r)) k) := by
  blk_ext! [iblk, V, idx t, batch, token, wide, behind]
  all_goals erw [place1, (idx t).2.1]
  all_goals simp
  all_goals omega
theorem b_block (t : Fin cfg0.N) (r : Fin 512) (k : Fin 256) :
    iblk m c 2 t (ix2 r k) = m (c.tc.loc main_arg2) (ix3 (wide (batch t)) (behind (token t r)) k) := by
  blk_ext! [iblk, V, idx t, batch, token, wide, behind]
  all_goals erw [place2, (idx t).2.2.1]
  all_goals simp
  all_goals omega
theorem c_block (t : Fin cfg0.N) (r : Fin 512) (k : Fin 256) :
    iblk m c 3 t (ix2 r k) = m (c.tc.loc main_arg3) (ix3 (wide (batch t)) (behind (token t r)) k) := by
  blk_ext! [iblk, V, idx t, batch, token, wide, behind]
  all_goals erw [place3, (idx t).2.2.2.1]
  all_goals simp
  all_goals omega

/-- The three blocks of projection weights hold rows 0 to 511, 512 to 767 and 768 to 1023 of them. -/
theorem wa_block (t : Fin cfg0.N) (k : Fin 512) (d : Fin 1024) :
    iblk m c 4 t (ix2 k d) = m (c.tc.loc main_arg4) (ix2 ⟨k, by omega⟩ d) := by
  blk_ext! [iblk, V, idx t]
theorem wb_block (t : Fin cfg0.N) (k : Fin 256) (d : Fin 1024) :
    iblk m c 5 t (ix2 k d) = m (c.tc.loc main_arg4) (ix2 ⟨512 + k, by omega⟩ d) := by
  blk_ext! [iblk, V, idx t]
theorem wc_block (t : Fin cfg0.N) (k : Fin 256) (d : Fin 1024) :
    iblk m c 6 t (ix2 k d) = m (c.tc.loc main_arg4) (ix2 ⟨768 + k, by omega⟩ d) := by
  blk_ext! [iblk, V, idx t]

/-- The gains of the feed-forward part's norm. -/
theorem gain_block (t : Fin cfg0.N) (k : Fin 1024) : iblk m c 7 t (ix2 0 k) = m (c.tc.loc main_arg5) (ix1 k) := by
  blk_ext! [iblk, V, idx t]

/-- The widening weights' block holds them all. -/
theorem widen_block (t : Fin cfg0.N) (k : Fin 1024) (j : Fin 5632) :
    iblk m c 8 t (ix2 k j) = m (c.tc.loc main_arg6) (ix2 k j) := by
  blk_ext! [iblk, V, idx t]

/-- The narrowing weights' block holds them all. -/
theorem narrow_block (t : Fin cfg0.N) (j : Fin 2816) (d : Fin 1024) :
    iblk m c 9 t (ix2 j d) = m (c.tc.loc main_arg7) (ix2 j d) := by
  blk_ext! [iblk, V, idx t]

/-- The loads from the weights' blocks: columns 0 to 1535 and 1536 to 2815 of the gates, the same of the values
    (2816 columns further on), rows 0 to 1535 and 1536 to 2815 of the narrowing weights. -/
theorem gate_first (t : Fin cfg0.N) (k : Fin 1024) (j : Fin 1536) :
    (View.ld (iblk m c 8 t) r0_5 : Vec Ideal S1024x1536 .bf16) (ix2 k j) = m (c.tc.loc main_arg6) (ix2 k ⟨j, by omega⟩) := by
  pointwise
  exact widen_block m c t _ _
theorem value_first (t : Fin cfg0.N) (k : Fin 1024) (j : Fin 1536) :
    (View.ld (iblk m c 8 t) r0_6 : Vec Ideal S1024x1536 .bf16) (ix2 k j) = m (c.tc.loc main_arg6) (ix2 k ⟨2816 + j, by omega⟩) := by
  pointwise
  exact widen_block m c t _ _
theorem gate_second (t : Fin cfg0.N) (k : Fin 1024) (j : Fin 1280) :
    (View.ld (iblk m c 8 t) r0_8 : Vec Ideal S1024x1280 .bf16) (ix2 k j) = m (c.tc.loc main_arg6) (ix2 k ⟨1536 + j, by omega⟩) := by
  pointwise
  exact widen_block m c t _ _
theorem value_second (t : Fin cfg0.N) (k : Fin 1024) (j : Fin 1280) :
    (View.ld (iblk m c 8 t) r0_9 : Vec Ideal S1024x1280 .bf16) (ix2 k j) = m (c.tc.loc main_arg6) (ix2 k ⟨4352 + j, by omega⟩) := by
  pointwise
  exact widen_block m c t _ _
theorem narrow_first (t : Fin cfg0.N) (j : Fin 1536) (d : Fin 1024) :
    (View.ld (iblk m c 9 t) r0_7 : Vec Ideal S1536x1024 .bf16) (ix2 j d) = m (c.tc.loc main_arg7) (ix2 ⟨j, by omega⟩ d) := by
  pointwise
  exact narrow_block m c t _ _
theorem narrow_second (t : Fin cfg0.N) (j : Fin 1280) (d : Fin 1024) :
    (View.ld (iblk m c 9 t) r0_10 : Vec Ideal S1280x1024 .bf16) (ix2 j d) = m (c.tc.loc main_arg7) (ix2 ⟨1536 + j, by omega⟩ d) := by
  pointwise
  exact narrow_block m c t _ _

/-- The gains of the final norm. -/
theorem final_gain_block (t : Fin cfg0.N) (k : Fin 1024) : iblk m c 10 t (ix2 0 k) = m (c.tc.loc main_arg8) (ix1 k) := by
  blk_ext! [iblk, V, idx t]

/-- The place of the result block's element. -/
theorem out_place (t : Fin cfg0.N) (u : Fin 1) (r : Fin 512) (d : Fin 1024) :
    ((View.whole main_v12).slice (win0_11.rect t)).emb (ix3 u r d) = ix3 (batch t) (token t r) d := by
  blk_ext [idx t, batch, token]

/-! ## The result array -/

/-- A token's row after the output projection of the three attentions' outputs. -/
def projected (b : Fin 2) (t : Fin 8192) : Fin 1024 → EReal :=
  mixed (fun k => m (c.tc.loc main_arg0) (ix3 (wide b) (behind t) k)) (fun k => m (c.tc.loc main_arg1) (ix3 (wide b) (behind t) k))
    (fun k => m (c.tc.loc main_arg2) (ix3 (wide b) (behind t) k)) (fun k => m (c.tc.loc main_arg3) (ix3 (wide b) (behind t) k))
    (fun k d => m (c.tc.loc main_arg4) (ix2 k d))

/-- The row after the feed-forward part. -/
def fed (b : Fin 2) (t : Fin 8192) : Fin 1024 → EReal :=
  ffn (projected m c b t) (fun k => m (c.tc.loc main_arg5) (ix1 k)) (fun k j => m (c.tc.loc main_arg6) (ix2 k j))
    (fun j d => m (c.tc.loc main_arg7) (ix2 j d))

/-- The result: projection, feed-forward part and final norm of every token behind the leading block. -/
def result : S2x8192x1024.Idx → EReal := fun i =>
  normed (fed m c (i 0) (i 1)) (fun k => m (c.tc.loc main_arg8) (ix1 k)) (i 2)

/-- The projected rows, named by the whole blocks. -/
theorem projected_whole (x0 : Vec Ideal S512x1024 .f32) (x1 : Vec Ideal S512x512 .bf16) (x2 x3 : Vec Ideal S512x256 .bf16) (x4 : Vec Ideal S512x1024 .bf16) (x5 x6 : Vec Ideal S256x1024 .bf16) (x7 : Vec Ideal S1x1024 .f32) (x8 : Vec Ideal S1024x5632 .bf16) (x9 : Vec Ideal S2816x1024 .bf16) (x10 : Vec Ideal S1x1024 .f32) :
    k0_pay7 x0 x1 x2 x3 x4 x5 x6 x7 x8 x9 x10 = k0_pay2 x0 x1 x4 x2 x5 x3 x6 := by
  unfold k0_pay7
  congr 1 <;> exact View.ld_unit_zero (by funext a; fin_cases a <;> rfl) _ _

/-- The normalised rows, named by the whole blocks. -/
theorem normed_whole (x0 : Vec Ideal S512x1024 .f32) (x1 : Vec Ideal S512x512 .bf16) (x2 x3 : Vec Ideal S512x256 .bf16) (x4 : Vec Ideal S512x1024 .bf16) (x5 x6 : Vec Ideal S256x1024 .bf16) (x7 : Vec Ideal S1x1024 .f32) (x8 : Vec Ideal S1024x5632 .bf16) (x9 : Vec Ideal S2816x1024 .bf16) (x10 : Vec Ideal S1x1024 .f32) :
    k0_pay8 x0 x1 x2 x3 x4 x5 x6 x7 x8 x9 x10 = k0_pay3 x0 x1 x4 x2 x5 x3 x6 x7 := by
  unfold k0_pay8
  congr 1 <;> exact View.ld_unit_zero (by funext a; fin_cases a <;> rfl) _ _

/-- The kernel's result array after the run. -/
theorem kernel_result : (dats m 0 c).arrAt 11 (cfgs 0).N = result m c := by
  refine (dats m 0 c).arrAt_eq_of_covers 11 _ (by decide +kernel) fun t hf y => ?_
  blk_simp
  rw [after0_11]
  frame_out
  idx_vars y
  refine Eq.trans ?_ (congrArg (result m c) (out_place t y0 y1 y2).symm)
  have hp (d : Fin 1024) : k0_pay2 (iblk m c 0 t) (iblk m c 1 t) (iblk m c 4 t) (iblk m c 2 t) (iblk m c 5 t) (iblk m c 3 t)
      (iblk m c 6 t) (ix2 y1 d) = projected m c (batch t) (token t y1) d := by
    rw [projected_apply _ _ _ _ _ _ _ (fun k d => m (c.tc.loc main_arg4) (ix2 k d)) _ _ (wa_block m c t) (wb_block m c t) (wc_block m c t)]
    simp only [rows_block, a_block, b_block, c_block, projected]
  have hf (d : Fin 1024) := fed_apply (k0_pay2 (iblk m c 0 t) (iblk m c 1 t) (iblk m c 4 t) (iblk m c 2 t) (iblk m c 5 t) (iblk m c 3 t)
      (iblk m c 6 t)) (k0_pay3 (iblk m c 0 t) (iblk m c 1 t) (iblk m c 4 t) (iblk m c 2 t) (iblk m c 5 t) (iblk m c 3 t)
      (iblk m c 6 t) (iblk m c 7 t)) (projected m c (batch t) (token t y1)) (fun k => m (c.tc.loc main_arg5) (ix1 k))
      (fun k j => m (c.tc.loc main_arg6) (ix2 k j)) (fun j d => m (c.tc.loc main_arg7) (ix2 j d))
      (View.ld (iblk m c 8 t) r0_5) (View.ld (iblk m c 8 t) r0_6) (View.ld (iblk m c 9 t) r0_7)
      (View.ld (iblk m c 8 t) r0_8) (View.ld (iblk m c 8 t) r0_9) (View.ld (iblk m c 9 t) r0_10) y1 d hp
      (fun k => by rw [normed_apply _ _ _ _ _ _ _ _ _ _ _ hp]; simp only [gain_block])
      (gate_first m c t) (value_first m c t) (narrow_first m c t) (gate_second m c t) (value_second m c t) (narrow_second m c t)
  rw [projected_whole, normed_whole]
  exact final_apply _ _ _ _ _ _ _ _ _ _ _ _ _ _ hf (final_gain_block m c t)

end Cert.KernelIdeal.Rows

/-! ## The reference, a stage at a time -/

namespace Cert.ReferenceIdeal.Rows

open Cert.ReferenceIdeal Cert.ReferenceIdeal.Gen Idealize.ShloMosaic Idealize.ShloMosaic.TcCoe Idealize.SL.Sem
open Cert.FeedForward

/-- The rows after the output projection. -/
def start (h : FVec Ideal S10x8320x1024 .f32) (a : FVec Ideal S10x8320x512 .bf16) (b : FVec Ideal S10x8320x256 .bf16) (e : FVec Ideal S10x8320x256 .bf16) (w : FVec Ideal S1024x1024 .f32) :
    FVec Ideal S2x8320x1024 .f32 :=
  addf (extractStridedSlice S2x8320x1024 ![0, 0, 0] h slices_S10x8320x1024_S2x8320x1024_0_0_0) (Host.dotGeneral dot_S2x8320x1024_S1024x1024_S2x8320x1024_2_0_01_1_n_n none (extf .f32 ((concatenate S2x8320x1024 2 [⟨S2x8320x512, ((extractStridedSlice S2x8320x512 ![0, 0, 0] a slices_S10x8320x512_S2x8320x512_0_0_0) : (⟨S2x8320x512, .bf16⟩ : BufTy).Contents (Elt Ideal))⟩, ⟨S2x8320x256, ((extractStridedSlice S2x8320x256 ![0, 0, 0] b slices_S10x8320x256_S2x8320x256_0_0_0) : (⟨S2x8320x256, .bf16⟩ : BufTy).Contents (Elt Ideal))⟩, ⟨S2x8320x256, ((extractStridedSlice S2x8320x256 ![0, 0, 0] e slices_S10x8320x256_S2x8320x256_0_0_0) : (⟨S2x8320x256, .bf16⟩ : BufTy).Contents (Elt Ideal))⟩] concatenates_S2x8320x512_S2x8320x256_S2x8320x256_S2x8320x1024_d2 : (⟨S2x8320x1024, .bf16⟩ : BufTy).Contents (Elt Ideal))) bitsLt_bf16_f32) w)

/-- The rows `y` normalised, with the gains `g`. -/
def norms (y : FVec Ideal S2x8320x1024 .f32) (g : FVec Ideal S1024 .f32) : FVec Ideal S2x8320x1024 .f32 :=
  mulf (mulf y (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf y y) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 g))

/-- The normalised rows `n` widened by `w`. -/
def widened (n : FVec Ideal S2x8320x1024 .f32) (w : FVec Ideal S1024x5632 .f32) : FVec Ideal S2x8320x5632 .f32 :=
  Host.dotGeneral dot_S2x8320x1024_S1024x5632_S2x8320x5632_2_0_01_1_n_n none n w

/-- The rows `y` after the feed-forward part whose widened rows are `p`, narrowed by `v`. -/
def feed (y : FVec Ideal S2x8320x1024 .f32) (p : FVec Ideal S2x8320x5632 .f32) (v : FVec Ideal S2816x1024 .f32) : FVec Ideal S2x8320x1024 .f32 :=
  addf y (mulf (broadcastInDim S2x8320x1024 ![] bcast_S_S2x8320x1024 (constant S_ .f32 0x3F000000#32)) (Host.dotGeneral dot_S2x8320x2816_S2816x1024_S2x8320x1024_2_0_01_1_n_n none (mulf (mulf (extractStridedSlice S2x8320x2816 ![0, 0, 0] p slices_S2x8320x5632_S2x8320x2816_0_0_0) (Host.divf (broadcastInDim S2x8320x2816 ![] bcast_S_S2x8320x2816 (constant S_ .f32 0x3F800000#32)) (addf (broadcastInDim S2x8320x2816 ![] bcast_S_S2x8320x2816 (constant S_ .f32 0x3F800000#32)) (Host.exp (Host.negf (extractStridedSlice S2x8320x2816 ![0, 0, 0] p slices_S2x8320x5632_S2x8320x2816_0_0_0)))))) (extractStridedSlice S2x8320x2816 ![0, 0, 2816] p slices_S2x8320x5632_S2x8320x2816_0_0_2816)) v))

/-- The final norm of the rows `z` behind the leading block, with the gains `g`. -/
def last (z : FVec Ideal S2x8320x1024 .f32) (g : FVec Ideal S1024 .f32) : FVec Ideal S2x8192x1024 .f32 :=
  mulf (mulf (extractStridedSlice S2x8192x1024 ![0, 128, 0] z slices_S2x8320x1024_S2x8192x1024_0_128_0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (extractStridedSlice S2x8192x1024 ![0, 128, 0] z slices_S2x8320x1024_S2x8192x1024_0_128_0) (extractStridedSlice S2x8192x1024 ![0, 128, 0] z slices_S2x8320x1024_S2x8192x1024_0_128_0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

theorem norms_apply (y : FVec Ideal S2x8320x1024 .f32) (g : FVec Ideal S1024 .f32) (b : Fin 2) (t : Fin 8320) (k : Fin 1024) :
    norms y g (ix3 b t k) = normed (fun k => y (ix3 b t k)) (fun k => g (ix1 k)) k := by
  pointwise [norms]
  simp only [normed, invRms, width, tiny]

/-- The feed-forward part of the reference, at one feature of one token. -/
theorem feed_apply (y : FVec Ideal S2x8320x1024 .f32) (g : FVec Ideal S1024 .f32) (w : FVec Ideal S1024x5632 .f32)
    (v : FVec Ideal S2816x1024 .f32) (b : Fin 2) (t : Fin 8320) (d : Fin 1024) :
    feed y (widened (norms y g) w) v (ix3 b t d) = ffn (fun k => y (ix3 b t k)) (fun k => g (ix1 k))
      (fun k j => w (ix2 k j)) (fun j d => v (ix2 j d)) d := by
  pointwise [feed, widened]
  simp only [norms_apply, ffn, unit, gated, half]
  rfl

/-- The output projection of the reference, at one feature of one token. -/
theorem start_apply (h : FVec Ideal S10x8320x1024 .f32) (a : FVec Ideal S10x8320x512 .bf16)
    (b e : FVec Ideal S10x8320x256 .bf16) (w : FVec Ideal S1024x1024 .f32) (i : Fin 2) (t : Fin 8320) (d : Fin 1024) :
    start h a b e w (ix3 i t d) = mixed (fun k => h (ix3 ⟨i, by omega⟩ t k)) (fun k => a (ix3 ⟨i, by omega⟩ t k))
      (fun k => b (ix3 ⟨i, by omega⟩ t k)) (fun k => e (ix3 ⟨i, by omega⟩ t k)) (fun k d => w (ix2 k d)) d := by
  pointwise [start]
  refine mixed_eq (fun k => h (ix3 ⟨i, by omega⟩ t k)) (fun k => a (ix3 ⟨i, by omega⟩ t k))
    (fun k => b (ix3 ⟨i, by omega⟩ t k)) (fun k => e (ix3 ⟨i, by omega⟩ t k)) (fun k d => w (ix2 k d)) d
    (fun x => if hx : x.val < 512 then a (ix3 ⟨i, by omega⟩ t ⟨x, hx⟩)
      else if hy : x.val - 512 < 256 then b (ix3 ⟨i, by omega⟩ t ⟨x - 512, hy⟩)
      else e (ix3 ⟨i, by omega⟩ t ⟨x - 512 - 256, by omega⟩)) (fun k => ?_) (fun k => ?_) (fun k => ?_)
  · rw [dif_pos k.isLt]
  · rw [dif_neg (by simp), dif_pos (by simp)]
    simp
  · rw [dif_neg (by simp; omega), dif_neg (by simp; omega)]
    congr 2
    exact Fin.ext (by simp; omega)

/-- The final norm of the reference, at one feature of one token. -/
theorem last_apply (z : FVec Ideal S2x8320x1024 .f32) (g : FVec Ideal S1024 .f32) (b : Fin 2) (t : Fin 8192) (k : Fin 1024) :
    last z g (ix3 b t k) = normed (fun k => z (ix3 b ⟨128 + t, by omega⟩ k)) (fun k => g (ix1 k)) k := by
  pointwise [last]
  simp only [normed, invRms, width, tiny]

/-- The reference's result is these stages one after the other. -/
theorem result_stages (m : (ℓ : Loc nD τ sig) → Buf (Elt Ideal) ℓ) (c : Dev nD) :
    Value.res_out0 m c = last (feed (start (m (c.tc.loc main_arg0)) (m (c.tc.loc main_arg1)) (m (c.tc.loc main_arg2)) (m (c.tc.loc main_arg3)) (m (c.tc.loc main_arg4))) (widened (norms (start (m (c.tc.loc main_arg0)) (m (c.tc.loc main_arg1)) (m (c.tc.loc main_arg2)) (m (c.tc.loc main_arg3)) (m (c.tc.loc main_arg4))) (m (c.tc.loc main_arg5))) (m (c.tc.loc main_arg6))) (m (c.tc.loc main_arg7))) (m (c.tc.loc main_arg8)) := rfl

end Cert.ReferenceIdeal.Rows

namespace Cert.Proof

open Idealize.ShloMosaic Idealize.SL.Sem

/-- The kernel and the reference end with equal result arrays. -/
theorem prompts : Cert.algebraic_KernelIdeal_ReferenceIdeal := by
  intro m g m' g' _ hagree
  refine ⟨fun c => Cert.KernelIdeal.Rows.result m c, ?_, ?_⟩
  · exact (θ_run Cert.KernelIdeal.defs _ _).mono
      (fun _ h c => ⟨(h c).1.trans (Cert.KernelIdeal.Rows.kernel_result m c), (h c).2⟩)
      (Cert.KernelIdeal.Value.run_blocks m g)
  · refine (θ_run Cert.ReferenceIdeal.defs _ _).mono (fun _ h c => ⟨(h c).1.trans ?_, (h c).2⟩)
      (Cert.ReferenceIdeal.Value.run m' g')
    obtain ⟨h0, h1, h2, h3, h4, h5, h6, h7, h8⟩ := hagree c
    refine (Cert.ReferenceIdeal.Rows.result_stages m' c).trans ?_
    rw [h0, h1, h2, h3, h4, h5, h6, h7, h8]
    funext i
    idx_vars i
    refine (Cert.ReferenceIdeal.Rows.last_apply _ _ i0 i1 i2).trans ?_
    simp only [Cert.ReferenceIdeal.Rows.feed_apply, Cert.ReferenceIdeal.Rows.start_apply]
    rfl

end Cert.Proof
-- ==== Proof.Samples.lean ====
module

public import proofs.«01_k».proof.Proof.FeedForward
public import proofs.«01_k».proof.Proof.Gen.SampleRefIdeal.Run
public import proofs.«01_k».proof.Proof.Gen.SampleIdeal.Value
public import proofs.«01_k».proof.Defs
public import Idealize.ShloMosaic.Lib.Pipeline.ValueKit
public import Idealize.ShloMosaic.Lib.Pointwise

@[expose] public section

/-! The last feed-forward call for the samples: output projection, feed-forward part and final norm, on the tokens
    behind the leading block of 128. The kernel's result array and the reference's are the same function of the
    arguments. -/

set_option maxRecDepth 16384

noncomputable section

namespace Cert.SampleIdeal.Rows

open Cert.SampleIdeal Cert.SampleIdeal.Gen Idealize.ShloMosaic Idealize.ShloMosaic.TcCoe Idealize.SL.Sem
open Cert.FeedForward

/-! ## What the body computes of its blocks -/

section Payloads

variable (h : Vec Ideal S512x1024 .f32) (a : Vec Ideal S512x512 .bf16) (wa : Vec Ideal S512x1024 .bf16)
  (b : Vec Ideal S512x256 .bf16) (wb : Vec Ideal S256x1024 .bf16) (e : Vec Ideal S512x256 .bf16)
  (we : Vec Ideal S256x1024 .bf16) (g : Vec Ideal S1x1024 .f32)

/-- Row `r` of the block after the output projection. -/
theorem projected_apply (w : Fin 1024 → Fin 1024 → EReal) (r : Fin 512) (d : Fin 1024)
    (ha : ∀ (k : Fin 512) d, wa (ix2 k d) = w ⟨k, by omega⟩ d) (hb : ∀ (k : Fin 256) d, wb (ix2 k d) = w ⟨512 + k, by omega⟩ d)
    (he : ∀ (k : Fin 256) d, we (ix2 k d) = w ⟨768 + k, by omega⟩ d) :
    k0_pay2 h a wa b wb e we (ix2 r d) = mixed (fun k => h (ix2 r k)) (fun k => a (ix2 r k)) (fun k => b (ix2 r k))
      (fun k => e (ix2 r k)) w d := by
  pointwise [k0_pay2]
  simp only [ha, hb, he, mixed]

/-- Row `r` normalised for the feed-forward part. -/
theorem normed_apply (x : Fin 1024 → EReal) (r : Fin 512) (k : Fin 1024)
    (hx : ∀ d, k0_pay2 h a wa b wb e we (ix2 r d) = x d) :
    k0_pay3 h a wa b wb e we g (ix2 r k) = normed x (fun k => g (ix2 0 k)) k := by
  pointwise [k0_pay3]
  simp only [hx, normed, invRms, width, tiny]

/-- Row `r` after the feed-forward part. -/
theorem fed_apply (y : FVec Ideal S512x1024 .f32) (n : FVec Ideal S512x1024 .bf16) (x gain : Fin 1024 → EReal)
    (w : Fin 1024 → Fin 5632 → EReal) (v : Fin 2816 → Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (r : Fin 512) (d : Fin 1024)
    (hy : ∀ d, y (ix2 r d) = x d) (hn : ∀ k, n (ix2 r k) = normed x gain k)
    (hg₁ : ∀ k (j : Fin 1536), wg₁ (ix2 k j) = w k ⟨j, by omega⟩) (hu₁ : ∀ k (j : Fin 1536), wu₁ (ix2 k j) = w k ⟨2816 + j, by omega⟩)
    (hv₁ : ∀ (j : Fin 1536) d, v₁ (ix2 j d) = v ⟨j, by omega⟩ d)
    (hg₂ : ∀ k (j : Fin 1280), wg₂ (ix2 k j) = w k ⟨1536 + j, by omega⟩) (hu₂ : ∀ k (j : Fin 1280), wu₂ (ix2 k j) = w k ⟨4352 + j, by omega⟩)
    (hv₂ : ∀ (j : Fin 1280) d, v₂ (ix2 j d) = v ⟨1536 + j, by omega⟩ d) :
    k0_pay4 y n wg₁ wu₁ v₁ wg₂ wu₂ v₂ (ix2 r d) = ffn x gain w v d := by
  refine Eq.trans ?_ (ffn_chunks x gain w v d)
  pointwise [k0_pay4]
  simp only [hy, hn, hg₁, hu₁, hv₁, hg₂, hu₂, hv₂, unit, gated, half]

/-- The final norm of row `r`. -/
theorem final_apply (y : FVec Ideal S512x1024 .f32) (n : FVec Ideal S512x1024 .bf16) (x gain : Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (u : Fin 1) (r : Fin 512) (d : Fin 1024)
    (hx : ∀ d, k0_pay4 y n wg₁ wu₁ v₁ wg₂ wu₂ v₂ (ix2 r d) = x d) (hg : ∀ d, g (ix2 0 d) = gain d) :
    k0_pay1 (k0_pay4 y n wg₁ wu₁ v₁ wg₂ wu₂ v₂) (k0_pay5 g) (k0_pay6 y n wg₁ wu₁ v₁ wg₂ wu₂ v₂)
      (FloatOps.ofBits FTy.f32 897988541#32) (ix3 u r d) = normed x gain d := by
  pointwise [k0_pay1, k0_pay5, k0_pay6]
  simp only [hx, hg, normed, invRms, width, tiny]

end Payloads

/-! ## The blocks -/

variable (m : (ℓ : Loc nD τ sig) → Buf (Elt Ideal) ℓ) (c : Dev nD)

/-- Where each window stands at each grid point: the four windows of tokens at the element row of the point's batch
    and tile, 128 rows into the batch; the weights whole; the result at block `(t / 16, t % 16)`. -/
theorem idx : ∀ t, win0_0.index t = ![(t.val / 16 + 2) * 8320 + 128 + t.val % 16 * 512, 0]
    ∧ win0_1.index t = ![(t.val / 16 + 2) * 8320 + 128 + t.val % 16 * 512, 0]
    ∧ win0_2.index t = ![(t.val / 16 + 2) * 8320 + 128 + t.val % 16 * 512, 0]
    ∧ win0_3.index t = ![(t.val / 16 + 2) * 8320 + 128 + t.val % 16 * 512, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val / 16, t.val % 16, 0] := by decide +kernel

/-- The batch, among the group's, that grid point `t` works on. -/
def batch (t : Fin cfg0.N) : Fin 8 := ⟨t.val / 16, by have : t.val < 128 := t.isLt; omega⟩

/-- The result row that row `r` of grid point `t`'s block is. -/
def token (t : Fin cfg0.N) (r : Fin 512) : Fin 8192 := ⟨t.val % 16 * 512 + r, by omega⟩

/-- The group's batch among all ten. -/
def wide (b : Fin 8) : Fin 10 := ⟨2 + b, by omega⟩

/-- The token behind the leading block. -/
def behind (t : Fin 8192) : Fin 8320 := ⟨128 + t, by omega⟩

/-- An element of a window of tokens sits at the window's element row plus its own. -/
theorem place0 (t : Fin cfg0.N) (y : S512x1024.Idx) (x : Fin 2) :
    (((View.whole main_v6).slice (win0_0.rect t)).emb y x : ℕ) = win0_0.index t x + y x := win0_0.rect_emb_val_off t y x
theorem place1 (t : Fin cfg0.N) (y : S512x512.Idx) (x : Fin 2) :
    (((View.whole main_v7).slice (win0_1.rect t)).emb y x : ℕ) = win0_1.index t x + y x := win0_1.rect_emb_val_off t y x
theorem place2 (t : Fin cfg0.N) (y : S512x256.Idx) (x : Fin 2) :
    (((View.whole main_v8).slice (win0_2.rect t)).emb y x : ℕ) = win0_2.index t x + y x := win0_2.rect_emb_val_off t y x
theorem place3 (t : Fin cfg0.N) (y : S512x256.Idx) (x : Fin 2) :
    (((View.whole main_v9).slice (win0_3.rect t)).emb y x : ℕ) = win0_3.index t x + y x := win0_3.rect_emb_val_off t y x

/-- The windows of tokens hold, of the batch, the rows behind the leading block. -/
theorem rows_block (t : Fin cfg0.N) (r : Fin 512) (k : Fin 1024) :
    iblk m c 0 t (ix2 r k) = m (c.tc.loc main_arg0) (ix3 (wide (batch t)) (behind (token t r)) k) := by
  blk_ext! [iblk, V, idx t, batch, token, wide, behind]
  all_goals erw [place0, (idx t).1]
  all_goals simp
  all_goals omega
theorem a_block (t : Fin cfg0.N) (r : Fin 512) (k : Fin 512) :
    iblk m c 1 t (ix2 r k) = m (c.tc.loc main_arg1) (ix3 (wide (batch t)) (behind (token t r)) k) := by
  blk_ext! [iblk, V, idx t, batch, token, wide, behind]
  all_goals erw [place1, (idx t).2.1]
  all_goals simp
  all_goals omega
theorem b_block (t : Fin cfg0.N) (r : Fin 512) (k : Fin 256) :
    iblk m c 2 t (ix2 r k) = m (c.tc.loc main_arg2) (ix3 (wide (batch t)) (behind (token t r)) k) := by
  blk_ext! [iblk, V, idx t, batch, token, wide, behind]
  all_goals erw [place2, (idx t).2.2.1]
  all_goals simp
  all_goals omega
theorem c_block (t : Fin cfg0.N) (r : Fin 512) (k : Fin 256) :
    iblk m c 3 t (ix2 r k) = m (c.tc.loc main_arg3) (ix3 (wide (batch t)) (behind (token t r)) k) := by
  blk_ext! [iblk, V, idx t, batch, token, wide, behind]
  all_goals erw [place3, (idx t).2.2.2.1]
  all_goals simp
  all_goals omega

/-- The three blocks of projection weights hold rows 0 to 511, 512 to 767 and 768 to 1023 of them. -/
theorem wa_block (t : Fin cfg0.N) (k : Fin 512) (d : Fin 1024) :
    iblk m c 4 t (ix2 k d) = m (c.tc.loc main_arg4) (ix2 ⟨k, by omega⟩ d) := by
  blk_ext! [iblk, V, idx t]
theorem wb_block (t : Fin cfg0.N) (k : Fin 256) (d : Fin 1024) :
    iblk m c 5 t (ix2 k d) = m (c.tc.loc main_arg4) (ix2 ⟨512 + k, by omega⟩ d) := by
  blk_ext! [iblk, V, idx t]
theorem wc_block (t : Fin cfg0.N) (k : Fin 256) (d : Fin 1024) :
    iblk m c 6 t (ix2 k d) = m (c.tc.loc main_arg4) (ix2 ⟨768 + k, by omega⟩ d) := by
  blk_ext! [iblk, V, idx t]

/-- The gains of the feed-forward part's norm. -/
theorem gain_block (t : Fin cfg0.N) (k : Fin 1024) : iblk m c 7 t (ix2 0 k) = m (c.tc.loc main_arg5) (ix1 k) := by
  blk_ext! [iblk, V, idx t]

/-- The widening weights' block holds them all. -/
theorem widen_block (t : Fin cfg0.N) (k : Fin 1024) (j : Fin 5632) :
    iblk m c 8 t (ix2 k j) = m (c.tc.loc main_arg6) (ix2 k j) := by
  blk_ext! [iblk, V, idx t]

/-- The narrowing weights' block holds them all. -/
theorem narrow_block (t : Fin cfg0.N) (j : Fin 2816) (d : Fin 1024) :
    iblk m c 9 t (ix2 j d) = m (c.tc.loc main_arg7) (ix2 j d) := by
  blk_ext! [iblk, V, idx t]

/-- The loads from the weights' blocks: columns 0 to 1535 and 1536 to 2815 of the gates, the same of the values
    (2816 columns further on), rows 0 to 1535 and 1536 to 2815 of the narrowing weights. -/
theorem gate_first (t : Fin cfg0.N) (k : Fin 1024) (j : Fin 1536) :
    (View.ld (iblk m c 8 t) r0_5 : Vec Ideal S1024x1536 .bf16) (ix2 k j) = m (c.tc.loc main_arg6) (ix2 k ⟨j, by omega⟩) := by
  pointwise
  exact widen_block m c t _ _
theorem value_first (t : Fin cfg0.N) (k : Fin 1024) (j : Fin 1536) :
    (View.ld (iblk m c 8 t) r0_6 : Vec Ideal S1024x1536 .bf16) (ix2 k j) = m (c.tc.loc main_arg6) (ix2 k ⟨2816 + j, by omega⟩) := by
  pointwise
  exact widen_block m c t _ _
theorem gate_second (t : Fin cfg0.N) (k : Fin 1024) (j : Fin 1280) :
    (View.ld (iblk m c 8 t) r0_8 : Vec Ideal S1024x1280 .bf16) (ix2 k j) = m (c.tc.loc main_arg6) (ix2 k ⟨1536 + j, by omega⟩) := by
  pointwise
  exact widen_block m c t _ _
theorem value_second (t : Fin cfg0.N) (k : Fin 1024) (j : Fin 1280) :
    (View.ld (iblk m c 8 t) r0_9 : Vec Ideal S1024x1280 .bf16) (ix2 k j) = m (c.tc.loc main_arg6) (ix2 k ⟨4352 + j, by omega⟩) := by
  pointwise
  exact widen_block m c t _ _
theorem narrow_first (t : Fin cfg0.N) (j : Fin 1536) (d : Fin 1024) :
    (View.ld (iblk m c 9 t) r0_7 : Vec Ideal S1536x1024 .bf16) (ix2 j d) = m (c.tc.loc main_arg7) (ix2 ⟨j, by omega⟩ d) := by
  pointwise
  exact narrow_block m c t _ _
theorem narrow_second (t : Fin cfg0.N) (j : Fin 1280) (d : Fin 1024) :
    (View.ld (iblk m c 9 t) r0_10 : Vec Ideal S1280x1024 .bf16) (ix2 j d) = m (c.tc.loc main_arg7) (ix2 ⟨1536 + j, by omega⟩ d) := by
  pointwise
  exact narrow_block m c t _ _

/-- The gains of the final norm. -/
theorem final_gain_block (t : Fin cfg0.N) (k : Fin 1024) : iblk m c 10 t (ix2 0 k) = m (c.tc.loc main_arg8) (ix1 k) := by
  blk_ext! [iblk, V, idx t]

/-- The place of the result block's element. -/
theorem out_place (t : Fin cfg0.N) (u : Fin 1) (r : Fin 512) (d : Fin 1024) :
    ((View.whole main_v12).slice (win0_11.rect t)).emb (ix3 u r d) = ix3 (batch t) (token t r) d := by
  blk_ext [idx t, batch, token]

/-! ## The result array -/

/-- A token's row after the output projection of the three attentions' outputs. -/
def projected (b : Fin 8) (t : Fin 8192) : Fin 1024 → EReal :=
  mixed (fun k => m (c.tc.loc main_arg0) (ix3 (wide b) (behind t) k)) (fun k => m (c.tc.loc main_arg1) (ix3 (wide b) (behind t) k))
    (fun k => m (c.tc.loc main_arg2) (ix3 (wide b) (behind t) k)) (fun k => m (c.tc.loc main_arg3) (ix3 (wide b) (behind t) k))
    (fun k d => m (c.tc.loc main_arg4) (ix2 k d))

/-- The row after the feed-forward part. -/
def fed (b : Fin 8) (t : Fin 8192) : Fin 1024 → EReal :=
  ffn (projected m c b t) (fun k => m (c.tc.loc main_arg5) (ix1 k)) (fun k j => m (c.tc.loc main_arg6) (ix2 k j))
    (fun j d => m (c.tc.loc main_arg7) (ix2 j d))

/-- The result: projection, feed-forward part and final norm of every token behind the leading block. -/
def result : S8x8192x1024.Idx → EReal := fun i =>
  normed (fed m c (i 0) (i 1)) (fun k => m (c.tc.loc main_arg8) (ix1 k)) (i 2)

/-- The projected rows, named by the whole blocks. -/
theorem projected_whole (x0 : Vec Ideal S512x1024 .f32) (x1 : Vec Ideal S512x512 .bf16) (x2 x3 : Vec Ideal S512x256 .bf16) (x4 : Vec Ideal S512x1024 .bf16) (x5 x6 : Vec Ideal S256x1024 .bf16) (x7 : Vec Ideal S1x1024 .f32) (x8 : Vec Ideal S1024x5632 .bf16) (x9 : Vec Ideal S2816x1024 .bf16) (x10 : Vec Ideal S1x1024 .f32) :
    k0_pay7 x0 x1 x2 x3 x4 x5 x6 x7 x8 x9 x10 = k0_pay2 x0 x1 x4 x2 x5 x3 x6 := by
  unfold k0_pay7
  congr 1 <;> exact View.ld_unit_zero (by funext a; fin_cases a <;> rfl) _ _

/-- The normalised rows, named by the whole blocks. -/
theorem normed_whole (x0 : Vec Ideal S512x1024 .f32) (x1 : Vec Ideal S512x512 .bf16) (x2 x3 : Vec Ideal S512x256 .bf16) (x4 : Vec Ideal S512x1024 .bf16) (x5 x6 : Vec Ideal S256x1024 .bf16) (x7 : Vec Ideal S1x1024 .f32) (x8 : Vec Ideal S1024x5632 .bf16) (x9 : Vec Ideal S2816x1024 .bf16) (x10 : Vec Ideal S1x1024 .f32) :
    k0_pay8 x0 x1 x2 x3 x4 x5 x6 x7 x8 x9 x10 = k0_pay3 x0 x1 x4 x2 x5 x3 x6 x7 := by
  unfold k0_pay8
  congr 1 <;> exact View.ld_unit_zero (by funext a; fin_cases a <;> rfl) _ _

/-- The kernel's result array after the run. -/
theorem kernel_result : (dats m 0 c).arrAt 11 (cfgs 0).N = result m c := by
  refine (dats m 0 c).arrAt_eq_of_covers 11 _ (by decide +kernel) fun t hf y => ?_
  blk_simp
  rw [after0_11]
  frame_out
  idx_vars y
  refine Eq.trans ?_ (congrArg (result m c) (out_place t y0 y1 y2).symm)
  have hp (d : Fin 1024) : k0_pay2 (iblk m c 0 t) (iblk m c 1 t) (iblk m c 4 t) (iblk m c 2 t) (iblk m c 5 t) (iblk m c 3 t)
      (iblk m c 6 t) (ix2 y1 d) = projected m c (batch t) (token t y1) d := by
    rw [projected_apply _ _ _ _ _ _ _ (fun k d => m (c.tc.loc main_arg4) (ix2 k d)) _ _ (wa_block m c t) (wb_block m c t) (wc_block m c t)]
    simp only [rows_block, a_block, b_block, c_block, projected]
  have hf (d : Fin 1024) := fed_apply (k0_pay2 (iblk m c 0 t) (iblk m c 1 t) (iblk m c 4 t) (iblk m c 2 t) (iblk m c 5 t) (iblk m c 3 t)
      (iblk m c 6 t)) (k0_pay3 (iblk m c 0 t) (iblk m c 1 t) (iblk m c 4 t) (iblk m c 2 t) (iblk m c 5 t) (iblk m c 3 t)
      (iblk m c 6 t) (iblk m c 7 t)) (projected m c (batch t) (token t y1)) (fun k => m (c.tc.loc main_arg5) (ix1 k))
      (fun k j => m (c.tc.loc main_arg6) (ix2 k j)) (fun j d => m (c.tc.loc main_arg7) (ix2 j d))
      (View.ld (iblk m c 8 t) r0_5) (View.ld (iblk m c 8 t) r0_6) (View.ld (iblk m c 9 t) r0_7)
      (View.ld (iblk m c 8 t) r0_8) (View.ld (iblk m c 8 t) r0_9) (View.ld (iblk m c 9 t) r0_10) y1 d hp
      (fun k => by rw [normed_apply _ _ _ _ _ _ _ _ _ _ _ hp]; simp only [gain_block])
      (gate_first m c t) (value_first m c t) (narrow_first m c t) (gate_second m c t) (value_second m c t) (narrow_second m c t)
  rw [projected_whole, normed_whole]
  exact final_apply _ _ _ _ _ _ _ _ _ _ _ _ _ _ hf (final_gain_block m c t)

end Cert.SampleIdeal.Rows

/-! ## The reference, a stage at a time -/

namespace Cert.SampleRefIdeal.Rows

open Cert.SampleRefIdeal Cert.SampleRefIdeal.Gen Idealize.ShloMosaic Idealize.ShloMosaic.TcCoe Idealize.SL.Sem
open Cert.FeedForward

/-- The rows after the output projection. -/
def start (h : FVec Ideal S10x8320x1024 .f32) (a : FVec Ideal S10x8320x512 .bf16) (b : FVec Ideal S10x8320x256 .bf16) (e : FVec Ideal S10x8320x256 .bf16) (w : FVec Ideal S1024x1024 .f32) :
    FVec Ideal S8x8320x1024 .f32 :=
  addf (extractStridedSlice S8x8320x1024 ![2, 0, 0] h slices_S10x8320x1024_S8x8320x1024_2_0_0) (Host.dotGeneral dot_S8x8320x1024_S1024x1024_S8x8320x1024_2_0_01_1_n_n none (extf .f32 ((concatenate S8x8320x1024 2 [⟨S8x8320x512, ((extractStridedSlice S8x8320x512 ![2, 0, 0] a slices_S10x8320x512_S8x8320x512_2_0_0) : (⟨S8x8320x512, .bf16⟩ : BufTy).Contents (Elt Ideal))⟩, ⟨S8x8320x256, ((extractStridedSlice S8x8320x256 ![2, 0, 0] b slices_S10x8320x256_S8x8320x256_2_0_0) : (⟨S8x8320x256, .bf16⟩ : BufTy).Contents (Elt Ideal))⟩, ⟨S8x8320x256, ((extractStridedSlice S8x8320x256 ![2, 0, 0] e slices_S10x8320x256_S8x8320x256_2_0_0) : (⟨S8x8320x256, .bf16⟩ : BufTy).Contents (Elt Ideal))⟩] concatenates_S8x8320x512_S8x8320x256_S8x8320x256_S8x8320x1024_d2 : (⟨S8x8320x1024, .bf16⟩ : BufTy).Contents (Elt Ideal))) bitsLt_bf16_f32) w)

/-- The rows `y` normalised, with the gains `g`. -/
def norms (y : FVec Ideal S8x8320x1024 .f32) (g : FVec Ideal S1024 .f32) : FVec Ideal S8x8320x1024 .f32 :=
  mulf (mulf y (broadcastInDim S8x8320x1024 ![0, 1, 2] bcast_S8x8320x1_S8x8320x1024_0_1_2 (Host.rsqrt (addf (Host.divf (broadcastInDim S8x8320x1 ![0, 1] bcast_S8x8320_S8x8320x1_0_1 (Host.reduceAdd (mulf y y) (constant S_ .f32 0x00000000#32) reducesTo_S8x8320x1024_S8x8320_d2 h_S_)) (broadcastInDim S8x8320x1 ![] bcast_S_S8x8320x1 (constant S_ .f32 0x44800000#32))) (broadcastInDim S8x8320x1 ![] bcast_S_S8x8320x1 (constant S_ .f32 0x358637BD#32)))))) (broadcastInDim S8x8320x1024 ![0, 1, 2] bcast_S1x1x1024_S8x8320x1024_0_1_2 (broadcastInDim S1x1x1024 ![2] bcast_S1024_S1x1x1024_2 g))

/-- The normalised rows `n` widened by `w`. -/
def widened (n : FVec Ideal S8x8320x1024 .f32) (w : FVec Ideal S1024x5632 .f32) : FVec Ideal S8x8320x5632 .f32 :=
  Host.dotGeneral dot_S8x8320x1024_S1024x5632_S8x8320x5632_2_0_01_1_n_n none n w

/-- The rows `y` after the feed-forward part whose widened rows are `p`, narrowed by `v`. -/
def feed (y : FVec Ideal S8x8320x1024 .f32) (p : FVec Ideal S8x8320x5632 .f32) (v : FVec Ideal S2816x1024 .f32) : FVec Ideal S8x8320x1024 .f32 :=
  addf y (mulf (broadcastInDim S8x8320x1024 ![] bcast_S_S8x8320x1024 (constant S_ .f32 0x3F000000#32)) (Host.dotGeneral dot_S8x8320x2816_S2816x1024_S8x8320x1024_2_0_01_1_n_n none (mulf (mulf (extractStridedSlice S8x8320x2816 ![0, 0, 0] p slices_S8x8320x5632_S8x8320x2816_0_0_0) (Host.divf (broadcastInDim S8x8320x2816 ![] bcast_S_S8x8320x2816 (constant S_ .f32 0x3F800000#32)) (addf (broadcastInDim S8x8320x2816 ![] bcast_S_S8x8320x2816 (constant S_ .f32 0x3F800000#32)) (Host.exp (Host.negf (extractStridedSlice S8x8320x2816 ![0, 0, 0] p slices_S8x8320x5632_S8x8320x2816_0_0_0)))))) (extractStridedSlice S8x8320x2816 ![0, 0, 2816] p slices_S8x8320x5632_S8x8320x2816_0_0_2816)) v))

/-- The final norm of the rows `z` behind the leading block, with the gains `g`. -/
def last (z : FVec Ideal S8x8320x1024 .f32) (g : FVec Ideal S1024 .f32) : FVec Ideal S8x8192x1024 .f32 :=
  mulf (mulf (extractStridedSlice S8x8192x1024 ![0, 128, 0] z slices_S8x8320x1024_S8x8192x1024_0_128_0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (extractStridedSlice S8x8192x1024 ![0, 128, 0] z slices_S8x8320x1024_S8x8192x1024_0_128_0) (extractStridedSlice S8x8192x1024 ![0, 128, 0] z slices_S8x8320x1024_S8x8192x1024_0_128_0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

theorem norms_apply (y : FVec Ideal S8x8320x1024 .f32) (g : FVec Ideal S1024 .f32) (b : Fin 8) (t : Fin 8320) (k : Fin 1024) :
    norms y g (ix3 b t k) = normed (fun k => y (ix3 b t k)) (fun k => g (ix1 k)) k := by
  pointwise [norms]
  simp only [normed, invRms, width, tiny]

/-- The feed-forward part of the reference, at one feature of one token. -/
theorem feed_apply (y : FVec Ideal S8x8320x1024 .f32) (g : FVec Ideal S1024 .f32) (w : FVec Ideal S1024x5632 .f32)
    (v : FVec Ideal S2816x1024 .f32) (b : Fin 8) (t : Fin 8320) (d : Fin 1024) :
    feed y (widened (norms y g) w) v (ix3 b t d) = ffn (fun k => y (ix3 b t k)) (fun k => g (ix1 k))
      (fun k j => w (ix2 k j)) (fun j d => v (ix2 j d)) d := by
  pointwise [feed, widened]
  simp only [norms_apply, ffn, unit, gated, half]
  rfl

/-- The output projection of the reference, at one feature of one token. -/
theorem start_apply (h : FVec Ideal S10x8320x1024 .f32) (a : FVec Ideal S10x8320x512 .bf16)
    (b e : FVec Ideal S10x8320x256 .bf16) (w : FVec Ideal S1024x1024 .f32) (i : Fin 8) (t : Fin 8320) (d : Fin 1024) :
    start h a b e w (ix3 i t d) = mixed (fun k => h (ix3 ⟨2 + i, by omega⟩ t k)) (fun k => a (ix3 ⟨2 + i, by omega⟩ t k))
      (fun k => b (ix3 ⟨2 + i, by omega⟩ t k)) (fun k => e (ix3 ⟨2 + i, by omega⟩ t k)) (fun k d => w (ix2 k d)) d := by
  pointwise [start]
  refine mixed_eq (fun k => h (ix3 ⟨2 + i, by omega⟩ t k)) (fun k => a (ix3 ⟨2 + i, by omega⟩ t k))
    (fun k => b (ix3 ⟨2 + i, by omega⟩ t k)) (fun k => e (ix3 ⟨2 + i, by omega⟩ t k)) (fun k d => w (ix2 k d)) d
    (fun x => if hx : x.val < 512 then a (ix3 ⟨2 + i, by omega⟩ t ⟨x, hx⟩)
      else if hy : x.val - 512 < 256 then b (ix3 ⟨2 + i, by omega⟩ t ⟨x - 512, hy⟩)
      else e (ix3 ⟨2 + i, by omega⟩ t ⟨x - 512 - 256, by omega⟩)) (fun k => ?_) (fun k => ?_) (fun k => ?_)
  · rw [dif_pos k.isLt]
  · rw [dif_neg (by simp), dif_pos (by simp)]
    simp
  · rw [dif_neg (by simp; omega), dif_neg (by simp; omega)]
    congr 2
    exact Fin.ext (by simp; omega)

/-- The final norm of the reference, at one feature of one token. -/
theorem last_apply (z : FVec Ideal S8x8320x1024 .f32) (g : FVec Ideal S1024 .f32) (b : Fin 8) (t : Fin 8192) (k : Fin 1024) :
    last z g (ix3 b t k) = normed (fun k => z (ix3 b ⟨128 + t, by omega⟩ k)) (fun k => g (ix1 k)) k := by
  pointwise [last]
  simp only [normed, invRms, width, tiny]

/-- The reference's result is these stages one after the other. -/
theorem result_stages (m : (ℓ : Loc nD τ sig) → Buf (Elt Ideal) ℓ) (c : Dev nD) :
    Value.res_out0 m c = last (feed (start (m (c.tc.loc main_arg0)) (m (c.tc.loc main_arg1)) (m (c.tc.loc main_arg2)) (m (c.tc.loc main_arg3)) (m (c.tc.loc main_arg4))) (widened (norms (start (m (c.tc.loc main_arg0)) (m (c.tc.loc main_arg1)) (m (c.tc.loc main_arg2)) (m (c.tc.loc main_arg3)) (m (c.tc.loc main_arg4))) (m (c.tc.loc main_arg5))) (m (c.tc.loc main_arg6))) (m (c.tc.loc main_arg7))) (m (c.tc.loc main_arg8)) := rfl

end Cert.SampleRefIdeal.Rows

namespace Cert.Proof

open Idealize.ShloMosaic Idealize.SL.Sem

/-- The kernel and the reference end with equal result arrays. -/
theorem samples : Cert.algebraic_SampleIdeal_SampleRefIdeal := by
  intro m g m' g' _ hagree
  refine ⟨fun c => Cert.SampleIdeal.Rows.result m c, ?_, ?_⟩
  · exact (θ_run Cert.SampleIdeal.defs _ _).mono
      (fun _ h c => ⟨(h c).1.trans (Cert.SampleIdeal.Rows.kernel_result m c), (h c).2⟩)
      (Cert.SampleIdeal.Value.run_blocks m g)
  · refine (θ_run Cert.SampleRefIdeal.defs _ _).mono (fun _ h c => ⟨(h c).1.trans ?_, (h c).2⟩)
      (Cert.SampleRefIdeal.Value.run m' g')
    obtain ⟨h0, h1, h2, h3, h4, h5, h6, h7, h8⟩ := hagree c
    refine (Cert.SampleRefIdeal.Rows.result_stages m' c).trans ?_
    rw [h0, h1, h2, h3, h4, h5, h6, h7, h8]
    funext i
    idx_vars i
    refine (Cert.SampleRefIdeal.Rows.last_apply _ _ i0 i1 i2).trans ?_
    simp only [Cert.SampleRefIdeal.Rows.feed_apply, Cert.SampleRefIdeal.Rows.start_apply]
    rfl

end Cert.Proof
-- ==== Proof.First.lean ====
module

public import proofs.«01_k».proof.Proof.FeedForward
public import proofs.«01_k».proof.Proof.Gen.FirstRefIdeal.Run
public import proofs.«01_k».proof.Proof.Gen.FirstIdeal.Value
public import proofs.«01_k».proof.Defs
public import Idealize.ShloMosaic.Lib.Pipeline.ValueKit
public import Idealize.ShloMosaic.Lib.Pointwise

@[expose] public section

/-! The first layer's first feed-forward part: the two groups of requests read in place, the leading block (112 rows
    of zeros and the 16 meta tokens) put before each. The kernel's result array and the reference's are the same
    function of the arguments. -/

set_option maxRecDepth 16384

noncomputable section

namespace Cert.FirstIdeal.Rows

open Cert.FirstIdeal Cert.FirstIdeal.Gen Idealize.ShloMosaic Idealize.ShloMosaic.TcCoe Idealize.SL.Sem
open Cert.FeedForward

/-! ## What the body computes of its blocks -/

section Payloads

variable (i : grid0.Coords) (p s : Vec Ideal S640x1024 .f32) (l : Vec Ideal S128x1024 .f32) (g : Vec Ideal S1x1024 .f32)

/-- The word test for the second group of requests. -/
theorem second_group (a : Fin 10) (x y : EReal) :
    Scalar.select (Scalar.cmpi .sge (BitVec.ofNat 32 a.val) 2#32) x y = if a.val < 2 then y else x := by
  have h : ∀ a : Fin 10, Scalar.cmpi .sge (BitVec.ofNat 32 a.val) 2#32 = if a.val < 2 then 0#1 else 1#1 := by decide
  rw [h]
  split <;> rfl

/-- The word test for a batch's first tile. -/
theorem first_tile (a : Fin 13) (x y : EReal) :
    Scalar.select (Scalar.cmpi .eq (BitVec.ofNat 32 a.val) 0#32) x y = if a.val = 0 then x else y := by
  have h : ∀ a : Fin 13, Scalar.cmpi .eq (BitVec.ofNat 32 a.val) 0#32 = if a.val = 0 then 1#1 else 0#1 := by decide
  rw [h]
  split <;> rfl

/-- Row `r` of the point's rows: on a batch's first tile the leading block comes first. -/
theorem row_apply (r : Fin 640) (k : Fin 1024) :
    k0_pay2 i p s l (ix2 r k) = if (i 1).val = 0
      then (if h : r.val < 128 then l (ix2 ⟨r, h⟩ k)
        else if (i 0).val < 2 then p (ix2 ⟨r - 128, by omega⟩ k) else s (ix2 ⟨r - 128, by omega⟩ k))
      else if (i 0).val < 2 then p (ix2 r k) else s (ix2 r k) := by
  have h0 (x y : EReal) : Scalar.select (Scalar.cmpi .sge (BitVec.ofNat 32 (i 0).val) 2#32) x y = if (i 0).val < 2 then y else x :=
    second_group (i 0) x y
  have h1 (x y : EReal) : Scalar.select (Scalar.cmpi .eq (BitVec.ofNat 32 (i 1).val) 0#32) x y = if (i 1).val = 0 then x else y :=
    first_tile (i 1) x y
  pointwise [k0_pay2]
  simp only [h0, h1]

/-- Row `r` normalised. -/
theorem normed_apply (x : Fin 1024 → EReal) (r : Fin 640) (k : Fin 1024) (hx : ∀ d, k0_pay2 i p s l (ix2 r d) = x d) :
    k0_pay3 i p s l g (ix2 r k) = normed x (fun k => g (ix2 0 k)) k := by
  pointwise [k0_pay3]
  simp only [hx, normed, invRms, width, tiny]

/-- Row `r` after the feed-forward part. -/
theorem fed_apply (x gain : Fin 1024 → EReal)
    (w : Fin 1024 → Fin 5632 → EReal) (v : Fin 2816 → Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (u : Fin 1) (r : Fin 640) (d : Fin 1024)
    (hx : ∀ d, k0_pay2 i p s l (ix2 r d) = x d) (hg : ∀ k, g (ix2 0 k) = gain k)
    (hg₁ : ∀ k (j : Fin 1536), wg₁ (ix2 k j) = w k ⟨j, by omega⟩) (hu₁ : ∀ k (j : Fin 1536), wu₁ (ix2 k j) = w k ⟨2816 + j, by omega⟩)
    (hv₁ : ∀ (j : Fin 1536) d, v₁ (ix2 j d) = v ⟨j, by omega⟩ d)
    (hg₂ : ∀ k (j : Fin 1280), wg₂ (ix2 k j) = w k ⟨1536 + j, by omega⟩) (hu₂ : ∀ k (j : Fin 1280), wu₂ (ix2 k j) = w k ⟨4352 + j, by omega⟩)
    (hv₂ : ∀ (j : Fin 1280) d, v₂ (ix2 j d) = v ⟨1536 + j, by omega⟩ d) :
    k0_pay1 (k0_pay2 i p s l) (k0_pay3 i p s l g) (k0_pay4 i p s l g wg₁ wu₁) v₁ wg₂ wu₂ v₂ (ix3 u r d) = ffn x gain w v d := by
  have hn (k : Fin 1024) : k0_pay3 i p s l g (ix2 r k) = normed x gain k := by
    rw [normed_apply i p s l g x r k hx]
    simp only [hg]
  refine Eq.trans ?_ (ffn_chunks x gain w v d)
  pointwise [k0_pay1, k0_pay4]
  simp only [hx, hn, hg₁, hu₁, hv₁, hg₂, hu₂, hv₂, unit, gated, half]

end Payloads

/-! ## The blocks -/

variable (m : (ℓ : Loc nD τ sig) → Buf (Elt Ideal) ℓ) (c : Dev nD)

/-- Where the weights' windows and the result's stand at each grid point: the leading block and the weights whole, the
    result at block `(t / 13, t % 13)`. -/
theorem idx : ∀ t, win0_2.index t = ![0, 0] ∧ win0_3.index t = ![0, 0] ∧ win0_4.index t = ![0, 0]
    ∧ win0_5.index t = ![0, 0] ∧ win0_6.index t = ![t.val / 13, t.val % 13, 0] := by decide +kernel

/-- Where the first group's window stands at a point of that group: at the element row of the point's own tokens. -/
theorem idx_first : ∀ t : Fin cfg0.N, t.val / 13 < 2 → win0_0.index t = ![t.val / 13 * 8192 + (t.val % 13 * 640 - 128), 0] := by
  decide +kernel

/-- Where the second group's window stands at a point of that group. -/
theorem idx_second : ∀ t : Fin cfg0.N, ¬t.val / 13 < 2 →
    win0_1.index t = ![(t.val / 13 - 2) * 8192 + (t.val % 13 * 640 - 128), 0] := by
  decide +kernel

/-- The two coordinates of a grid point. -/
theorem point : ∀ t : Fin cfg0.N, (grid0.coords t 0).val = t.val / 13 ∧ (grid0.coords t 1).val = t.val % 13 := by
  decide +kernel

/-- The batch that grid point `t` works on. -/
def batch (t : Fin cfg0.N) : Fin 10 := ⟨t.val / 13, by have : t.val < 130 := t.isLt; omega⟩

/-- The token that row `r` of grid point `t`'s block is. -/
def token (t : Fin cfg0.N) (r : Fin 640) : Fin 8320 := ⟨t.val % 13 * 640 + r, by omega⟩

/-- An element of a group's window sits at the window's element row plus its own. -/
theorem place0 (t : Fin cfg0.N) (y : S640x1024.Idx) (x : Fin 2) :
    (((View.whole main_v4).slice (win0_0.rect t)).emb y x : ℕ) = win0_0.index t x + y x := win0_0.rect_emb_val_off t y x
theorem place1 (t : Fin cfg0.N) (y : S640x1024.Idx) (x : Fin 2) :
    (((View.whole main_v5).slice (win0_1.rect t)).emb y x : ℕ) = win0_1.index t x + y x := win0_1.rect_emb_val_off t y x

/-- At a point of the first group its window holds the point's tokens. -/
theorem first_block (t : Fin cfg0.N) (h : t.val / 13 < 2) (r : Fin 640) (k : Fin 1024) :
    iblk m c 0 t (ix2 r k) = m (c.tc.loc main_arg0) (ix3 ⟨t.val / 13, h⟩ ⟨t.val % 13 * 640 - 128 + r, by omega⟩ k) := by
  blk_ext! [iblk, V]
  all_goals erw [place0, idx_first t h]
  all_goals simp
  all_goals omega

/-- At a point of the second group its window holds the point's tokens. -/
theorem second_block (t : Fin cfg0.N) (h : ¬t.val / 13 < 2) (r : Fin 640) (k : Fin 1024) :
    iblk m c 1 t (ix2 r k) = m (c.tc.loc main_arg1) (ix3 ⟨t.val / 13 - 2, by have : t.val < 130 := t.isLt; omega⟩
      ⟨t.val % 13 * 640 - 128 + r, by omega⟩ k) := by
  have : t.val < 130 := t.isLt
  blk_ext! [iblk, V]
  all_goals erw [place1, idx_second t h]
  all_goals simp
  all_goals omega

/-- A row of the leading block: 112 rows of zeros, then the meta tokens. -/
def lead (r : Fin 128) (k : Fin 1024) : EReal :=
  if h : r.val < 112 then 0 else m (c.tc.loc main_arg2) (ix2 ⟨r - 112, by omega⟩ k)

/-- The leading block's window holds it. -/
theorem lead_block (t : Fin cfg0.N) (r : Fin 128) (k : Fin 1024) : iblk m c 2 t (ix2 r k) = lead m c r k := by
  have e : iblk m c 2 t (ix2 r k) = V m c main_v1 (ix2 r k) := by
    blk_ext [iblk, idx t]
  have v : V m c main_v1 = concatenate S128x1024 0 [⟨S112x1024, broadcastInDim S112x1024 ![] bcast_S_S112x1024
      (constant (F := Ideal) S_ .f32 0x00000000#32)⟩, ⟨S16x1024, m (c.tc.loc main_arg2)⟩]
      concatenates_S112x1024_S16x1024_S128x1024_d0 := rfl
  rw [e, v]
  pointwise [lead]

/-- The gains of the feed-forward part's norm. -/
theorem gain_block (t : Fin cfg0.N) (k : Fin 1024) : iblk m c 3 t (ix2 0 k) = m (c.tc.loc main_arg3) (ix1 k) := by
  blk_ext! [iblk, V, idx t]

/-- The widening weights' block holds them all. -/
theorem widen_block (t : Fin cfg0.N) (k : Fin 1024) (j : Fin 5632) :
    iblk m c 4 t (ix2 k j) = m (c.tc.loc main_arg4) (ix2 k j) := by
  blk_ext! [iblk, V, idx t]

/-- The narrowing weights' block holds them all. -/
theorem narrow_block (t : Fin cfg0.N) (j : Fin 2816) (d : Fin 1024) :
    iblk m c 5 t (ix2 j d) = m (c.tc.loc main_arg5) (ix2 j d) := by
  blk_ext! [iblk, V, idx t]

/-- The loads from the weights' blocks: columns 0 to 1535 and 1536 to 2815 of the gates, the same of the values
    (2816 columns further on), rows 0 to 1535 and 1536 to 2815 of the narrowing weights. -/
theorem gate_first (t : Fin cfg0.N) (k : Fin 1024) (j : Fin 1536) :
    (View.ld (iblk m c 4 t) r0_3 : Vec Ideal S1024x1536 .bf16) (ix2 k j) = m (c.tc.loc main_arg4) (ix2 k ⟨j, by omega⟩) := by
  pointwise
  exact widen_block m c t _ _
theorem value_first (t : Fin cfg0.N) (k : Fin 1024) (j : Fin 1536) :
    (View.ld (iblk m c 4 t) r0_4 : Vec Ideal S1024x1536 .bf16) (ix2 k j) = m (c.tc.loc main_arg4) (ix2 k ⟨2816 + j, by omega⟩) := by
  pointwise
  exact widen_block m c t _ _
theorem gate_second (t : Fin cfg0.N) (k : Fin 1024) (j : Fin 1280) :
    (View.ld (iblk m c 4 t) r0_6 : Vec Ideal S1024x1280 .bf16) (ix2 k j) = m (c.tc.loc main_arg4) (ix2 k ⟨1536 + j, by omega⟩) := by
  pointwise
  exact widen_block m c t _ _
theorem value_second (t : Fin cfg0.N) (k : Fin 1024) (j : Fin 1280) :
    (View.ld (iblk m c 4 t) r0_7 : Vec Ideal S1024x1280 .bf16) (ix2 k j) = m (c.tc.loc main_arg4) (ix2 k ⟨4352 + j, by omega⟩) := by
  pointwise
  exact widen_block m c t _ _
theorem narrow_first (t : Fin cfg0.N) (j : Fin 1536) (d : Fin 1024) :
    (View.ld (iblk m c 5 t) r0_5 : Vec Ideal S1536x1024 .bf16) (ix2 j d) = m (c.tc.loc main_arg5) (ix2 ⟨j, by omega⟩ d) := by
  pointwise
  exact narrow_block m c t _ _
theorem narrow_second (t : Fin cfg0.N) (j : Fin 1280) (d : Fin 1024) :
    (View.ld (iblk m c 5 t) r0_8 : Vec Ideal S1280x1024 .bf16) (ix2 j d) = m (c.tc.loc main_arg5) (ix2 ⟨1536 + j, by omega⟩ d) := by
  pointwise
  exact narrow_block m c t _ _

/-- The place of the result block's element. -/
theorem out_place (t : Fin cfg0.N) (u : Fin 1) (r : Fin 640) (d : Fin 1024) :
    ((View.whole main_v7).slice (win0_6.rect t)).emb (ix3 u r d) = ix3 (batch t) (token t r) d := by
  blk_ext [idx t, batch, token]

/-! ## The result array -/

/-- A token's row: the leading block, then the requests' own tokens, the first group's batches before the second's. -/
def row (b : Fin 10) (t : Fin 8320) (k : Fin 1024) : EReal :=
  if h : t.val < 128 then lead m c ⟨t, h⟩ k
  else if hb : b.val < 2 then m (c.tc.loc main_arg0) (ix3 ⟨b, hb⟩ ⟨t - 128, by omega⟩ k)
  else m (c.tc.loc main_arg1) (ix3 ⟨b - 2, by omega⟩ ⟨t - 128, by omega⟩ k)

/-- The result: the feed-forward part of every token. -/
def result : S10x8320x1024.Idx → EReal := fun i =>
  ffn (row m c (i 0) (i 1)) (fun k => m (c.tc.loc main_arg3) (ix1 k)) (fun k j => m (c.tc.loc main_arg4) (ix2 k j))
    (fun j d => m (c.tc.loc main_arg5) (ix2 j d)) (i 2)

/-- The rows the body works on are the tokens' rows. -/
theorem row_block (t : Fin cfg0.N) (r : Fin 640) (k : Fin 1024) :
    k0_pay2 (grid0.coords t) (iblk m c 0 t) (iblk m c 1 t) (iblk m c 2 t) (ix2 r k) = row m c (batch t) (token t r) k := by
  rw [row_apply, (point t).1, (point t).2]
  unfold row
  by_cases h0 : t.val % 13 = 0
  · rw [if_pos h0]
    by_cases hr : r.val < 128
    · rw [dif_pos hr, dif_pos (by simp only [token]; omega), lead_block]
      congr 1
      exact Fin.ext (by simp only [token]; omega)
    · rw [dif_neg hr, dif_neg (by simp only [token]; omega)]
      by_cases hb : t.val / 13 < 2
      · rw [if_pos hb, dif_pos (by simpa only [batch] using hb), first_block m c t hb]
        congr 2
        exact Fin.ext (by simp only [token]; omega)
      · rw [if_neg hb, dif_neg (by simpa only [batch] using hb), second_block m c t hb]
        congr 2
        exact Fin.ext (by simp only [token]; omega)
  · rw [if_neg h0, dif_neg (by simp only [token]; omega)]
    by_cases hb : t.val / 13 < 2
    · rw [if_pos hb, dif_pos (by simpa only [batch] using hb), first_block m c t hb]
      congr 2
      exact Fin.ext (by simp only [token]; omega)
    · rw [if_neg hb, dif_neg (by simpa only [batch] using hb), second_block m c t hb]
      congr 2
      exact Fin.ext (by simp only [token]; omega)

/-- The kernel's result array after the run. -/
theorem kernel_result : (dats m 0 c).arrAt 6 (cfgs 0).N = result m c := by
  refine (dats m 0 c).arrAt_eq_of_covers 6 _ (by decide +kernel) fun t hf y => ?_
  blk_simp
  rw [after0_6]
  frame_out
  idx_vars y
  refine Eq.trans ?_ (congrArg (result m c) (out_place t y0 y1 y2).symm)
  exact fed_apply _ _ _ _ _ _ _ _ _ _ _ _ _ _ _ y0 y1 y2 (row_block m c t y1) (gain_block m c t)
      (gate_first m c t) (value_first m c t) (narrow_first m c t) (gate_second m c t) (value_second m c t) (narrow_second m c t)

end Cert.FirstIdeal.Rows

/-! ## The reference, a stage at a time -/

namespace Cert.FirstRefIdeal.Rows

open Cert.FirstRefIdeal Cert.FirstRefIdeal.Gen Idealize.ShloMosaic Idealize.ShloMosaic.TcCoe Idealize.SL.Sem
open Cert.FeedForward

/-- The rows with the leading block put in front. -/
def start (p : FVec Ideal S2x8192x1024 .f32) (s : FVec Ideal S8x8192x1024 .f32) (l : FVec Ideal S16x1024 .f32) :
    FVec Ideal S10x8320x1024 .f32 :=
  concatenate S10x8320x1024 1 [⟨S10x128x1024, (broadcastInDim S10x128x1024 ![0, 1, 2] bcast_S1x128x1024_S10x128x1024_0_1_2 (broadcastInDim S1x128x1024 ![1, 2] bcast_S128x1024_S1x128x1024_1_2 (concatenate S128x1024 0 [⟨S112x1024, (broadcastInDim S112x1024 ![] bcast_S_S112x1024 (constant S_ .f32 0x00000000#32))⟩, ⟨S16x1024, l⟩] concatenates_S112x1024_S16x1024_S128x1024_d0)))⟩, ⟨S10x8192x1024, (concatenate S10x8192x1024 0 [⟨S2x8192x1024, p⟩, ⟨S8x8192x1024, s⟩] concatenates_S2x8192x1024_S8x8192x1024_S10x8192x1024_d0)⟩] concatenates_S10x128x1024_S10x8192x1024_S10x8320x1024_d1

/-- The rows `y` normalised, with the gains `g`. -/
def norms (y : FVec Ideal S10x8320x1024 .f32) (g : FVec Ideal S1024 .f32) : FVec Ideal S10x8320x1024 .f32 :=
  mulf (mulf y (broadcastInDim S10x8320x1024 ![0, 1, 2] bcast_S10x8320x1_S10x8320x1024_0_1_2 (Host.rsqrt (addf (Host.divf (broadcastInDim S10x8320x1 ![0, 1] bcast_S10x8320_S10x8320x1_0_1 (Host.reduceAdd (mulf y y) (constant S_ .f32 0x00000000#32) reducesTo_S10x8320x1024_S10x8320_d2 h_S_)) (broadcastInDim S10x8320x1 ![] bcast_S_S10x8320x1 (constant S_ .f32 0x44800000#32))) (broadcastInDim S10x8320x1 ![] bcast_S_S10x8320x1 (constant S_ .f32 0x358637BD#32)))))) (broadcastInDim S10x8320x1024 ![0, 1, 2] bcast_S1x1x1024_S10x8320x1024_0_1_2 (broadcastInDim S1x1x1024 ![2] bcast_S1024_S1x1x1024_2 g))

/-- The normalised rows `n` widened by `w`. -/
def widened (n : FVec Ideal S10x8320x1024 .f32) (w : FVec Ideal S1024x5632 .f32) : FVec Ideal S10x8320x5632 .f32 :=
  Host.dotGeneral dot_S10x8320x1024_S1024x5632_S10x8320x5632_2_0_01_1_n_n none n w

/-- The rows `y` after the feed-forward part whose widened rows are `p`, narrowed by `v`. -/
def feed (y : FVec Ideal S10x8320x1024 .f32) (p : FVec Ideal S10x8320x5632 .f32) (v : FVec Ideal S2816x1024 .f32) : FVec Ideal S10x8320x1024 .f32 :=
  addf y (mulf (broadcastInDim S10x8320x1024 ![] bcast_S_S10x8320x1024 (constant S_ .f32 0x3F000000#32)) (Host.dotGeneral dot_S10x8320x2816_S2816x1024_S10x8320x1024_2_0_01_1_n_n none (mulf (mulf (extractStridedSlice S10x8320x2816 ![0, 0, 0] p slices_S10x8320x5632_S10x8320x2816_0_0_0) (Host.divf (broadcastInDim S10x8320x2816 ![] bcast_S_S10x8320x2816 (constant S_ .f32 0x3F800000#32)) (addf (broadcastInDim S10x8320x2816 ![] bcast_S_S10x8320x2816 (constant S_ .f32 0x3F800000#32)) (Host.exp (Host.negf (extractStridedSlice S10x8320x2816 ![0, 0, 0] p slices_S10x8320x5632_S10x8320x2816_0_0_0)))))) (extractStridedSlice S10x8320x2816 ![0, 0, 2816] p slices_S10x8320x5632_S10x8320x2816_0_0_2816)) v))

theorem norms_apply (y : FVec Ideal S10x8320x1024 .f32) (g : FVec Ideal S1024 .f32) (b : Fin 10) (t : Fin 8320) (k : Fin 1024) :
    norms y g (ix3 b t k) = normed (fun k => y (ix3 b t k)) (fun k => g (ix1 k)) k := by
  pointwise [norms]
  simp only [normed, invRms, width, tiny]

/-- The feed-forward part of the reference, at one feature of one token. -/
theorem feed_apply (y : FVec Ideal S10x8320x1024 .f32) (g : FVec Ideal S1024 .f32) (w : FVec Ideal S1024x5632 .f32)
    (v : FVec Ideal S2816x1024 .f32) (b : Fin 10) (t : Fin 8320) (d : Fin 1024) :
    feed y (widened (norms y g) w) v (ix3 b t d) = ffn (fun k => y (ix3 b t k)) (fun k => g (ix1 k))
      (fun k j => w (ix2 k j)) (fun j d => v (ix2 j d)) d := by
  pointwise [feed, widened]
  simp only [norms_apply, ffn, unit, gated, half]
  rfl

/-- A token's row in the reference: the leading block, then the requests' own tokens. -/
theorem start_apply (p : FVec Ideal S2x8192x1024 .f32) (s : FVec Ideal S8x8192x1024 .f32) (l : FVec Ideal S16x1024 .f32)
    (b : Fin 10) (t : Fin 8320) (k : Fin 1024) :
    start p s l (ix3 b t k) = if h : t.val < 128
      then (if h : t.val < 112 then 0 else l (ix2 ⟨t - 112, by omega⟩ k))
      else if hb : b.val < 2 then p (ix3 ⟨b, hb⟩ ⟨t - 128, by omega⟩ k)
      else s (ix3 ⟨b - 2, by omega⟩ ⟨t - 128, by omega⟩ k) := by
  pointwise [start]

/-- The reference's result is these stages one after the other. -/
theorem result_stages (m : (ℓ : Loc nD τ sig) → Buf (Elt Ideal) ℓ) (c : Dev nD) :
    Value.res_out0 m c = feed (start (m (c.tc.loc main_arg0)) (m (c.tc.loc main_arg1)) (m (c.tc.loc main_arg2))) (widened (norms (start (m (c.tc.loc main_arg0)) (m (c.tc.loc main_arg1)) (m (c.tc.loc main_arg2))) (m (c.tc.loc main_arg3))) (m (c.tc.loc main_arg4))) (m (c.tc.loc main_arg5)) := rfl

end Cert.FirstRefIdeal.Rows

namespace Cert.Proof

open Idealize.ShloMosaic Idealize.SL.Sem

/-- The kernel and the reference end with equal result arrays. -/
theorem first : Cert.algebraic_FirstIdeal_FirstRefIdeal := by
  intro m g m' g' _ hagree
  refine ⟨fun c => Cert.FirstIdeal.Rows.result m c, ?_, ?_⟩
  · exact (θ_run Cert.FirstIdeal.defs _ _).mono
      (fun _ h c => ⟨(h c).1.trans (Cert.FirstIdeal.Rows.kernel_result m c), (h c).2⟩)
      (Cert.FirstIdeal.Value.run_blocks m g)
  · refine (θ_run Cert.FirstRefIdeal.defs _ _).mono (fun _ h c => ⟨(h c).1.trans ?_, (h c).2⟩)
      (Cert.FirstRefIdeal.Value.run m' g')
    obtain ⟨h0, h1, h2, h3, h4, h5⟩ := hagree c
    refine (Cert.FirstRefIdeal.Rows.result_stages m' c).trans ?_
    rw [h0, h1, h2, h3, h4, h5]
    funext i
    idx_vars i
    refine (Cert.FirstRefIdeal.Rows.feed_apply _ _ _ _ i0 i1 i2).trans ?_
    simp only [Cert.FirstRefIdeal.Rows.start_apply]
    rfl

end Cert.Proof
-- ==== Proof.Mixed.lean ====
module

public import proofs.«01_k».proof.Proof.FeedForward
public import proofs.«01_k».proof.Proof.Gen.MixedRefIdeal.Run
public import proofs.«01_k».proof.Proof.Gen.MixedIdeal.Value
public import proofs.«01_k».proof.Defs
public import Idealize.ShloMosaic.Lib.Pipeline.ValueKit
public import Idealize.ShloMosaic.Lib.Pointwise

@[expose] public section

/-! The first layer's output projection and second feed-forward part, on all ten batches and all their 8320 rows.
    The kernel's result array and the reference's are the same function of the arguments. -/

set_option maxRecDepth 16384

noncomputable section

namespace Cert.MixedIdeal.Rows

open Cert.MixedIdeal Cert.MixedIdeal.Gen Idealize.ShloMosaic Idealize.ShloMosaic.TcCoe Idealize.SL.Sem
open Cert.FeedForward

/-! ## What the body computes of its blocks -/

section Payloads

variable (h : Vec Ideal S1x640x1024 .f32) (a : Vec Ideal S1x640x512 .bf16) (wa : Vec Ideal S512x1024 .bf16)
  (b : Vec Ideal S1x640x256 .bf16) (wb : Vec Ideal S256x1024 .bf16) (e : Vec Ideal S1x640x256 .bf16)
  (we : Vec Ideal S256x1024 .bf16) (g : Vec Ideal S1x1024 .f32)

/-- Row `r` of the block after the output projection. -/
theorem projected_apply (w : Fin 1024 → Fin 1024 → EReal) (r : Fin 640) (d : Fin 1024)
    (ha : ∀ (k : Fin 512) d, wa (ix2 k d) = w ⟨k, by omega⟩ d) (hb : ∀ (k : Fin 256) d, wb (ix2 k d) = w ⟨512 + k, by omega⟩ d)
    (he : ∀ (k : Fin 256) d, we (ix2 k d) = w ⟨768 + k, by omega⟩ d) :
    k0_pay1 h a wa b wb e we (ix2 r d) = mixed (fun k => h (ix3 0 r k)) (fun k => a (ix3 0 r k)) (fun k => b (ix3 0 r k))
      (fun k => e (ix3 0 r k)) w d := by
  pointwise [k0_pay1]
  simp only [ha, hb, he, mixed]

/-- Row `r` scaled to mean square one, before the gains. -/
theorem scaled_apply (x : Fin 1024 → EReal) (r : Fin 640) (k : Fin 1024)
    (hx : ∀ d, k0_pay1 h a wa b wb e we (ix2 r d) = x d) :
    k0_pay3 h a wa b wb e we (ix2 r k) = x k * invRms x := by
  pointwise [k0_pay3]
  simp only [hx, invRms, width, tiny]

/-- Row `r` after the feed-forward part. -/
theorem fed_apply (y n : FVec Ideal S640x1024 .f32) (x gain : Fin 1024 → EReal)
    (w : Fin 1024 → Fin 5632 → EReal) (v : Fin 2816 → Fin 1024 → EReal)
    (wg₁ wu₁ : Vec Ideal S1024x1536 .bf16) (v₁ : Vec Ideal S1536x1024 .bf16) (wg₂ wu₂ : Vec Ideal S1024x1280 .bf16)
    (v₂ : Vec Ideal S1280x1024 .bf16) (u : Fin 1) (r : Fin 640) (d : Fin 1024)
    (hy : ∀ d, y (ix2 r d) = x d) (hn : ∀ k, n (ix2 r k) = x k * invRms x) (hg : ∀ k, g (ix2 0 k) = gain k)
    (hg₁ : ∀ k (j : Fin 1536), wg₁ (ix2 k j) = w k ⟨j, by omega⟩) (hu₁ : ∀ k (j : Fin 1536), wu₁ (ix2 k j) = w k ⟨2816 + j, by omega⟩)
    (hv₁ : ∀ (j : Fin 1536) d, v₁ (ix2 j d) = v ⟨j, by omega⟩ d)
    (hg₂ : ∀ k (j : Fin 1280), wg₂ (ix2 k j) = w k ⟨1536 + j, by omega⟩) (hu₂ : ∀ k (j : Fin 1280), wu₂ (ix2 k j) = w k ⟨4352 + j, by omega⟩)
    (hv₂ : ∀ (j : Fin 1280) d, v₂ (ix2 j d) = v ⟨1536 + j, by omega⟩ d) :
    k0_pay4 y (k0_pay2 g) n wg₁ wu₁ v₁ wg₂ wu₂ v₂ (ix3 u r d) = ffn x gain w v d := by
  refine Eq.trans ?_ (ffn_chunks x gain w v d)
  pointwise [k0_pay4, k0_pay2]
  simp only [hy, hn, hg, hg₁, hu₁, hv₁, hg₂, hu₂, hv₂, unit, gated, half, normed]

end Payloads

/-! ## The blocks -/

variable (m : (ℓ : Loc nD τ sig) → Buf (Elt Ideal) ℓ) (c : Dev nD)

/-- Where each window stands at each grid point: the four windows of tokens and the result at block
    `(t / 13, t % 13)`, the weights whole. -/
theorem idx : ∀ t, win0_0.index t = ![t.val / 13, t.val % 13, 0] ∧ win0_1.index t = ![t.val / 13, t.val % 13, 0]
    ∧ win0_2.index t = ![t.val / 13, t.val % 13, 0] ∧ win0_3.index t = ![t.val / 13, t.val % 13, 0]
    ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![t.val / 13, t.val % 13, 0] := by decide +kernel

/-- The batch that grid point `t` works on. -/
def batch (t : Fin cfg0.N) : Fin 10 := ⟨t.val / 13, by have : t.val < 130 := t.isLt; omega⟩

/-- The token that row `r` of grid point `t`'s block is. -/
def token (t : Fin cfg0.N) (r : Fin 640) : Fin 8320 := ⟨t.val % 13 * 640 + r, by omega⟩

/-- The windows of tokens hold the rows of the point's tile. -/
theorem rows_block (t : Fin cfg0.N) (r : Fin 640) (k : Fin 1024) :
    iblk m c 0 t (ix3 0 r k) = m (c.tc.loc main_arg0) (ix3 (batch t) (token t r) k) := by
  blk_ext [iblk, V, idx t, batch, token]
theorem a_block (t : Fin cfg0.N) (r : Fin 640) (k : Fin 512) :
    iblk m c 1 t (ix3 0 r k) = m (c.tc.loc main_arg1) (ix3 (batch t) (token t r) k) := by
  blk_ext [iblk, V, idx t, batch, token]
theorem b_block (t : Fin cfg0.N) (r : Fin 640) (k : Fin 256) :
    iblk m c 2 t (ix3 0 r k) = m (c.tc.loc main_arg2) (ix3 (batch t) (token t r) k) := by
  blk_ext [iblk, V, idx t, batch, token]
theorem c_block (t : Fin cfg0.N) (r : Fin 640) (k : Fin 256) :
    iblk m c 3 t (ix3 0 r k) = m (c.tc.loc main_arg3) (ix3 (batch t) (token t r) k) := by
  blk_ext [iblk, V, idx t, batch, token]

/-- The three blocks of projection weights hold rows 0 to 511, 512 to 767 and 768 to 1023 of them. -/
theorem wa_block (t : Fin cfg0.N) (k : Fin 512) (d : Fin 1024) :
    iblk m c 4 t (ix2 k d) = m (c.tc.loc main_arg4) (ix2 ⟨k, by omega⟩ d) := by
  blk_ext! [iblk, V, idx t]
theorem wb_block (t : Fin cfg0.N) (k : Fin 256) (d : Fin 1024) :
    iblk m c 5 t (ix2 k d) = m (c.tc.loc main_arg4) (ix2 ⟨512 + k, by omega⟩ d) := by
  blk_ext! [iblk, V, idx t]
theorem wc_block (t : Fin cfg0.N) (k : Fin 256) (d : Fin 1024) :
    iblk m c 6 t (ix2 k d) = m (c.tc.loc main_arg4) (ix2 ⟨768 + k, by omega⟩ d) := by
  blk_ext! [iblk, V, idx t]

/-- The gains of the feed-forward part's norm. -/
theorem gain_block (t : Fin cfg0.N) (k : Fin 1024) : iblk m c 7 t (ix2 0 k) = m (c.tc.loc main_arg5) (ix1 k) := by
  blk_ext! [iblk, V, idx t]

/-- The widening weights' block holds them all. -/
theorem widen_block (t : Fin cfg0.N) (k : Fin 1024) (j : Fin 5632) :
    iblk m c 8 t (ix2 k j) = m (c.tc.loc main_arg6) (ix2 k j) := by
  blk_ext! [iblk, V, idx t]

/-- The narrowing weights' block holds them all. -/
theorem narrow_block (t : Fin cfg0.N) (j : Fin 2816) (d : Fin 1024) :
    iblk m c 9 t (ix2 j d) = m (c.tc.loc main_arg7) (ix2 j d) := by
  blk_ext! [iblk, V, idx t]

/-- The loads from the weights' blocks: columns 0 to 1535 and 1536 to 2815 of the gates, the same of the values
    (2816 columns further on), rows 0 to 1535 and 1536 to 2815 of the narrowing weights. -/
theorem gate_first (t : Fin cfg0.N) (k : Fin 1024) (j : Fin 1536) :
    (View.ld (iblk m c 8 t) r0_6 : Vec Ideal S1024x1536 .bf16) (ix2 k j) = m (c.tc.loc main_arg6) (ix2 k ⟨j, by omega⟩) := by
  pointwise
  exact widen_block m c t _ _
theorem value_first (t : Fin cfg0.N) (k : Fin 1024) (j : Fin 1536) :
    (View.ld (iblk m c 8 t) r0_7 : Vec Ideal S1024x1536 .bf16) (ix2 k j) = m (c.tc.loc main_arg6) (ix2 k ⟨2816 + j, by omega⟩) := by
  pointwise
  exact widen_block m c t _ _
theorem gate_second (t : Fin cfg0.N) (k : Fin 1024) (j : Fin 1280) :
    (View.ld (iblk m c 8 t) r0_9 : Vec Ideal S1024x1280 .bf16) (ix2 k j) = m (c.tc.loc main_arg6) (ix2 k ⟨1536 + j, by omega⟩) := by
  pointwise
  exact widen_block m c t _ _
theorem value_second (t : Fin cfg0.N) (k : Fin 1024) (j : Fin 1280) :
    (View.ld (iblk m c 8 t) r0_10 : Vec Ideal S1024x1280 .bf16) (ix2 k j) = m (c.tc.loc main_arg6) (ix2 k ⟨4352 + j, by omega⟩) := by
  pointwise
  exact widen_block m c t _ _
theorem narrow_first (t : Fin cfg0.N) (j : Fin 1536) (d : Fin 1024) :
    (View.ld (iblk m c 9 t) r0_8 : Vec Ideal S1536x1024 .bf16) (ix2 j d) = m (c.tc.loc main_arg7) (ix2 ⟨j, by omega⟩ d) := by
  pointwise
  exact narrow_block m c t _ _
theorem narrow_second (t : Fin cfg0.N) (j : Fin 1280) (d : Fin 1024) :
    (View.ld (iblk m c 9 t) r0_11 : Vec Ideal S1280x1024 .bf16) (ix2 j d) = m (c.tc.loc main_arg7) (ix2 ⟨1536 + j, by omega⟩ d) := by
  pointwise
  exact narrow_block m c t _ _

/-- The place of the result block's element. -/
theorem out_place (t : Fin cfg0.N) (u : Fin 1) (r : Fin 640) (d : Fin 1024) :
    ((View.whole main_v7).slice (win0_10.rect t)).emb (ix3 u r d) = ix3 (batch t) (token t r) d := by
  blk_ext [idx t, batch, token]

/-! ## The result array -/

/-- A token's row after the output projection of the three attentions' outputs. -/
def projected (b : Fin 10) (t : Fin 8320) : Fin 1024 → EReal :=
  mixed (fun k => m (c.tc.loc main_arg0) (ix3 b t k)) (fun k => m (c.tc.loc main_arg1) (ix3 b t k))
    (fun k => m (c.tc.loc main_arg2) (ix3 b t k)) (fun k => m (c.tc.loc main_arg3) (ix3 b t k))
    (fun k d => m (c.tc.loc main_arg4) (ix2 k d))

/-- The result: projection and feed-forward part of every token. -/
def result : S10x8320x1024.Idx → EReal := fun i =>
  ffn (projected m c (i 0) (i 1)) (fun k => m (c.tc.loc main_arg5) (ix1 k)) (fun k j => m (c.tc.loc main_arg6) (ix2 k j))
    (fun j d => m (c.tc.loc main_arg7) (ix2 j d)) (i 2)

/-- The kernel's result array after the run. -/
theorem kernel_result : (dats m 0 c).arrAt 10 (cfgs 0).N = result m c := by
  refine (dats m 0 c).arrAt_eq_of_covers 10 _ (by decide +kernel) fun t hf y => ?_
  blk_simp
  rw [after0_10]
  frame_out
  idx_vars y
  refine Eq.trans ?_ (congrArg (result m c) (out_place t y0 y1 y2).symm)
  have hp (d : Fin 1024) : k0_pay1 (iblk m c 0 t) (iblk m c 1 t) (iblk m c 4 t) (iblk m c 2 t) (iblk m c 5 t) (iblk m c 3 t)
      (iblk m c 6 t) (ix2 y1 d) = projected m c (batch t) (token t y1) d := by
    rw [projected_apply _ _ _ _ _ _ _ (fun k d => m (c.tc.loc main_arg4) (ix2 k d)) _ _ (wa_block m c t) (wb_block m c t) (wc_block m c t)]
    simp only [rows_block, a_block, b_block, c_block, projected]
  exact fed_apply _ _ _ _ _ _ _ _ _ _ _ _ _ y0 y1 y2 hp (fun k => scaled_apply _ _ _ _ _ _ _ _ _ _ hp) (gain_block m c t)
      (gate_first m c t) (value_first m c t) (narrow_first m c t) (gate_second m c t) (value_second m c t) (narrow_second m c t)

end Cert.MixedIdeal.Rows

/-! ## The reference, a stage at a time -/

namespace Cert.MixedRefIdeal.Rows

open Cert.MixedRefIdeal Cert.MixedRefIdeal.Gen Idealize.ShloMosaic Idealize.ShloMosaic.TcCoe Idealize.SL.Sem
open Cert.FeedForward

/-- The rows after the output projection. -/
def start (h : FVec Ideal S10x8320x1024 .f32) (a : FVec Ideal S10x8320x512 .bf16) (b : FVec Ideal S10x8320x256 .bf16) (e : FVec Ideal S10x8320x256 .bf16) (w : FVec Ideal S1024x1024 .f32) :
    FVec Ideal S10x8320x1024 .f32 :=
  addf h (Host.dotGeneral dot_S10x8320x1024_S1024x1024_S10x8320x1024_2_0_01_1_n_n none (extf .f32 ((concatenate S10x8320x1024 2 [⟨S10x8320x512, (a : (⟨S10x8320x512, .bf16⟩ : BufTy).Contents (Elt Ideal))⟩, ⟨S10x8320x256, (b : (⟨S10x8320x256, .bf16⟩ : BufTy).Contents (Elt Ideal))⟩, ⟨S10x8320x256, (e : (⟨S10x8320x256, .bf16⟩ : BufTy).Contents (Elt Ideal))⟩] concatenates_S10x8320x512_S10x8320x256_S10x8320x256_S10x8320x1024_d2 : (⟨S10x8320x1024, .bf16⟩ : BufTy).Contents (Elt Ideal))) bitsLt_bf16_f32) w)

/-- The rows `y` normalised, with the gains `g`. -/
def norms (y : FVec Ideal S10x8320x1024 .f32) (g : FVec Ideal S1024 .f32) : FVec Ideal S10x8320x1024 .f32 :=
  mulf (mulf y (broadcastInDim S10x8320x1024 ![0, 1, 2] bcast_S10x8320x1_S10x8320x1024_0_1_2 (Host.rsqrt (addf (Host.divf (broadcastInDim S10x8320x1 ![0, 1] bcast_S10x8320_S10x8320x1_0_1 (Host.reduceAdd (mulf y y) (constant S_ .f32 0x00000000#32) reducesTo_S10x8320x1024_S10x8320_d2 h_S_)) (broadcastInDim S10x8320x1 ![] bcast_S_S10x8320x1 (constant S_ .f32 0x44800000#32))) (broadcastInDim S10x8320x1 ![] bcast_S_S10x8320x1 (constant S_ .f32 0x358637BD#32)))))) (broadcastInDim S10x8320x1024 ![0, 1, 2] bcast_S1x1x1024_S10x8320x1024_0_1_2 (broadcastInDim S1x1x1024 ![2] bcast_S1024_S1x1x1024_2 g))

/-- The normalised rows `n` widened by `w`. -/
def widened (n : FVec Ideal S10x8320x1024 .f32) (w : FVec Ideal S1024x5632 .f32) : FVec Ideal S10x8320x5632 .f32 :=
  Host.dotGeneral dot_S10x8320x1024_S1024x5632_S10x8320x5632_2_0_01_1_n_n none n w

/-- The rows `y` after the feed-forward part whose widened rows are `p`, narrowed by `v`. -/
def feed (y : FVec Ideal S10x8320x1024 .f32) (p : FVec Ideal S10x8320x5632 .f32) (v : FVec Ideal S2816x1024 .f32) : FVec Ideal S10x8320x1024 .f32 :=
  addf y (mulf (broadcastInDim S10x8320x1024 ![] bcast_S_S10x8320x1024 (constant S_ .f32 0x3F000000#32)) (Host.dotGeneral dot_S10x8320x2816_S2816x1024_S10x8320x1024_2_0_01_1_n_n none (mulf (mulf (extractStridedSlice S10x8320x2816 ![0, 0, 0] p slices_S10x8320x5632_S10x8320x2816_0_0_0) (Host.divf (broadcastInDim S10x8320x2816 ![] bcast_S_S10x8320x2816 (constant S_ .f32 0x3F800000#32)) (addf (broadcastInDim S10x8320x2816 ![] bcast_S_S10x8320x2816 (constant S_ .f32 0x3F800000#32)) (Host.exp (Host.negf (extractStridedSlice S10x8320x2816 ![0, 0, 0] p slices_S10x8320x5632_S10x8320x2816_0_0_0)))))) (extractStridedSlice S10x8320x2816 ![0, 0, 2816] p slices_S10x8320x5632_S10x8320x2816_0_0_2816)) v))

theorem norms_apply (y : FVec Ideal S10x8320x1024 .f32) (g : FVec Ideal S1024 .f32) (b : Fin 10) (t : Fin 8320) (k : Fin 1024) :
    norms y g (ix3 b t k) = normed (fun k => y (ix3 b t k)) (fun k => g (ix1 k)) k := by
  pointwise [norms]
  simp only [normed, invRms, width, tiny]

/-- The feed-forward part of the reference, at one feature of one token. -/
theorem feed_apply (y : FVec Ideal S10x8320x1024 .f32) (g : FVec Ideal S1024 .f32) (w : FVec Ideal S1024x5632 .f32)
    (v : FVec Ideal S2816x1024 .f32) (b : Fin 10) (t : Fin 8320) (d : Fin 1024) :
    feed y (widened (norms y g) w) v (ix3 b t d) = ffn (fun k => y (ix3 b t k)) (fun k => g (ix1 k))
      (fun k j => w (ix2 k j)) (fun j d => v (ix2 j d)) d := by
  pointwise [feed, widened]
  simp only [norms_apply, ffn, unit, gated, half]
  rfl

/-- The output projection of the reference, at one feature of one token. -/
theorem start_apply (h : FVec Ideal S10x8320x1024 .f32) (a : FVec Ideal S10x8320x512 .bf16)
    (b e : FVec Ideal S10x8320x256 .bf16) (w : FVec Ideal S1024x1024 .f32) (i : Fin 10) (t : Fin 8320) (d : Fin 1024) :
    start h a b e w (ix3 i t d) = mixed (fun k => h (ix3 ⟨i, by omega⟩ t k)) (fun k => a (ix3 ⟨i, by omega⟩ t k))
      (fun k => b (ix3 ⟨i, by omega⟩ t k)) (fun k => e (ix3 ⟨i, by omega⟩ t k)) (fun k d => w (ix2 k d)) d := by
  pointwise [start]
  refine mixed_eq (fun k => h (ix3 ⟨i, by omega⟩ t k)) (fun k => a (ix3 ⟨i, by omega⟩ t k))
    (fun k => b (ix3 ⟨i, by omega⟩ t k)) (fun k => e (ix3 ⟨i, by omega⟩ t k)) (fun k d => w (ix2 k d)) d
    (fun x => if hx : x.val < 512 then a (ix3 ⟨i, by omega⟩ t ⟨x, hx⟩)
      else if hy : x.val - 512 < 256 then b (ix3 ⟨i, by omega⟩ t ⟨x - 512, hy⟩)
      else e (ix3 ⟨i, by omega⟩ t ⟨x - 512 - 256, by omega⟩)) (fun k => ?_) (fun k => ?_) (fun k => ?_)
  · rw [dif_pos k.isLt]
  · rw [dif_neg (by simp), dif_pos (by simp)]
    simp
  · rw [dif_neg (by simp; omega), dif_neg (by simp; omega)]
    congr 2
    exact Fin.ext (by simp; omega)

/-- The reference's result is these stages one after the other. -/
theorem result_stages (m : (ℓ : Loc nD τ sig) → Buf (Elt Ideal) ℓ) (c : Dev nD) :
    Value.res_out0 m c = feed (start (m (c.tc.loc main_arg0)) (m (c.tc.loc main_arg1)) (m (c.tc.loc main_arg2)) (m (c.tc.loc main_arg3)) (m (c.tc.loc main_arg4))) (widened (norms (start (m (c.tc.loc main_arg0)) (m (c.tc.loc main_arg1)) (m (c.tc.loc main_arg2)) (m (c.tc.loc main_arg3)) (m (c.tc.loc main_arg4))) (m (c.tc.loc main_arg5))) (m (c.tc.loc main_arg6))) (m (c.tc.loc main_arg7)) := rfl

end Cert.MixedRefIdeal.Rows

namespace Cert.Proof

open Idealize.ShloMosaic Idealize.SL.Sem

/-- The kernel and the reference end with equal result arrays. -/
theorem mixed : Cert.algebraic_MixedIdeal_MixedRefIdeal := by
  intro m g m' g' _ hagree
  refine ⟨fun c => Cert.MixedIdeal.Rows.result m c, ?_, ?_⟩
  · exact (θ_run Cert.MixedIdeal.defs _ _).mono
      (fun _ h c => ⟨(h c).1.trans (Cert.MixedIdeal.Rows.kernel_result m c), (h c).2⟩)
      (Cert.MixedIdeal.Value.run_blocks m g)
  · refine (θ_run Cert.MixedRefIdeal.defs _ _).mono (fun _ h c => ⟨(h c).1.trans ?_, (h c).2⟩)
      (Cert.MixedRefIdeal.Value.run m' g')
    obtain ⟨h0, h1, h2, h3, h4, h5, h6, h7⟩ := hagree c
    refine (Cert.MixedRefIdeal.Rows.result_stages m' c).trans ?_
    rw [h0, h1, h2, h3, h4, h5, h6, h7]
    funext i
    idx_vars i
    refine (Cert.MixedRefIdeal.Rows.feed_apply _ _ _ _ i0 i1 i2).trans ?_
    simp only [Cert.MixedRefIdeal.Rows.start_apply]
    rfl

end Cert.Proof
-- ==== Proof.Plain.lean ====
module

public import proofs.«01_k».proof.Proof.FeedForward
public import proofs.«01_k».proof.Proof.Gen.PlainRefIdeal.Run
public import proofs.«01_k».proof.Proof.Gen.PlainIdeal.Value
public import proofs.«01_k».proof.Defs
public import Idealize.ShloMosaic.Lib.Pipeline.ValueKit
public import Idealize.ShloMosaic.Lib.Pointwise

@[expose] public section

/-! The feed-forward call without projection: the kernel's result array and the reference's are the same
    function of the arguments. -/

set_option maxRecDepth 16384

noncomputable section

namespace Cert.PlainIdeal.Rows

open Cert.PlainIdeal Cert.PlainIdeal.Gen Idealize.ShloMosaic Idealize.ShloMosaic.TcCoe Idealize.SL.Sem
open Cert.FeedForward

variable (m : (ℓ : Loc nD τ sig) → Buf (Elt Ideal) ℓ) (c : Dev nD)

/-- The result: to every token of every batch one half of its feed-forward part is added. -/
def result : S10x8320x1024.Idx → EReal := fun i =>
  ffn (fun k => m (c.tc.loc main_arg0) (ix3 (i 0) (i 1) k)) (fun k => m (c.tc.loc main_arg1) (ix1 k))
    (fun k j => m (c.tc.loc main_arg2) (ix2 k j)) (fun j d => m (c.tc.loc main_arg3) (ix2 j d)) (i 2)

/-- Where each window stands at each of the 130 grid points: the rows at block `(t / 13, t % 13)`, the weights whole. -/
theorem idx : ∀ t, win0_0.index t = ![t.val / 13, t.val % 13, 0] ∧ win0_1.index t = ![0, 0] ∧ win0_2.index t = ![0, 0]
    ∧ win0_3.index t = ![0, 0] ∧ win0_4.index t = ![t.val / 13, t.val % 13, 0] := by decide +kernel

/-- The batch that grid point `t` works on. -/
def batch (t : Fin cfg0.N) : Fin 10 := ⟨t.val / 13, by have : t.val < 130 := t.isLt; omega⟩

/-- The token that row `r` of grid point `t`'s block is. -/
def token (t : Fin cfg0.N) (r : Fin 640) : Fin 8320 := ⟨t.val % 13 * 640 + r, by omega⟩

/-- The block of rows holds the tokens of the grid point. -/
theorem rows_block (t : Fin cfg0.N) (r : Fin 640) (k : Fin 1024) :
    iblk m c 0 t (ix3 0 r k) = m (c.tc.loc main_arg0) (ix3 (batch t) (token t r) k) := by
  blk_ext [iblk, V, idx t, batch, token]

/-- The gains' block holds the gains. -/
theorem gain_block (t : Fin cfg0.N) (k : Fin 1024) : iblk m c 1 t (ix2 0 k) = m (c.tc.loc main_arg1) (ix1 k) := by
  blk_ext! [iblk, V, idx t]

/-- The widening weights' block holds them all. -/
theorem widen_block (t : Fin cfg0.N) (k : Fin 1024) (j : Fin 5632) :
    iblk m c 2 t (ix2 k j) = m (c.tc.loc main_arg2) (ix2 k j) := by
  blk_ext! [iblk, V, idx t]

/-- The narrowing weights' block holds them all. -/
theorem narrow_block (t : Fin cfg0.N) (j : Fin 2816) (d : Fin 1024) :
    iblk m c 3 t (ix2 j d) = m (c.tc.loc main_arg3) (ix2 j d) := by
  blk_ext! [iblk, V, idx t]

/-- The place of the result block's element. -/
theorem out_place (t : Fin cfg0.N) (u : Fin 1) (r : Fin 640) (d : Fin 1024) :
    ((View.whole main_v3).slice (win0_4.rect t)).emb (ix3 u r d) = ix3 (batch t) (token t r) d := by
  blk_ext [idx t, batch, token]

/-- The kernel's result array after the run. -/
theorem kernel_result : (dats m 0 c).arrAt 4 (cfgs 0).N = result m c := by
  refine (dats m 0 c).arrAt_eq_of_covers 4 _ (by decide +kernel) fun t hf y => ?_
  blk_simp
  rw [after0_4]
  frame_out
  idx_vars y
  refine Eq.trans ?_ (congrArg (result m c) (out_place t y0 y1 y2).symm)
  unfold_payloads
  pointwise
  simp only [rows_block, gain_block, widen_block, narrow_block]
  refine Eq.trans ?_ (ffn_chunks (fun k => m (c.tc.loc main_arg0) (ix3 (batch t) (token t y1) k))
    (fun k => m (c.tc.loc main_arg1) (ix1 k)) (fun k j => m (c.tc.loc main_arg2) (ix2 k j))
    (fun j d => m (c.tc.loc main_arg3) (ix2 j d)) y2)
  simp only [unit, gated, normed, invRms, half, width, tiny]

end Cert.PlainIdeal.Rows

namespace Cert.Proof

open Idealize.ShloMosaic Idealize.SL.Sem

/-- The kernel and the reference end with equal result arrays. -/
theorem plain : Cert.algebraic_PlainIdeal_PlainRefIdeal := by
  intro m g m' g' _ hagree
  refine ⟨fun c => Cert.PlainIdeal.Rows.result m c, ?_, ?_⟩
  · exact (θ_run Cert.PlainIdeal.defs _ _).mono
      (fun _ h c => ⟨(h c).1.trans (Cert.PlainIdeal.Rows.kernel_result m c), (h c).2⟩)
      (Cert.PlainIdeal.Value.run_blocks m g)
  · refine (θ_run Cert.PlainRefIdeal.defs _ _).mono (fun _ h c => ⟨(h c).1.trans ?_, (h c).2⟩)
      (Cert.PlainRefIdeal.Value.run m' g')
    simp only [(hagree c).1, (hagree c).2.1, (hagree c).2.2.1, (hagree c).2.2.2]
    funext i
    idx_vars i
    pointwise
    rfl

end Cert.Proof
-- ==== Proof.Online.lean ====
module

public import Idealize.ShloMosaic.Lib.Pointwise

@[expose] public section

/-! Weighted means with exponential weights, taken tile by tile: a running maximum, a running sum of weights
    relative to it, and their weighted total, rescaled whenever the maximum rises. -/

noncomputable section

namespace Cert.Online

open Idealize.ShloMosaic

/-- The weight that a score has relative to a bound. -/
def weight (s m : EReal) : EReal := Ideal.exp (s - m)

/-- A weight is not negative. -/
theorem weight_nonneg (s m : EReal) : 0 ≤ weight s m := by
  unfold weight
  induction s - m using EReal.rec with
  | bot => exact le_rfl
  | top => exact le_top
  | coe r => exact EReal.coe_nonneg.2 (Real.exp_pos r).le

/-- A weight relative to an upper bound is finite. -/
theorem weight_ne_top {s m : EReal} (h : s ≤ m) : weight s m ≠ ⊤ := by
  unfold weight
  induction m using EReal.rec with
  | bot => rw [le_bot_iff.1 h]; exact EReal.zero_ne_top
  | top => rw [EReal.sub_top]; exact EReal.zero_ne_top
  | coe b =>
    induction s using EReal.rec with
    | bot => rw [EReal.bot_sub]; exact EReal.zero_ne_top
    | top => exact absurd h (not_le.2 (EReal.coe_lt_top b))
    | coe a => rw [← EReal.coe_sub]; exact EReal.coe_ne_top _

/-- Raising the bound from `a` to `b` multiplies the weight of a score by the weight of `a`. -/
theorem weight_raise {s a b : EReal} (h : s ≤ a) (k : a ≤ b) : weight a b * weight s a = weight s b := by
  unfold weight
  induction b using EReal.rec with
  | bot => rw [le_bot_iff.1 k, le_bot_iff.1 (h.trans k)]; exact zero_mul _
  | top => rw [EReal.sub_top, EReal.sub_top]; exact zero_mul _
  | coe b =>
    induction a using EReal.rec with
    | bot => rw [le_bot_iff.1 h, EReal.bot_sub]; exact zero_mul _
    | top => exact absurd k (not_le.2 (EReal.coe_lt_top b))
    | coe a =>
      induction s using EReal.rec with
      | bot => rw [EReal.bot_sub, EReal.bot_sub]; exact mul_zero _
      | top => exact absurd h (not_le.2 (EReal.coe_lt_top a))
      | coe s =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2
        ring

/-- A finite factor that is not negative multiplies a sum term by term. -/
theorem mul_sum_of_nonneg {ι : Type} (S : Finset ι) (x : EReal) (h0 : 0 ≤ x) (h1 : x ≠ ⊤) (f : ι → EReal) :
    x * ∑ i ∈ S, f i = ∑ i ∈ S, x * f i := by
  classical
  induction S using Finset.induction_on with
  | empty => simp
  | insert i S hi ih => rw [Finset.sum_insert hi, Finset.sum_insert hi, EReal.left_distrib_of_nonneg_of_ne_top h0 h1, ih]

variable {n : ℕ}

/-- The running maximum after the tiles `0, …, k`. -/
def top (s : ℕ → Fin n → EReal) : ℕ → EReal
  | 0 => Finset.univ.sup (s 0)
  | k + 1 => max (top s k) (Finset.univ.sup (s (k + 1)))

/-- The running weighted total after the tiles `0, …, k`. -/
def total (s v : ℕ → Fin n → EReal) : ℕ → EReal
  | 0 => ∑ r, weight (s 0 r) (top s 0) * v 0 r
  | k + 1 => weight (top s k) (top s (k + 1)) * total s v k + ∑ r, weight (s (k + 1) r) (top s (k + 1)) * v (k + 1) r

/-- No score of the tiles so far exceeds the running maximum. -/
theorem le_top_of (s : ℕ → Fin n → EReal) : ∀ (k j : ℕ) (r : Fin n), j ≤ k → s j r ≤ top s k
  | 0, j, r, h => by
    obtain rfl := Nat.le_zero.1 h
    exact Finset.le_sup (f := s 0) (Finset.mem_univ r)
  | k + 1, j, r, h => by
    rcases Nat.of_le_succ h with h | rfl
    · exact (le_top_of s k j r h).trans (le_max_left _ _)
    · exact (Finset.le_sup (f := s (k + 1)) (Finset.mem_univ r)).trans (le_max_right _ _)

/-- The running maximum is the least bound of the scores so far. -/
theorem top_le (s : ℕ → Fin n → EReal) (b : EReal) : ∀ k : ℕ, (∀ j ≤ k, ∀ r, s j r ≤ b) → top s k ≤ b
  | 0, h => Finset.sup_le fun r _ => h 0 le_rfl r
  | k + 1, h => max_le (top_le s b k fun j hj => h j (hj.trans (Nat.le_succ k))) (Finset.sup_le fun r _ => h (k + 1) le_rfl r)

/-- The running total is the weighted total of all tiles so far relative to the running maximum. -/
theorem total_eq (s v : ℕ → Fin n → EReal) : ∀ k : ℕ,
    total s v k = ∑ j ∈ Finset.range (k + 1), ∑ r, weight (s j r) (top s k) * v j r
  | 0 => by rw [Finset.sum_range_one]; rfl
  | k + 1 => by
    have hk : top s k ≤ top s (k + 1) := le_max_left _ _
    rw [Finset.sum_range_succ, total, total_eq s v k, mul_sum_of_nonneg _ _ (weight_nonneg _ _) (weight_ne_top hk)]
    refine congrArg (· + _) (Finset.sum_congr rfl fun j hj => ?_)
    rw [mul_sum_of_nonneg _ _ (weight_nonneg _ _) (weight_ne_top hk)]
    refine Finset.sum_congr rfl fun r _ => ?_
    rw [← mul_assoc, weight_raise (le_top_of s k j r (Nat.lt_succ_iff.1 (Finset.mem_range.1 hj))) hk]

/-- Scores listed in one row, cut into tiles of `n`; past the row's end, anything. -/
def tiles {N : ℕ} (f : Fin N → EReal) (j : ℕ) (r : Fin n) : EReal := if h : j * n + r < N then f ⟨j * n + r, h⟩ else ⊥

/-- Read inside the row, a tile holds the row's entries. -/
theorem tiles_apply {N : ℕ} (f : Fin N → EReal) (j : ℕ) (r : Fin n) (h : j * n + r < N) :
    tiles f j r = f ⟨j * n + r, h⟩ := dif_pos h

/-- The running maximum after all tiles is the row's maximum. -/
theorem top_tiles {N k : ℕ} (hN : (k + 1) * n = N) (s : Fin N → EReal) :
    top (tiles (n := n) s) k = Finset.univ.sup s := by
  apply le_antisymm
  · refine top_le _ _ _ fun j hj r => ?_
    unfold tiles
    split
    · exact Finset.le_sup (f := s) (Finset.mem_univ _)
    · exact bot_le
  · refine Finset.sup_le fun i _ => ?_
    have hn : 0 < n := by
      rcases Nat.eq_zero_or_pos n with rfl | h
      · exact absurd i.isLt (by omega)
      · exact h
    have hj : i.val / n ≤ k := Nat.lt_succ_iff.1 ((Nat.div_lt_iff_lt_mul hn).2 (by rw [hN]; exact i.isLt))
    have := le_top_of (tiles (n := n) s) k (i.val / n) ⟨i.val % n, Nat.mod_lt _ hn⟩ hj
    have e : i.val / n * n + i.val % n = i.val := Nat.div_add_mod' _ _
    rw [tiles_apply s _ _ (by show i.val / n * n + i.val % n < N; rw [e]; exact i.isLt)] at this
    refine le_trans (le_of_eq (congrArg s (Fin.ext ?_))) this
    exact e.symm

/-- The running total after all tiles is the row's weighted total relative to its maximum. -/
theorem total_tiles {N k : ℕ} (hN : (k + 1) * n = N) (s g : Fin N → EReal) (v : ℕ → Fin n → EReal)
    (hv : ∀ (j : ℕ) (r : Fin n) (h : j * n + r < N), v j r = g ⟨j * n + r, h⟩) :
    total (tiles (n := n) s) v k = ∑ i, weight (s i) (Finset.univ.sup s) * g i := by
  rw [total_eq, top_tiles hN]
  rw [Finset.sum_range fun j => ∑ r, weight (tiles s j r) (Finset.univ.sup s) * v j r]
  subst hN
  rw [Fin.sum_univ_tiles (k + 1) n rfl fun i => weight (s i) (Finset.univ.sup s) * g i]
  refine Finset.sum_congr rfl fun j _ => Finset.sum_congr rfl fun r _ => ?_
  have h : j.val * n + r.val < (k + 1) * n := by
    calc j.val * n + r.val < j.val * n + n := by omega
      _ = (j.val + 1) * n := by ring
      _ ≤ (k + 1) * n := Nat.mul_le_mul_right n j.isLt
  rw [tiles_apply s _ _ h, hv _ _ h]

end Cert.Online
-- ==== Proof.LatentSteps.lean ====
module

public import proofs.«01_k».proof.Proof.Online
public import proofs.«01_k».proof.Proof.Gen.LatentIdeal.Value
public import Idealize.ShloMosaic.Lib.Pipeline.ValueKit
public import Idealize.ShloMosaic.Lib.Pointwise

@[expose] public section

/-! What one tile of keys does to the running maximum, the running sum and the running total of the attention
    kernel, for all 640 rows of a block at once. -/

set_option maxRecDepth 16384

noncomputable section

namespace Cert.LatentIdeal.Steps

open Cert.LatentIdeal Cert.LatentIdeal.Gen Idealize.ShloMosaic Idealize.ShloMosaic.TcCoe
open Cert.Online

/-- The pattern that starts a maximum is minus infinity. -/
theorem bottom : Ideal.ofBits FTy.f32 4286578688#32 = (⊥ : EReal) := by
  decide

/-- A maximum folded from minus infinity is the supremum. -/
theorem fold_max {n : ℕ} (f : Fin n → EReal) :
    Finset.univ.fold max (Ideal.ofBits FTy.f32 4286578688#32) f = Finset.univ.sup f := by
  rw [bottom]; rfl

/-- The scores of row `r` of the block: `S r j k` is its score at key `k` of tile `j`. -/
abbrev Scores := Fin 640 → ℕ → Fin 640 → EReal

/-- The running maxima of all rows. -/
def maxima (S : Scores) (n : ℕ) : S640x1.Idx → EReal := fun i => top (S (i 0)) n

/-- The running sums of weights of all rows. -/
def sums (S : Scores) (n : ℕ) : S640x1.Idx → EReal := fun i => total (S (i 0)) (fun _ _ => 1) n

/-- The running totals of all rows and value columns. -/
def totals (S : Scores) (V : ℕ → Fin 640 → Fin 128 → EReal) (n : ℕ) : S640x128.Idx → EReal :=
  fun i => total (S (i 0)) (fun j k => V j k (i 1)) n

/-- The scores of a tile: every query row against every key row. -/
theorem scores_apply (q : FVec Ideal S640x128 .bf16) (K : Vec Ideal S1x640x128 .bf16) (r k : Fin 640) :
    k0_pay2 (F := Ideal) q K (ix2 r k) = ∑ d : Fin 128, q (ix2 r d) * K (ix3 0 k d) := by
  unfold k0_pay2
  pointwise

variable {S : Scores} {V : ℕ → Fin 640 → Fin 128 → EReal} {n : ℕ} {s : S640x640.Idx → EReal}

/-- The new maximum of a row. -/
theorem max_apply (hs : ∀ r k, s (ix2 r k) = S r (n + 1) k) (r : Fin 640) (u : Fin 1) :
    k0_pay3 (F := Ideal) s (maxima S n) (ix2 r u) = top (S r) (n + 1) := by
  unfold k0_pay3
  pointwise
  rw [fold_max]
  simp only [hs]
  rfl

/-- The new weight of a score. -/
theorem weight_apply (hs : ∀ r k, s (ix2 r k) = S r (n + 1) k) (r k : Fin 640) :
    k0_pay4 (F := Ideal) s (maxima S n) (ix2 r k) = weight (S r (n + 1) k) (top (S r) (n + 1)) := by
  unfold k0_pay4
  pointwise
  rw [max_apply hs, hs]
  rfl

/-- The factor that rescales what was summed before. -/
theorem scale_apply (hs : ∀ r k, s (ix2 r k) = S r (n + 1) k) (r : Fin 640) (u : Fin 1) :
    k0_pay5 (F := Ideal) s (maxima S n) (ix2 r u) = weight (top (S r) n) (top (S r) (n + 1)) := by
  unfold k0_pay5
  pointwise
  rw [max_apply hs]
  rfl

/-- One tile takes the running maxima from `n` to `n + 1`. -/
theorem maxima_step (hs : ∀ r k, s (ix2 r k) = S r (n + 1) k) :
    k0_pay25 (F := Ideal) (k0_pay3 (F := Ideal) s (maxima S n)) = maxima S (n + 1) := by
  funext i
  idx_vars i
  unfold k0_pay25
  pointwise
  exact max_apply hs _ _

/-- One tile takes the running sums from `n` to `n + 1`. -/
theorem sums_step (hs : ∀ r k, s (ix2 r k) = S r (n + 1) k) :
    k0_pay6 (F := Ideal) s (maxima S n) (sums S n) = sums S (n + 1) := by
  funext i
  idx_vars i
  unfold k0_pay6
  pointwise
  simp only [scale_apply hs, weight_apply hs]
  refine congrArg (_ + ·) (Finset.sum_congr rfl fun k _ => ?_)
  exact (mul_one _).symm

/-- One tile takes the running totals from `n` to `n + 1`. -/
theorem totals_step (hs : ∀ r k, s (ix2 r k) = S r (n + 1) k) {W : Vec Ideal S1x640x128 .bf16}
    (hW : ∀ k l, W (ix3 0 k l) = V (n + 1) k l) :
    k0_pay24 (F := Ideal) (k0_pay7 (F := Ideal) W s (maxima S n) (totals S V n)) = totals S V (n + 1) := by
  funext i
  idx_vars i
  unfold k0_pay24 k0_pay7
  pointwise
  simp only [scale_apply hs, weight_apply hs, hW]
  rfl

/-- The first maximum of a row. -/
theorem max_first (hs : ∀ r k, s (ix2 r k) = S r 0 k) (r : Fin 640) (u : Fin 1) :
    k0_pay17 (F := Ideal) s (ix2 r u) = top (S r) 0 := by
  unfold k0_pay17
  pointwise
  rw [fold_max]
  simp only [hs]
  rfl

/-- The first weight of a score. -/
theorem weight_first (hs : ∀ r k, s (ix2 r k) = S r 0 k) (r k : Fin 640) :
    k0_pay18 (F := Ideal) s (ix2 r k) = weight (S r 0 k) (top (S r) 0) := by
  unfold k0_pay18
  pointwise
  rw [max_first hs, hs]
  rfl

/-- The first tile's maxima. -/
theorem maxima_first (hs : ∀ r k, s (ix2 r k) = S r 0 k) :
    k0_pay23 (F := Ideal) (k0_pay17 (F := Ideal) s) = maxima S 0 := by
  funext i
  idx_vars i
  unfold k0_pay23
  pointwise
  exact max_first hs _ _

/-- The first tile's sums of weights. -/
theorem sums_first (hs : ∀ r k, s (ix2 r k) = S r 0 k) :
    k0_pay21 (F := Ideal) (k0_pay19 (F := Ideal) s) = sums S 0 := by
  funext i
  idx_vars i
  unfold k0_pay21 k0_pay19
  pointwise
  simp only [weight_first hs]
  exact Finset.sum_congr rfl fun k _ => (mul_one _).symm

/-- The first tile's totals. -/
theorem totals_first (hs : ∀ r k, s (ix2 r k) = S r 0 k) {W : Vec Ideal S1x640x128 .bf16}
    (hW : ∀ k l, W (ix3 0 k l) = V 0 k l) :
    k0_pay22 (F := Ideal) (k0_pay20 (F := Ideal) W s) = totals S V 0 := by
  funext i
  idx_vars i
  unfold k0_pay22 k0_pay20
  pointwise
  simp only [weight_first hs, hW]
  rfl

/-- The first tile's scores, the mask's row added. -/
theorem masked_apply (q K : Vec Ideal S1x640x128 .bf16) (b : Vec Ideal S1x640 .f32) (r k : Fin 640) :
    k0_pay16 (F := Ideal) (k0_pay15 (F := Ideal) q K) b (ix2 r k)
      = (∑ d : Fin 128, q (ix3 0 r d) * K (ix3 0 k d)) + b (ix2 0 k) := by
  unfold k0_pay16 k0_pay15 k0_pay14
  pointwise

/-- The query rows without the leading axis. -/
theorem query_apply (q : Vec Ideal S1x640x128 .bf16) (r : Fin 640) (d : Fin 128) :
    k0_pay14 (F := Ideal) q (ix2 r d) = q (ix3 0 r d) := by
  unfold k0_pay14
  pointwise

/-- The second head's computations on later tiles are the first head's. -/
theorem second_later : k0_pay8 (F := Ideal) = k0_pay2 ∧ k0_pay9 (F := Ideal) = k0_pay3
    ∧ k0_pay12 (F := Ideal) = k0_pay6 ∧ k0_pay13 (F := Ideal) = k0_pay7 ∧ k0_pay37 (F := Ideal) = k0_pay24
    ∧ k0_pay38 (F := Ideal) = k0_pay25 := ⟨rfl, rfl, rfl, rfl, rfl, rfl⟩

/-- Its scores on the first tile are the first head's, -/
theorem second_product (q K : Vec Ideal S1x640x128 .bf16) : k0_pay29 (F := Ideal) q K = k0_pay15 (F := Ideal) q K := rfl

theorem second_masked (s : Vec Ideal S640x640 .f32) (b : Vec Ideal S1x640 .f32) :
    k0_pay31 (F := Ideal) (k0_pay30 (F := Ideal) s b) = k0_pay16 (F := Ideal) s b := rfl

/-- and so is what it starts the running quantities with. -/
theorem second_first (s : Vec Ideal S640x640 .f32) (W : Vec Ideal S1x640x128 .bf16) :
    k0_pay36 (F := Ideal) s = k0_pay23 (F := Ideal) (k0_pay17 (F := Ideal) s)
    ∧ k0_pay34 (F := Ideal) s = k0_pay21 (F := Ideal) (k0_pay19 (F := Ideal) s)
    ∧ k0_pay35 (F := Ideal) (k0_pay28 (F := Ideal) W) s = k0_pay22 (F := Ideal) (k0_pay20 (F := Ideal) W s) := ⟨rfl, rfl, rfl⟩

end Cert.LatentIdeal.Steps
-- ==== Proof.LatentLoops.lean ====
module

public import proofs.«01_k».proof.Proof.LatentSteps

@[expose] public section

/-! The two counted loops of the attention kernel, one per head: what they leave in the buffers of the running
    maximum, the running sum and the running total. -/

set_option maxRecDepth 16384

noncomputable section

namespace Cert.LatentIdeal.Steps

open Cert.LatentIdeal Cert.LatentIdeal.Gen Idealize.ShloMosaic Idealize.ShloMosaic.TcCoe Idealize.SL.Sem
open Idealize.ShloMosaic.Tactic
open Cert.Online

/-- After a store of a whole buffer the buffer reads as what was stored. -/
theorem read_store {sp : Space} {T : Shape} {e : EltTy} (v : View sig .tc sp T e) (f : v.ty.Contents (Elt Ideal))
    {off : Fin T.rank → Nat} (h : off = fun _ => 0) (inb : ∀ a, off a + T.size a ≤ T.size a) (w : T.Idx → Elt Ideal e)
    (L : List (View.Piece (Elt Ideal) T e)) :
    v.read (Elt Ideal) (v.writes (Elt Ideal) f (⟨Rect.unit off T.size inb, w⟩ :: L)) = w := by
  subst h
  funext y
  have := View.read_writes_cons_emb v f (Rect.whole T) w L y
  rw [Rect.emb_whole_apply] at this
  exact this

/-- A load of a whole buffer reads its contents. -/
theorem load_whole {sp : Space} {T : Shape} {e : EltTy} (v : View sig .tc sp T e) (f : v.ty.Contents (Elt Ideal))
    {off : Fin T.rank → Nat} (h : off = fun _ => 0) (inb : ∀ a, off a + T.size a ≤ T.size a) :
    v.readAt (Elt Ideal) (Rect.unit off T.size inb).toLoadRect f = v.read (Elt Ideal) f := by
  rw [View.readAt_eq_ld]
  exact View.ld_unit_zero h inb _

/-- A load of a whole buffer after a store of it reads what was stored. -/
theorem load_store {sp : Space} {T : Shape} {e : EltTy} (v : View sig .tc sp T e)
    {off : Fin T.rank → Nat} (h : off = fun _ => 0) (inb : ∀ a, off a + T.size a ≤ T.size a) (w : T.Idx → Elt Ideal e)
    (L : List (View.Piece (Elt Ideal) T e)) :
    v.readCov (⟨Rect.unit off T.size inb, w⟩ :: L) (Rect.unit off T.size inb).toLoadRect = w := by
  unfold View.readCov
  rw [load_whole v _ h, read_store v _ h]

/-- The two zero offsets. -/
theorem zeros : (![0, 0] : Fin 2 → Nat) = fun _ => 0 := by funext a; fin_cases a <;> rfl

variable {𝒱 : Variants} {c : Dev nD} {bd : Option 𝒱.V} {i : grid0.Coords}
  {arg3 : Memref sig .tc .vmem S1x640x256 .bf16} {harg3 : arg3.IsWhole} {arg4 : Memref sig .tc .vmem S1x8320x256 .bf16} {harg4 : arg4.IsWhole}
  {arg5 : Memref sig .tc .vmem S1x8320x128 .bf16} {harg5 : arg5.IsWhole} {arg6 : Memref sig .tc .vmem S1x640 .f32} {harg6 : arg6.IsWhole}
  {arg7 : Memref sig .tc .vmem S1x640x128 .bf16} {harg7 : arg7.IsWhole} {arg8 : Memref sig .tc .vmem S640x640 .f32} {harg8 : arg8.IsWhole}
  {arg9 : Memref sig .tc .vmem S640x1 .f32} {harg9 : arg9.IsWhole} {arg10 : Memref sig .tc .vmem S640x1 .f32} {harg10 : arg10.IsWhole}
  {arg11 : Memref sig .tc .vmem S640x128 .f32} {harg11 : arg11.IsWhole}
  {X4 : BufTy.Contents (Elt Ideal) arg4.view.ty} {X5 : BufTy.Contents (Elt Ideal) arg5.view.ty}
  {G8 : BufTy.Contents (Elt Ideal) arg8.view.ty} {G9 : BufTy.Contents (Elt Ideal) arg9.view.ty}
  {G10 : BufTy.Contents (Elt Ideal) arg10.view.ty} {G11 : BufTy.Contents (Elt Ideal) arg11.view.ty}
  {S : Scores} {V : ℕ → Fin 640 → Fin 128 → EReal}

/-- What one later tile of the first head stores, in the contents that it finds. -/
theorem first_trip (q : FVec Ideal S640x128 .bf16) (u1 u2 : FVec Ideal S640x1 .f32) (u3 : FVec Ideal S640x128 .f32)
    (k : Fin k0_t1_loop.trips) (f8 f9 f10 f11) :
    (trip_k0_t1 (F := Ideal) 𝒱 c bd i arg3 harg3 arg4 harg4 arg5 harg5 arg6 harg6 arg7 harg7 arg8 harg8 arg9 harg9 arg10 harg10 arg11 harg11 q u1 u2 u3 X4 X5 k).2.1 f8 f9 f10 f11
      = [⟨Rect.unit (s := S640x1) ![0, 0] S640x1.size inb_S640x1_S640x1_0_0, k0_pay25 (F := Ideal) (k0_pay3 (F := Ideal) (k0_pay2 (F := Ideal) q
          (arg4.view.readAt (Elt Ideal) (Rect.unit (s := S1x8320x256) (k0_off1 k) S1x640x128.size (k0_off1_inb k)).toLoadRect X4))
          (arg9.view.read (Elt Ideal) f9))⟩]
    ∧ (trip_k0_t1 (F := Ideal) 𝒱 c bd i arg3 harg3 arg4 harg4 arg5 harg5 arg6 harg6 arg7 harg7 arg8 harg8 arg9 harg9 arg10 harg10 arg11 harg11 q u1 u2 u3 X4 X5 k).2.2.1 f8 f9 f10 f11
      = [⟨Rect.unit (s := S640x1) ![0, 0] S640x1.size inb_S640x1_S640x1_0_0, k0_pay6 (F := Ideal) (k0_pay2 (F := Ideal) q
          (arg4.view.readAt (Elt Ideal) (Rect.unit (s := S1x8320x256) (k0_off1 k) S1x640x128.size (k0_off1_inb k)).toLoadRect X4))
          (arg9.view.read (Elt Ideal) f9) (arg10.view.read (Elt Ideal) f10)⟩]
    ∧ (trip_k0_t1 (F := Ideal) 𝒱 c bd i arg3 harg3 arg4 harg4 arg5 harg5 arg6 harg6 arg7 harg7 arg8 harg8 arg9 harg9 arg10 harg10 arg11 harg11 q u1 u2 u3 X4 X5 k).2.2.2.1 f8 f9 f10 f11
      = [⟨Rect.unit (s := S640x128) ![0, 0] S640x128.size inb_S640x128_S640x128_0_0, k0_pay24 (F := Ideal) (k0_pay7 (F := Ideal)
          (arg5.view.readAt (Elt Ideal) (Rect.unit (s := S1x8320x128) (k0_off2 k) S1x640x128.size (k0_off2_inb k)).toLoadRect X5)
          (k0_pay2 (F := Ideal) q
          (arg4.view.readAt (Elt Ideal) (Rect.unit (s := S1x8320x256) (k0_off1 k) S1x640x128.size (k0_off1_inb k)).toLoadRect X4))
          (arg9.view.read (Elt Ideal) f9) (arg11.view.read (Elt Ideal) f11))⟩] := by
  unfold trip_k0_t1
  dsimp only
  sl_unfold_words
  rw [load_store _ zeros, load_whole arg9.view _ zeros, load_whole arg10.view _ zeros, load_whole arg11.view _ zeros]
  exact ⟨rfl, rfl, rfl⟩

/-- After `n` later tiles of the first head: the three running quantities, read back from where the loop keeps them. -/
theorem first_loop (q : FVec Ideal S640x128 .bf16) (u1 u2 : FVec Ideal S640x1 .f32) (u3 : FVec Ideal S640x128 .f32)
    (hs : ∀ (k : Fin k0_t1_loop.trips) r j, k0_pay2 (F := Ideal) q
      (arg4.view.readAt (Elt Ideal) (Rect.unit (s := S1x8320x256) (k0_off1 k) S1x640x128.size (k0_off1_inb k)).toLoadRect X4) (ix2 r j) = S r (k + 1) j)
    (hv : ∀ (k : Fin k0_t1_loop.trips) j l,
      (arg5.view.readAt (Elt Ideal) (Rect.unit (s := S1x8320x128) (k0_off2 k) S1x640x128.size (k0_off2_inb k)).toLoadRect X5) (ix3 0 j l) = V (k + 1) j l)
    (h9 : arg9.view.read (Elt Ideal) G9 = maxima S 0) (h10 : arg10.view.read (Elt Ideal) G10 = sums S 0)
    (h11 : arg11.view.read (Elt Ideal) G11 = totals S V 0) : ∀ n ≤ k0_t1_loop.trips,
    arg9.view.read (Elt Ideal) (arg9.view.writes (Elt Ideal) G9
      (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.1) = maxima S n
    ∧ arg10.view.read (Elt Ideal) (arg10.view.writes (Elt Ideal) G10
      (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.2.1) = sums S n
    ∧ arg11.view.read (Elt Ideal) (arg11.view.writes (Elt Ideal) G11
      (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.2.2) = totals S V n
  | 0, _ => ⟨h9, h10, h11⟩
  | n + 1, hn => by
    obtain ⟨i9, i10, i11⟩ := first_loop q u1 u2 u3 hs hv h9 h10 h11 n (Nat.le_of_succ_le hn)
    have e := pb_k0_t1_succ (F := Ideal) 𝒱 c bd i arg3 harg3 arg4 harg4 arg5 harg5 arg6 harg6 arg7 harg7 arg8 harg8 arg9 harg9 arg10 harg10 arg11 harg11
      q u1 u2 u3 X4 X5 G8 G9 G10 G11 ⟨n, hn⟩
    have s := hs ⟨n, hn⟩
    rw [show n + 1 = (⟨n, hn⟩ : Fin k0_t1_loop.trips).val + 1 from rfl, e]
    obtain ⟨t9, t10, t11⟩ := first_trip (𝒱 := 𝒱) (c := c) (bd := bd) (i := i) (harg3 := harg3) (harg4 := harg4) (harg5 := harg5)
      (harg6 := harg6) (harg7 := harg7) (harg8 := harg8) (harg9 := harg9) (harg10 := harg10) (harg11 := harg11)
      (X4 := X4) (X5 := X5) q u1 u2 u3 ⟨n, hn⟩
      (arg8.view.writes (Elt Ideal) G8 (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).1)
      (arg9.view.writes (Elt Ideal) G9 (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.1)
      (arg10.view.writes (Elt Ideal) G10 (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.2.1)
      (arg11.view.writes (Elt Ideal) G11 (pb_k0_t1 (F := Ideal) 𝒱 c bd i arg3 harg3 arg4 harg4 arg5 harg5 arg6 harg6 arg7 harg7 arg8 harg8 arg9 harg9 arg10 harg10 arg11 harg11 q u1 u2 u3 X4 X5 G8 G9 G10 G11 n).2.2.2)
    simp only [t9, t10, t11, List.cons_append, i9, i10, i11]
    exact ⟨(read_store _ _ zeros _ _ _).trans (maxima_step s), (read_store _ _ zeros _ _ _).trans (sums_step s),
      (read_store _ _ zeros _ _ _).trans (totals_step s (hv ⟨n, hn⟩))⟩

/-- What one later tile of the second head stores, in the contents that it finds. -/
theorem second_trip (u1 : FVec Ideal S640x128 .f32) (q u2 : FVec Ideal S640x128 .bf16) (u3 : FVec Ideal S640x640 .f32)
    (k : Fin k0_t2_loop.trips) (f8 f9 f10 f11) :
    (trip_k0_t2 (F := Ideal) 𝒱 c bd i arg3 harg3 arg4 harg4 arg5 harg5 arg6 harg6 arg7 harg7 arg8 harg8 arg9 harg9 arg10 harg10 arg11 harg11 u1 q u2 u3 X4 X5 k).2.1 f8 f9 f10 f11
      = [⟨Rect.unit (s := S640x1) ![0, 0] S640x1.size inb_S640x1_S640x1_0_0, k0_pay25 (F := Ideal) (k0_pay3 (F := Ideal) (k0_pay2 (F := Ideal) q
          (arg4.view.readAt (Elt Ideal) (Rect.unit (s := S1x8320x256) (k0_off3 k) S1x640x128.size (k0_off3_inb k)).toLoadRect X4))
          (arg9.view.read (Elt Ideal) f9))⟩]
    ∧ (trip_k0_t2 (F := Ideal) 𝒱 c bd i arg3 harg3 arg4 harg4 arg5 harg5 arg6 harg6 arg7 harg7 arg8 harg8 arg9 harg9 arg10 harg10 arg11 harg11 u1 q u2 u3 X4 X5 k).2.2.1 f8 f9 f10 f11
      = [⟨Rect.unit (s := S640x1) ![0, 0] S640x1.size inb_S640x1_S640x1_0_0, k0_pay6 (F := Ideal) (k0_pay2 (F := Ideal) q
          (arg4.view.readAt (Elt Ideal) (Rect.unit (s := S1x8320x256) (k0_off3 k) S1x640x128.size (k0_off3_inb k)).toLoadRect X4))
          (arg9.view.read (Elt Ideal) f9) (arg10.view.read (Elt Ideal) f10)⟩]
    ∧ (trip_k0_t2 (F := Ideal) 𝒱 c bd i arg3 harg3 arg4 harg4 arg5 harg5 arg6 harg6 arg7 harg7 arg8 harg8 arg9 harg9 arg10 harg10 arg11 harg11 u1 q u2 u3 X4 X5 k).2.2.2.1 f8 f9 f10 f11
      = [⟨Rect.unit (s := S640x128) ![0, 0] S640x128.size inb_S640x128_S640x128_0_0, k0_pay24 (F := Ideal) (k0_pay7 (F := Ideal)
          (arg5.view.readAt (Elt Ideal) (Rect.unit (s := S1x8320x128) (k0_off4 k) S1x640x128.size (k0_off4_inb k)).toLoadRect X5)
          (k0_pay2 (F := Ideal) q
          (arg4.view.readAt (Elt Ideal) (Rect.unit (s := S1x8320x256) (k0_off3 k) S1x640x128.size (k0_off3_inb k)).toLoadRect X4))
          (arg9.view.read (Elt Ideal) f9) (arg11.view.read (Elt Ideal) f11))⟩] := by
  unfold trip_k0_t2
  dsimp only
  sl_unfold_words
  rw [load_store _ zeros, load_whole arg9.view _ zeros, load_whole arg10.view _ zeros, load_whole arg11.view _ zeros]
  exact ⟨rfl, rfl, rfl⟩

/-- After `n` later tiles of the second head: the three running quantities, read back from where the loop keeps them. -/
theorem second_loop (u1 : FVec Ideal S640x128 .f32) (q u2 : FVec Ideal S640x128 .bf16) (u3 : FVec Ideal S640x640 .f32)
    (hs : ∀ (k : Fin k0_t2_loop.trips) r j, k0_pay2 (F := Ideal) q
      (arg4.view.readAt (Elt Ideal) (Rect.unit (s := S1x8320x256) (k0_off3 k) S1x640x128.size (k0_off3_inb k)).toLoadRect X4) (ix2 r j) = S r (k + 1) j)
    (hv : ∀ (k : Fin k0_t2_loop.trips) j l,
      (arg5.view.readAt (Elt Ideal) (Rect.unit (s := S1x8320x128) (k0_off4 k) S1x640x128.size (k0_off4_inb k)).toLoadRect X5) (ix3 0 j l) = V (k + 1) j l)
    (h9 : arg9.view.read (Elt Ideal) G9 = maxima S 0) (h10 : arg10.view.read (Elt Ideal) G10 = sums S 0)
    (h11 : arg11.view.read (Elt Ideal) G11 = totals S V 0) : ∀ n ≤ k0_t2_loop.trips,
    arg9.view.read (Elt Ideal) (arg9.view.writes (Elt Ideal) G9
      (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.1) = maxima S n
    ∧ arg10.view.read (Elt Ideal) (arg10.view.writes (Elt Ideal) G10
      (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.2.1) = sums S n
    ∧ arg11.view.read (Elt Ideal) (arg11.view.writes (Elt Ideal) G11
      (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.2.2) = totals S V n
  | 0, _ => ⟨h9, h10, h11⟩
  | n + 1, hn => by
    obtain ⟨i9, i10, i11⟩ := second_loop u1 q u2 u3 hs hv h9 h10 h11 n (Nat.le_of_succ_le hn)
    have e := pb_k0_t2_succ (F := Ideal) 𝒱 c bd i arg3 harg3 arg4 harg4 arg5 harg5 arg6 harg6 arg7 harg7 arg8 harg8 arg9 harg9 arg10 harg10 arg11 harg11
      u1 q u2 u3 X4 X5 G8 G9 G10 G11 ⟨n, hn⟩
    have s := hs ⟨n, hn⟩
    rw [show n + 1 = (⟨n, hn⟩ : Fin k0_t2_loop.trips).val + 1 from rfl, e]
    obtain ⟨t9, t10, t11⟩ := second_trip (𝒱 := 𝒱) (c := c) (bd := bd) (i := i) (harg3 := harg3) (harg4 := harg4) (harg5 := harg5)
      (harg6 := harg6) (harg7 := harg7) (harg8 := harg8) (harg9 := harg9) (harg10 := harg10) (harg11 := harg11)
      (X4 := X4) (X5 := X5) u1 q u2 u3 ⟨n, hn⟩
      (arg8.view.writes (Elt Ideal) G8 (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).1)
      (arg9.view.writes (Elt Ideal) G9 (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.1)
      (arg10.view.writes (Elt Ideal) G10 (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.2.1)
      (arg11.view.writes (Elt Ideal) G11 (pb_k0_t2 (F := Ideal) 𝒱 c bd i arg3 harg3 arg4 harg4 arg5 harg5 arg6 harg6 arg7 harg7 arg8 harg8 arg9 harg9 arg10 harg10 arg11 harg11 u1 q u2 u3 X4 X5 G8 G9 G10 G11 n).2.2.2)
    simp only [t9, t10, t11, List.cons_append, i9, i10, i11]
    exact ⟨(read_store _ _ zeros _ _ _).trans (maxima_step s), (read_store _ _ zeros _ _ _).trans (sums_step s),
      (read_store _ _ zeros _ _ _).trans (totals_step s (hv ⟨n, hn⟩))⟩

end Cert.LatentIdeal.Steps
-- ==== Proof.LatentBlock.lean ====
module

public import proofs.«01_k».proof.Proof.LatentLoops

@[expose] public section

/-! What the attention kernel writes for one block of 640 queries and one pair of heads. -/

set_option maxRecDepth 16384

noncomputable section

namespace Cert.LatentIdeal.Steps

open Cert.LatentIdeal Cert.LatentIdeal.Gen Idealize.ShloMosaic Idealize.ShloMosaic.TcCoe Idealize.SL.Sem
open Idealize.ShloMosaic.Tactic
open Cert.Online

/-- The score of query row `r` at `key` in head `h` of the pair: the product of their 128 features, and for a key of
    the first tile what the mask adds. -/
def score (x0 : Vec Ideal S1x640x256 .bf16) (x1 : Vec Ideal S1x8320x256 .bf16) (x3 : Vec Ideal S1x640 .f32) (h : Fin 2)
    (r : Fin 640) (key : Fin 8320) : EReal :=
  (∑ d : Fin 128, x0 (ix3 0 r ⟨128 * h + d, by omega⟩) * x1 (ix3 0 key ⟨128 * h + d, by omega⟩))
    + if hk : key.val < 640 then x3 (ix2 0 ⟨key, hk⟩) else 0

/-- The scores, tile by tile. -/
def scores (x0 : Vec Ideal S1x640x256 .bf16) (x1 : Vec Ideal S1x8320x256 .bf16) (x3 : Vec Ideal S1x640 .f32)
    (h : Fin 2) : Scores := fun r => tiles (score x0 x1 x3 h r)

/-- The values, tile by tile. -/
def values (x2 : Vec Ideal S1x8320x128 .bf16) (j : ℕ) (k : Fin 640) (l : Fin 128) : EReal :=
  tiles (fun key => x2 (ix3 0 key l)) j k

/-- A load of a box reads, at an index, the contents at the box's corner plus the index. -/
theorem load_box {sp : Space} {T : Shape} {e : EltTy} (m : Memref sig .tc sp T e) (hm : m.IsWhole) (X : T.Idx → Elt Ideal e)
    (off size : Fin T.rank → Nat) (inb) (x : (Rect.unit off size inb).shape.Idx) (y : T.Idx) (h : ∀ a, (y a : Nat) = off a + x a) :
    m.view.readAt (Elt Ideal) (Rect.unit off size inb).toLoadRect (hm.unread X) x = X y := by
  rw [View.readAt_eq_ld, hm.read_unread]
  exact View.ld_unit_apply_of X off size inb x y h

/-- Where the later tiles start. -/
theorem offsets : (∀ k, k0_off1 k = ![0, (k.val + 1) * 640, 0]) ∧ (∀ k, k0_off2 k = ![0, (k.val + 1) * 640, 0])
    ∧ (∀ k, k0_off3 k = ![0, (k.val + 1) * 640, 128]) ∧ (∀ k, k0_off4 k = ![0, (k.val + 1) * 640, 0]) := by
  decide +kernel

variable {c : Dev nD} {i : grid0.Coords}
  {arg3 : Memref sig .tc .vmem S1x640x256 .bf16} {harg3 : arg3.IsWhole} {arg4 : Memref sig .tc .vmem S1x8320x256 .bf16} {harg4 : arg4.IsWhole}
  {arg5 : Memref sig .tc .vmem S1x8320x128 .bf16} {harg5 : arg5.IsWhole} {arg6 : Memref sig .tc .vmem S1x640 .f32} {harg6 : arg6.IsWhole}
  {arg7 : Memref sig .tc .vmem S1x640x128 .bf16} {harg7 : arg7.IsWhole} {arg8 : Memref sig .tc .vmem S640x640 .f32} {harg8 : arg8.IsWhole}
  {arg9 : Memref sig .tc .vmem S640x1 .f32} {harg9 : arg9.IsWhole} {arg10 : Memref sig .tc .vmem S640x1 .f32} {harg10 : arg10.IsWhole}
  {arg11 : Memref sig .tc .vmem S640x128 .f32} {harg11 : arg11.IsWhole}
  (x0 : Vec Ideal S1x640x256 .bf16) (x1 : Vec Ideal S1x8320x256 .bf16) (x2 : Vec Ideal S1x8320x128 .bf16) (x3 : Vec Ideal S1x640 .f32)

/-- The first head's scores on the first tile. -/
theorem first_scores (r k : Fin 640) :
    kernelRun0_A.sl.v18 (F := Ideal) c arg3 harg3 arg4 harg4 arg6 harg6 arg8 x0 x1 x3 (ix2 r k) = scores x0 x1 x3 0 r 0 k := by
  unfold kernelRun0_A.sl.v18 kernelRun0_A.sl.HS0_2
  rw [load_store _ zeros]
  unfold kernelRun0_A.sl.v10 kernelRun0_A.sl.HS0_1
  rw [load_store _ zeros, masked_apply]
  unfold scores
  rw [tiles_apply _ _ _ (by omega)]
  unfold score
  rw [dif_pos (show 0 * 640 + k.val < 640 by omega)]
  refine congrArg₂ (· + ·) (Finset.sum_congr rfl fun d _ => congrArg₂ (· * ·) ?_ ?_) ?_
  · refine load_box _ _ _ _ _ _ _ _ fun a => ?_
    fin_cases a <;> simp
  · refine load_box _ _ _ _ _ _ _ _ fun a => ?_
    fin_cases a <;> simp
  · refine load_box _ _ _ _ _ _ _ _ fun a => ?_
    fin_cases a <;> simp

/-- The first head's scores on a later tile. -/
theorem first_later (k : Fin k0_t1_loop.trips) (r j : Fin 640) :
    k0_pay2 (F := Ideal) (kernelRun0_A.sl.r c arg3 harg3 x0)
      (arg4.view.readAt (Elt Ideal) (Rect.unit (s := S1x8320x256) (k0_off1 k) S1x640x128.size (k0_off1_inb k)).toLoadRect (harg4.unread x1))
      (ix2 r j) = scores x0 x1 x3 0 r (k + 1) j := by
  have hk : k.val < 12 := Nat.lt_of_lt_of_le k.isLt k0_t1_abs.2.1
  rw [scores_apply]
  unfold kernelRun0_A.sl.r scores
  rw [tiles_apply _ _ _ (by omega)]
  unfold score
  rw [dif_neg (by simp only []; omega), add_zero]
  refine Finset.sum_congr rfl fun d _ => congrArg₂ (· * ·) ?_ ?_
  · rw [query_apply]
    refine load_box _ _ _ _ _ _ _ _ fun a => ?_
    fin_cases a <;> simp
  · refine load_box _ _ _ _ _ _ _ _ fun a => ?_
    refine Eq.trans ?_ (congrArg (· + _) (congrFun (offsets.1 k) a).symm)
    fin_cases a <;> simp

/-- The values of a later tile, as the first head's loop loads them. -/
theorem first_values (k : Fin k0_t1_loop.trips) (j : Fin 640) (l : Fin 128) :
    arg5.view.readAt (Elt Ideal) (Rect.unit (s := S1x8320x128) (k0_off2 k) S1x640x128.size (k0_off2_inb k)).toLoadRect (harg5.unread x2)
      (ix3 0 j l) = values x2 (k + 1) j l := by
  have hk : k.val < 12 := Nat.lt_of_lt_of_le k.isLt k0_t1_abs.2.1
  unfold values
  rw [tiles_apply _ _ _ (by omega)]
  refine load_box _ _ _ _ _ _ _ _ fun a => ?_
  refine Eq.trans ?_ (congrArg (· + _) (congrFun (offsets.2.1 k) a).symm)
  fin_cases a <;> simp

/-- The values of the first tile. -/
theorem tile_values (j : Fin 640) (l : Fin 128) :
    arg5.view.readAt (Elt Ideal) (Rect.unit (s := S1x8320x128) ![0, 0, 0] S1x640x128.size inb_S1x8320x128_S1x640x128_0_0_0).toLoadRect
      (harg5.unread x2) (ix3 0 j l) = values x2 0 j l := by
  unfold values
  rw [tiles_apply _ _ _ (by omega)]
  refine load_box _ _ _ _ _ _ _ _ fun a => ?_
  fin_cases a <;> simp

/-- Either loop makes twelve trips. -/
theorem twelve : k0_t1_loop.trips = 12 ∧ k0_t2_loop.trips = 12 := by decide +kernel

/-- The first head's total and sum after its loop. -/
theorem first_done :
    kernelRun0_A.sl.v38 (F := Ideal) c i arg3 harg3 arg4 harg4 arg5 harg5 arg6 harg6 arg7 harg7 arg8 harg8 arg9 harg9 arg10 harg10 arg11 harg11 x0 x1 x2 x3
      = totals (scores x0 x1 x3 0) (values x2) 12
    ∧ kernelRun0_A.sl.v39 (F := Ideal) c i arg3 harg3 arg4 harg4 arg5 harg5 arg6 harg6 arg7 harg7 arg8 harg8 arg9 harg9 arg10 harg10 arg11 harg11 x0 x1 x2 x3
      = sums (scores x0 x1 x3 0) 12 := by
  constructor
  · unfold kernelRun0_A.sl.v38 View.readCov
    rw [View.writes_append, load_whole _ _ zeros]
    refine (first_loop (S := scores x0 x1 x3 0) (V := values x2) _ _ _ _ (first_later x0 x1 x3) (first_values x2)
      ((read_store _ _ zeros _ _ _).trans (maxima_first (first_scores x0 x1 x3)))
      ((read_store _ _ zeros _ _ _).trans (sums_first (first_scores x0 x1 x3)))
      ((read_store _ _ zeros _ _ _).trans (totals_first (first_scores x0 x1 x3) (tile_values x2))) _ le_rfl).2.2.trans
      (congrArg _ twelve.1)
  · unfold kernelRun0_A.sl.v39 View.readCov
    rw [View.writes_append, load_whole _ _ zeros]
    refine (first_loop (S := scores x0 x1 x3 0) (V := values x2) _ _ _ _ (first_later x0 x1 x3) (first_values x2)
      ((read_store _ _ zeros _ _ _).trans (maxima_first (first_scores x0 x1 x3)))
      ((read_store _ _ zeros _ _ _).trans (sums_first (first_scores x0 x1 x3)))
      ((read_store _ _ zeros _ _ _).trans (totals_first (first_scores x0 x1 x3) (tile_values x2))) _ le_rfl).2.1.trans
      (congrArg _ twelve.1)

/-- The second head's scores on the first tile. -/
theorem second_scores_first (r k : Fin 640) :
    kernelRun0_A.sl.v60 (F := Ideal) c i arg3 harg3 arg4 harg4 arg5 harg5 arg6 harg6 arg7 harg7 arg8 harg8 arg9 harg9 arg10 harg10 arg11 harg11 x0 x1 x2 x3 (ix2 r k)
      = scores x0 x1 x3 1 r 0 k := by
  unfold kernelRun0_A.sl.v60 kernelRun0_A.sl.HS0_2_1
  rw [load_store _ zeros]
  unfold kernelRun0_A.sl.r_7 kernelRun0_A.sl.v52 kernelRun0_A.sl.HS0_1_1
  rw [load_store _ zeros]
  rw [second_masked, second_product, masked_apply]
  unfold scores
  rw [tiles_apply _ _ _ (by omega)]
  unfold score
  rw [dif_pos (show 0 * 640 + k.val < 640 by omega)]
  refine congrArg₂ (· + ·) (Finset.sum_congr rfl fun d _ => congrArg₂ (· * ·) ?_ ?_) ?_
  · refine load_box _ _ _ _ _ _ _ _ fun a => ?_
    fin_cases a <;> simp
  · refine load_box _ _ _ _ _ _ _ _ fun a => ?_
    fin_cases a <;> simp
  · refine load_box _ _ _ _ _ _ _ _ fun a => ?_
    fin_cases a <;> simp

/-- The second head's scores on a later tile. -/
theorem second_scores_later (k : Fin k0_t2_loop.trips) (r j : Fin 640) :
    k0_pay2 (F := Ideal) (kernelRun0_A.sl.r_5 c arg3 harg3 x0)
      (arg4.view.readAt (Elt Ideal) (Rect.unit (s := S1x8320x256) (k0_off3 k) S1x640x128.size (k0_off3_inb k)).toLoadRect (harg4.unread x1))
      (ix2 r j) = scores x0 x1 x3 1 r (k + 1) j := by
  have hk : k.val < 12 := Nat.lt_of_lt_of_le k.isLt k0_t2_abs.2.1
  rw [scores_apply]
  unfold kernelRun0_A.sl.r_5 scores
  rw [tiles_apply _ _ _ (by omega)]
  unfold score
  rw [dif_neg (by simp only []; omega), add_zero]
  refine Finset.sum_congr rfl fun d _ => congrArg₂ (· * ·) ?_ ?_
  · refine (query_apply _ r d).trans ?_
    refine load_box _ _ _ _ _ _ _ _ fun a => ?_
    fin_cases a <;> simp
  · refine load_box _ _ _ _ _ _ _ _ fun a => ?_
    refine Eq.trans ?_ (congrArg (· + _) (congrFun (offsets.2.2.1 k) a).symm)
    fin_cases a <;> simp

/-- The values of a later tile, as the second head's loop loads them. -/
theorem second_values (k : Fin k0_t2_loop.trips) (j : Fin 640) (l : Fin 128) :
    arg5.view.readAt (Elt Ideal) (Rect.unit (s := S1x8320x128) (k0_off4 k) S1x640x128.size (k0_off4_inb k)).toLoadRect (harg5.unread x2)
      (ix3 0 j l) = values x2 (k + 1) j l := by
  have hk : k.val < 12 := Nat.lt_of_lt_of_le k.isLt k0_t2_abs.2.1
  unfold values
  rw [tiles_apply _ _ _ (by omega)]
  refine load_box _ _ _ _ _ _ _ _ fun a => ?_
  refine Eq.trans ?_ (congrArg (· + _) (congrFun (offsets.2.2.2 k) a).symm)
  fin_cases a <;> simp

/-- The second head's total and sum after its loop. -/
theorem second_done :
    kernelRun0_A.sl.v80 (F := Ideal) c i arg3 harg3 arg4 harg4 arg5 harg5 arg6 harg6 arg7 harg7 arg8 harg8 arg9 harg9 arg10 harg10 arg11 harg11 x0 x1 x2 x3
      = totals (scores x0 x1 x3 1) (values x2) 12
    ∧ kernelRun0_A.sl.v81 (F := Ideal) c i arg3 harg3 arg4 harg4 arg5 harg5 arg6 harg6 arg7 harg7 arg8 harg8 arg9 harg9 arg10 harg10 arg11 harg11 x0 x1 x2 x3
      = sums (scores x0 x1 x3 1) 12 := by
  constructor
  · unfold kernelRun0_A.sl.v80 View.readCov
    rw [View.writes_append, load_whole _ _ zeros]
    refine (second_loop (S := scores x0 x1 x3 1) (V := values x2) _ _ _ _ (second_scores_later x0 x1 x3) (second_values x2)
      ((read_store _ _ zeros _ _ _).trans (maxima_first (second_scores_first x0 x1 x2 x3)))
      ((read_store _ _ zeros _ _ _).trans (sums_first (second_scores_first x0 x1 x2 x3)))
      ((read_store _ _ zeros _ _ _).trans (totals_first (second_scores_first x0 x1 x2 x3) (tile_values x2))) _ le_rfl).2.2.trans
      (congrArg _ twelve.2)
  · unfold kernelRun0_A.sl.v81 View.readCov
    rw [View.writes_append, load_whole _ _ zeros]
    refine (second_loop (S := scores x0 x1 x3 1) (V := values x2) _ _ _ _ (second_scores_later x0 x1 x3) (second_values x2)
      ((read_store _ _ zeros _ _ _).trans (maxima_first (second_scores_first x0 x1 x2 x3)))
      ((read_store _ _ zeros _ _ _).trans (sums_first (second_scores_first x0 x1 x2 x3)))
      ((read_store _ _ zeros _ _ _).trans (totals_first (second_scores_first x0 x1 x2 x3) (tile_values x2))) _ le_rfl).2.1.trans
      (congrArg _ twelve.2)

/-- The kernel's test for the first 64 columns. -/
theorem left_half (l : Fin 128) (h : l.val < 64) : IntOp.cmpi .slt (BitVec.ofNat 32 l.val) 64#32 = 1#1 := by
  revert l
  decide +kernel

theorem right_half (l : Fin 128) (h : ¬ l.val < 64) : IntOp.cmpi .slt (BitVec.ofNat 32 l.val) 64#32 = 0#1 := by
  revert l
  decide +kernel

/-- The block: in each value column the weighted total over the sum of weights, the first 64 columns by the first
    head's weights, the last 64 by the second's. -/
theorem block (r : Fin 640) (l : Fin 128) :
    out0_A_4 (F := Ideal) c i arg3 harg3 arg4 harg4 arg5 harg5 arg6 harg6 arg7 harg7 arg8 harg8 arg9 harg9 arg10 harg10 arg11 harg11 x0 x1 x2 x3 (ix3 0 r l)
      = if l.val < 64 then Ideal.div (totals (scores x0 x1 x3 0) (values x2) 12 (ix2 r l)) (sums (scores x0 x1 x3 0) 12 (ix2 r 0))
        else Ideal.div (totals (scores x0 x1 x3 1) (values x2) 12 (ix2 r l)) (sums (scores x0 x1 x3 1) 12 (ix2 r 0)) := by
  unfold out0_A_4
  rw [View.read_writes_eq_canon _ _ _ (cover0_A_4 c i arg3 harg3 arg4 harg4 arg5 harg5 arg6 harg6 arg7 harg7 arg8 harg8 arg9 harg9 arg10 harg10 arg11 harg11 x0 x1 x2 x3)]
  unfold kernelRun0_A
  dsimp only
  refine (congrFun (View.canon_unit_zero (S := S1x640x128) (by funext a; fin_cases a <;> rfl) _ _) _).trans ?_
  unfold kernelRun0_A.sl.r_8 kernelRun0_A.sl.r_4
  rw [(first_done x0 x1 x2 x3).1, (first_done x0 x1 x2 x3).2, (second_done x0 x1 x2 x3).1, (second_done x0 x1 x2 x3).2]
  unfold k0_pay1 k0_pay39 k0_pay26
  pointwise
  by_cases h : l.val < 64
  · rw [if_pos h, left_half l h]
    rfl
  · rw [if_neg h, right_half l h]
    rfl

/-- Which head of the pair a value column belongs to. -/
def half (l : Fin 128) : Fin 2 := if l.val < 64 then 0 else 1

/-- One head's weighted total over its sum of weights, over all the keys at once. -/
theorem attended (h : Fin 2) (r : Fin 640) (l : Fin 128) :
    Ideal.div (totals (scores x0 x1 x3 h) (values x2) 12 (ix2 r l)) (sums (scores x0 x1 x3 h) 12 (ix2 r 0))
      = Ideal.div (∑ key, weight (score x0 x1 x3 h r key) (Finset.univ.sup (score x0 x1 x3 h r)) * x2 (ix3 0 key l))
        (∑ key, weight (score x0 x1 x3 h r key) (Finset.univ.sup (score x0 x1 x3 h r))) := by
  refine congrArg₂ Ideal.div ?_ ?_
  · refine total_tiles (k := 12) (n := 640) (by norm_num) (score x0 x1 x3 h r) (fun key => x2 (ix3 0 key l)) _ fun j k hk => ?_
    exact tiles_apply _ _ _ hk
  · refine (total_tiles (k := 12) (n := 640) (by norm_num) (score x0 x1 x3 h r) (fun _ => 1) _ fun j k hk => rfl).trans ?_
    exact Finset.sum_congr rfl fun key _ => mul_one _

/-- The block with the sums over all the keys. -/
theorem block_attended (r : Fin 640) (l : Fin 128) :
    out0_A_4 (F := Ideal) c i arg3 harg3 arg4 harg4 arg5 harg5 arg6 harg6 arg7 harg7 arg8 harg8 arg9 harg9 arg10 harg10 arg11 harg11 x0 x1 x2 x3 (ix3 0 r l)
      = Ideal.div
        (∑ key, weight (score x0 x1 x3 (half l) r key) (Finset.univ.sup (score x0 x1 x3 (half l) r)) * x2 (ix3 0 key l))
        (∑ key, weight (score x0 x1 x3 (half l) r key) (Finset.univ.sup (score x0 x1 x3 (half l) r))) := by
  rw [block, attended, attended]
  unfold half
  by_cases h : l.val < 64
  · simp only [if_pos h]
  · simp only [if_neg h]

end Cert.LatentIdeal.Steps
-- ==== Proof.Latent.lean ====
module

public import proofs.«01_k».proof.Proof.LatentBlock
public import proofs.«01_k».proof.Proof.Gen.LatentRefIdeal.Run
public import proofs.«01_k».proof.Proof.Gen.LatentIdeal.Value
public import proofs.«01_k».proof.Defs
public import Idealize.ShloMosaic.Lib.Pipeline.ValueKit
public import Idealize.ShloMosaic.Lib.Pointwise

@[expose] public section

/-! The latent attention call: the kernel's result array and the reference's are the same function of the
    arguments. -/

set_option maxRecDepth 16384

noncomputable section

namespace Cert.LatentIdeal.Rows

open Cert.LatentIdeal Cert.LatentIdeal.Gen Cert.LatentIdeal.Steps Idealize.ShloMosaic Idealize.ShloMosaic.TcCoe Idealize.SL.Sem
open Cert.Online

variable (m : (ℓ : Loc nD τ sig) → Buf (Elt Ideal) ℓ) (c : Dev nD)

/-- The score of a query at a key in one of the four heads: the product of their 128 features, and for the padding in
    front of the tokens the lowest score there is. -/
def logit (Q : Fin 512 → EReal) (K : Fin 8320 → Fin 512 → EReal) (h : Fin 4) (key : Fin 8320) : EReal :=
  if 112 ≤ key.val then ∑ d : Fin 128, Q ⟨h.val * 128 + d.val, by omega⟩ * K key ⟨h.val * 128 + d.val, by omega⟩ else ⊥

/-- What one head attends to in one value column: the values weighted by the exponential of the score, over the
    weights' sum. -/
def attend (Q : Fin 512 → EReal) (K : Fin 8320 → Fin 512 → EReal) (W : Fin 8320 → EReal) (h : Fin 4) : EReal :=
  Ideal.div (∑ key, weight (logit Q K h key) (Finset.univ.sup (logit Q K h)) * W key)
    (∑ key, weight (logit Q K h key) (Finset.univ.sup (logit Q K h)))

/-- The head that a value column belongs to. -/
def head (n : Fin 256) : Fin 4 := ⟨n.val / 64, by omega⟩

/-- The result. -/
def result : S10x8320x256.Idx → EReal := fun i =>
  attend (fun k => m (c.tc.loc main_arg0) (ix3 (i 0) (i 1) k)) (fun key k => m (c.tc.loc main_arg1) (ix3 (i 0) key k))
    (fun key => m (c.tc.loc main_arg2) (ix3 (i 0) key (i 2))) (head (i 2))

/-- Where each window stands at each of the 260 grid points: the queries and the result at block `t % 13` of batch
    `t / 26` and pair of heads `t / 13 % 2`, the keys and values at all the tokens of the batch, the mask whole. -/
theorem idx : ∀ t, win0_0.index t = ![t.val / 26, t.val % 13, t.val / 13 % 2]
    ∧ win0_1.index t = ![t.val / 26, 0, t.val / 13 % 2] ∧ win0_2.index t = ![t.val / 26, 0, t.val / 13 % 2]
    ∧ win0_3.index t = ![0, 0] ∧ win0_4.index t = ![t.val / 26, t.val % 13, t.val / 13 % 2] := by decide +kernel

/-- The batch that grid point `t` works on. -/
def batch (t : Fin cfg0.N) : Fin 10 := ⟨t.val / 26, by have : t.val < 260 := t.isLt; omega⟩

/-- The token that row `r` of grid point `t`'s block is. -/
def token (t : Fin cfg0.N) (r : Fin 640) : Fin 8320 := ⟨t.val % 13 * 640 + r, by omega⟩

/-- The feature that column `d` of the block of queries or keys is. -/
def feature (t : Fin cfg0.N) (d : Fin 256) : Fin 512 := ⟨t.val / 13 % 2 * 256 + d, by omega⟩

/-- The value column that column `l` of the block is. -/
def column (t : Fin cfg0.N) (l : Fin 128) : Fin 256 := ⟨t.val / 13 % 2 * 128 + l, by omega⟩

theorem query_block (t : Fin cfg0.N) (r : Fin 640) (d : Fin 256) :
    iblk m c 0 t (ix3 0 r d) = m (c.tc.loc main_arg0) (ix3 (batch t) (token t r) (feature t d)) := by
  blk_ext [iblk, V, idx t, batch, token, feature]

theorem key_block (t : Fin cfg0.N) (k : Fin 8320) (d : Fin 256) :
    iblk m c 1 t (ix3 0 k d) = m (c.tc.loc main_arg1) (ix3 (batch t) k (feature t d)) := by
  blk_ext [iblk, V, idx t, batch, feature]

theorem value_block (t : Fin cfg0.N) (k : Fin 8320) (l : Fin 128) :
    iblk m c 2 t (ix3 0 k l) = m (c.tc.loc main_arg2) (ix3 (batch t) k (column t l)) := by
  blk_ext [iblk, V, idx t, batch, column]

/-- The place of the result block's element. -/
theorem out_place (t : Fin cfg0.N) (u : Fin 1) (r : Fin 640) (l : Fin 128) :
    ((View.whole main_v6).slice (win0_4.rect t)).emb (ix3 u r l) = ix3 (batch t) (token t r) (column t l) := by
  blk_ext [idx t, batch, token, column]

/-- The mask that the call takes: nothing for a token, the lowest score for the padding. -/
theorem mask_block (t : Fin cfg0.N) (k : Fin 640) : iblk m c 3 t (ix2 0 k) = if 112 ≤ k.val then (0 : EReal) else ⊥ := by
  have e : iblk m c 3 t (ix2 0 k) = V m c main_v5 (ix2 0 k) := by
    blk_ext [iblk, idx t]
  have v : V m c main_v5 = shapeCast S1x640 (select (cmpi .sge (iotaInDim S640 32 0)
      (broadcastInDim S640 ![] bcast_S_S640 (constantI S_ 32 112#32)))
      (broadcastInDim S640 ![] bcast_S_S640 (constant (F := Ideal) S_ .f32 0x00000000#32))
      (broadcastInDim S640 ![] bcast_S_S640 (constant (F := Ideal) S_ .f32 0xFF800000#32))) shapeCasts_S640_S1x640 := rfl
  rw [e, v]
  pointwise
  have h : ∀ k : Fin 640, IntOp.cmpi .sge (BitVec.ofNat 32 k.val) 112#32 = if 112 ≤ k.val then 1#1 else 0#1 := by
    decide +kernel
  rw [h k]
  by_cases hk : 112 ≤ k.val
  · rw [if_pos hk, if_pos hk]
    rfl
  · rw [if_neg hk, if_neg hk]
    exact bottom

/-- The block's scores are the scores of its tokens. -/
theorem score_block (t : Fin cfg0.N) (l : Fin 128) (r : Fin 640) :
    score (iblk m c 0 t) (iblk m c 1 t) (iblk m c 3 t) (half l) r
      = logit (fun k => m (c.tc.loc main_arg0) (ix3 (batch t) (token t r) k))
        (fun key k => m (c.tc.loc main_arg1) (ix3 (batch t) key k)) (head (column t l)) := by
  have place : ∀ d : Fin 128, feature t ⟨128 * (half l).val + d.val, by omega⟩
      = ⟨(head (column t l)).val * 128 + d.val, by omega⟩ := by
    intro d
    apply Fin.ext
    simp only [feature, head, column, half]
    split <;> simp <;> omega
  funext key
  unfold score logit
  simp only [query_block, key_block, place]
  by_cases hk : key.val < 640
  · rw [dif_pos hk, mask_block]
    by_cases h : 112 ≤ key.val
    · rw [if_pos h, if_pos h, add_zero]
    · rw [if_neg h, if_neg h, EReal.add_bot]
  · rw [dif_neg hk, add_zero, if_pos (by omega)]

/-- The reference's masking of a score. -/
theorem keep_token (k : Fin 8320) (s : EReal) :
    Scalar.select (IntOp.cmpi .sge (BitVec.ofNat 32 k.val) 112#32) s
        (id (constant (F := Ideal) Cert.LatentRefIdeal.S_ FTy.f32 4286578688#32) ix0)
      = if 112 ≤ k.val then s else ⊥ := by
  have h : ∀ k : Fin 8320, IntOp.cmpi .sge (BitVec.ofNat 32 k.val) 112#32 = if 112 ≤ k.val then 1#1 else 0#1 := by
    decide +kernel
  rw [h k]
  by_cases hk : 112 ≤ k.val
  · rw [if_pos hk, if_pos hk]
    rfl
  · rw [if_neg hk, if_neg hk]
    exact bottom

/-- The kernel's result array after the run. -/
theorem kernel_result : (dats m 0 c).arrAt 4 (cfgs 0).N = result m c := by
  refine (dats m 0 c).arrAt_eq_of_covers 4 _ (by decide +kernel) fun t hf y => ?_
  blk_simp
  rw [after0_4]
  frame_out
  idx_vars y
  refine Eq.trans ?_ (congrArg (result m c) (out_place t y0 y1 y2).symm)
  obtain rfl : y0 = 0 := Subsingleton.elim _ _
  refine (block_attended (iblk m c 0 t) (iblk m c 1 t) (iblk m c 2 t) (iblk m c 3 t) y1 y2).trans ?_
  simp only [score_block, value_block]
  rfl

end Cert.LatentIdeal.Rows

namespace Cert.Proof

open Idealize.ShloMosaic Idealize.SL.Sem Cert.Online

/-- The kernel and the reference end with equal result arrays. -/
theorem latent : Cert.algebraic_LatentIdeal_LatentRefIdeal := by
  intro m g m' g' _ hagree
  refine ⟨fun c => Cert.LatentIdeal.Rows.result m c, ?_, ?_⟩
  · exact (θ_run Cert.LatentIdeal.defs _ _).mono
      (fun _ h c => ⟨(h c).1.trans (Cert.LatentIdeal.Rows.kernel_result m c), (h c).2⟩)
      (Cert.LatentIdeal.Value.run_blocks m g)
  · refine (θ_run Cert.LatentRefIdeal.defs _ _).mono (fun _ h c => ⟨(h c).1.trans ?_, (h c).2⟩)
      (Cert.LatentRefIdeal.Value.run m' g')
    simp only [(hagree c).1, (hagree c).2.1, (hagree c).2.2]
    funext i
    idx_vars i
    pointwise
    simp only [Cert.LatentIdeal.Rows.keep_token, Cert.LatentIdeal.Steps.fold_max]
    exact congrArg₂ Ideal.div (Finset.sum_congr rfl fun key _ => mul_comm _ _) rfl

end Cert.Proof
-- ==== Proof.Projection.lean ====
module

public import proofs.«01_k».proof.Proof.FeedForward
public import proofs.«01_k».proof.Proof.Online
public import Idealize.ShloMosaic.Lib.Pointwise

@[expose] public section

/-! The arithmetic of the input projection for one token: the normalised row times the columns of the input
    weights, the norms of the latent queries and keys, their widening, and the rotary turn. -/

noncomputable section

namespace Cert.Projection

open Idealize.ShloMosaic Cert.FeedForward

/-- One eighth, the scale of queries of 64 features. -/
def eighth : EReal := Ideal.ofBits FTy.f32 1040187392#32

/-- The scale of the latent queries, about one over the root of 96. -/
def scale : EReal := Ideal.ofBits FTy.f32 1037108716#32

/-- A row normalised by its root mean square, the mean taken with the divisor `N`, each feature scaled by its gain. -/
def normedBy {n : ℕ} (N : EReal) (x g : Fin n → EReal) (k : Fin n) : EReal :=
  x k * Ideal.rsqrt (Ideal.div (∑ k, x k * x k) N + tiny) * g k

/-- Column `j` of the projected row. -/
def col (x g : Fin 1024 → EReal) (w : Fin 1024 → Fin 2464 → EReal) (j : Fin 2464) : EReal :=
  ∑ k, normed x g k * w k j

/-- The 256 query features of the second attention spread over eight places of 64: heads 0 and 1 to places 0 and 2,
    heads 2 and 3 to places 5 and 7, zeros in the others. -/
def spread (f : Fin 256 → EReal) (d : Fin 512) : EReal :=
  if h : d.val < 64 then f ⟨d, by omega⟩ else if d.val < 128 then 0
  else if h : d.val < 192 then f ⟨d - 64, by omega⟩ else if d.val < 320 then 0
  else if h : d.val < 384 then f ⟨d - 192, by omega⟩ else if d.val < 448 then 0
  else f ⟨d - 256, by omega⟩

/-- The angle by which pair `i` of a token's rotary features is turned: the position, counted from slot 112, times a
    power of 10000. -/
def angle (s : Fin 8320) (i : ℕ) : EReal :=
  FloatOps.sitofp (F := Ideal) FTy.f32 (IntOp.subi (BitVec.ofNat 32 ↑s) 112#32) *
    Ideal.pow (Ideal.ofBits FTy.f32 1176256512#32)
      (Ideal.div (-(Ideal.ofBits FTy.f32 1073741824#32 * FloatOps.sitofp (F := Ideal) FTy.f32 (BitVec.ofNat 32 i)))
        (Ideal.ofBits FTy.f32 1107296256#32))

/-- The angle of each of the 32 rotary features: features `i` and `16 + i` make a pair. -/
def theta (s : Fin 8320) (i : Fin 32) : EReal := if i.val < 16 then angle s i else angle s (i - 16)

/-- The rotary turn of 32 features. -/
def turned (s : Fin 8320) (a : Fin 32 → EReal) (i : Fin 32) : EReal :=
  a i * Ideal.cos (theta s i)
    + (if h : i.val < 16 then -a ⟨16 + i, by omega⟩ else a ⟨i - 16, by omega⟩) * Ideal.sin (theta s i)

/-- The latent queries, widened: 384 columns. -/
def query (x g : Fin 1024 → EReal) (w : Fin 1024 → Fin 2464 → EReal) (gq : Fin 256 → EReal)
    (wq : Fin 256 → Fin 384 → EReal) (j : Fin 384) : EReal :=
  ∑ k, normedBy (Ideal.ofBits FTy.f32 1132462080#32) (fun k : Fin 256 => col x g w ⟨2048 + k, by omega⟩) gq k * wq k j

/-- The latent keys and values, widened: 512 columns. -/
def key (x g : Fin 1024 → EReal) (w : Fin 1024 → Fin 2464 → EReal) (gk : Fin 128 → EReal)
    (wk : Fin 128 → Fin 512 → EReal) (j : Fin 512) : EReal :=
  ∑ k, normedBy (Ideal.ofBits FTy.f32 1124073472#32) (fun k : Fin 128 => col x g w ⟨2304 + k, by omega⟩) gk k * wk k j

/-- The query heads of the latent attention, 128 places each: 64 plain features, 32 turned ones, 32 zeros, scaled. -/
def queryHeads (s : Fin 8320) (q : Fin 384 → EReal) (d : Fin 512) : EReal :=
  (if h : d.val % 128 < 64 then q ⟨d / 128 * 96 + d % 128, by omega⟩
    else if h : d.val % 128 - 64 < 32 then turned s (fun i => q ⟨d / 128 * 96 + (64 + i), by omega⟩) ⟨d % 128 - 64, h⟩
    else 0) * scale

/-- Its key heads: 64 plain features, the 32 turned features that all heads share, 32 zeros. -/
def keyHeads (s : Fin 8320) (q : Fin 512 → EReal) (r : Fin 32 → EReal) (d : Fin 512) : EReal :=
  if h : d.val % 128 < 64 then q d
  else if h : d.val % 128 - 64 < 32 then turned s r ⟨d % 128 - 64, h⟩ else 0

/-- Thirty-two features in places 64 to 95 of 128, zeros around them. -/
def padded (f : Fin 32 → EReal) (n : Fin 128) : EReal :=
  if n.val < 64 then 0 else if h : n.val - 64 < 32 then f ⟨n - 64, h⟩ else 0

/-- The same features turned by a quarter: the second half negated and moved in front of the first. -/
def quarter (f : Fin 32 → EReal) (n : Fin 128) : EReal :=
  if n.val < 64 then 0
  else if n.val - 64 < 32 then
    (if h : n.val - 64 < 16 then -f ⟨16 + (n - 64), by omega⟩ else f ⟨(n - 64 - 16) % 32, by omega⟩)
  else 0

end Cert.Projection
-- ==== Proof.ProjectionFacts.lean ====
module

public import proofs.«01_k».proof.Proof.Projection
public import proofs.«01_k».proof.Proof.Online
public import Idealize.ShloMosaic.Lib.IdealHost

@[expose] public section

/-! Sums over packed weights: of zeros, of scaled weights, and of negated ones where all terms are finite. -/

noncomputable section

namespace Cert.Projection

open Idealize.ShloMosaic Cert.FeedForward

/-- A finite value: a real number. -/
def Finite (x : EReal) : Prop := ∃ r : ℝ, x = r

theorem Finite.mul {x y : EReal} (hx : Finite x) (hy : Finite y) : Finite (x * y) := by
  obtain ⟨a, rfl⟩ := hx
  obtain ⟨b, rfl⟩ := hy
  exact ⟨a * b, (EReal.coe_mul a b).symm⟩

/-- A sum of finite values is finite. -/
theorem Finite.sum {ι : Type} (S : Finset ι) {f : ι → EReal} (h : ∀ i, Finite (f i)) : Finite (∑ i ∈ S, f i) := by
  classical
  induction S using Finset.induction_on with
  | empty => exact ⟨0, by simp⟩
  | insert a S ha ih =>
    obtain ⟨x, hx⟩ := ih
    obtain ⟨y, hy⟩ := h a
    exact ⟨y + x, by rw [Finset.sum_insert ha, hx, hy, EReal.coe_add]⟩

/-- The sum of negated finite values is the negated sum. -/
theorem sum_negated {ι : Type} (S : Finset ι) {f : ι → EReal} (h : ∀ i, Finite (f i)) :
    ∑ i ∈ S, -f i = -∑ i ∈ S, f i := by
  classical
  induction S using Finset.induction_on with
  | empty => simp
  | insert a S ha ih =>
    obtain ⟨x, hx⟩ := Finite.sum S h
    obtain ⟨y, hy⟩ := h a
    rw [Finset.sum_insert ha, Finset.sum_insert ha, ih, hx, hy, ← EReal.coe_neg, ← EReal.coe_neg, ← EReal.coe_add,
      ← EReal.coe_add, ← EReal.coe_neg, neg_add]

/-- The small number under the root is positive. -/
theorem tiny_pos : ∃ r : ℝ, 0 < r ∧ tiny = r := by
  refine ⟨_, ?_, by unfold tiny; simp only [Ideal.ofBits, Ideal.ieee]; simp [-EReal.coe_mul]; rfl⟩
  norm_num

theorem width_pos : ∃ r : ℝ, 0 < r ∧ width = r := by
  refine ⟨_, ?_, by unfold width; simp only [Ideal.ofBits, Ideal.ieee]; simp [-EReal.coe_mul]; rfl⟩
  norm_num

theorem latent_pos : ∃ r : ℝ, 0 < r ∧ Ideal.ofBits FTy.f32 1132462080#32 = r := by
  refine ⟨_, ?_, by simp only [Ideal.ofBits, Ideal.ieee]; simp [-EReal.coe_mul]; rfl⟩
  norm_num

/-- One eighth is positive and finite. -/
theorem eighth_pos : ∃ r : ℝ, 0 < r ∧ eighth = r := by
  refine ⟨_, ?_, by unfold eighth; simp only [Ideal.ofBits, Ideal.ieee]; simp [-EReal.coe_mul]; rfl⟩
  norm_num

/-- The inverse root mean square of finite values is finite. -/
theorem finite_rms {n : ℕ} {x : Fin n → EReal} (hx : ∀ k, Finite (x k)) {N : EReal} (hN : ∃ r : ℝ, 0 < r ∧ N = r) :
    Finite (Ideal.rsqrt (Ideal.div (∑ k, x k * x k) N + tiny)) := by
  obtain ⟨s, hs⟩ := Finite.sum Finset.univ fun k => (hx k).mul (hx k)
  have h0 : (0 : EReal) ≤ ∑ k, x k * x k := Finset.sum_nonneg fun k _ => by
    obtain ⟨r, hr⟩ := hx k
    rw [hr, ← EReal.coe_mul]
    exact EReal.coe_nonneg.mpr (mul_self_nonneg r)
  obtain ⟨N', hN0, rfl⟩ := hN
  obtain ⟨e, he0, he⟩ := tiny_pos
  rw [hs] at h0 ⊢
  have hs0 : 0 ≤ s := EReal.coe_nonneg.mp h0
  have hpos : 0 < s * N'⁻¹ + e := add_pos_of_nonneg_of_pos (mul_nonneg hs0 (inv_nonneg.mpr hN0.le)) he0
  have hne : ((N' : ℝ) : EReal) ≠ 0 := by
    intro h
    exact hN0.ne' (EReal.coe_eq_zero.mp h)
  rw [Ideal.div, if_neg hne, he, ← EReal.coe_inv, ← EReal.coe_mul, ← EReal.coe_add, Ideal.rsqrt_coe,
    if_neg (not_lt.mpr hpos.le), if_neg hpos.ne']
  exact ⟨_, rfl⟩

/-- A row normalised from finite values and gains is finite. -/
theorem finite_normed {x g : Fin 1024 → EReal} (hx : ∀ k, Finite (x k)) (hg : ∀ k, Finite (g k)) (k : Fin 1024) :
    Finite (normed x g k) :=
  ((hx k).mul (finite_rms hx width_pos)).mul (hg k)

theorem finite_normedBy {n : ℕ} {x g : Fin n → EReal} {N : EReal} (hN : ∃ r : ℝ, 0 < r ∧ N = r) (hx : ∀ k, Finite (x k))
    (hg : ∀ k, Finite (g k)) (k : Fin n) : Finite (normedBy N x g k) :=
  ((hx k).mul (finite_rms hx hN)).mul (hg k)

theorem finite_col {x g : Fin 1024 → EReal} {w : Fin 1024 → Fin 2464 → EReal} (hx : ∀ k, Finite (x k))
    (hg : ∀ k, Finite (g k)) (hw : ∀ k j, Finite (w k j)) (j : Fin 2464) : Finite (col x g w j) :=
  Finite.sum _ fun k => (finite_normed hx hg k).mul (hw k j)

/-- A product with scaled weights is the scaled product. -/
theorem sum_scaled {n : ℕ} (a b : Fin n → EReal) : ∑ k, a k * (b k * eighth) = (∑ k, a k * b k) * eighth := by
  obtain ⟨e, he0, he⟩ := eighth_pos
  rw [mul_comm _ eighth, Online.mul_sum_of_nonneg Finset.univ eighth (by rw [he]; exact EReal.coe_nonneg.mpr he0.le)
    (by rw [he]; exact EReal.coe_ne_top e)]
  exact Finset.sum_congr rfl fun k _ => by rw [← mul_assoc, mul_comm]

/-- A product with spread weights is spread. -/
theorem sum_spread {n : ℕ} (a : Fin n → EReal) (f : Fin n → Fin 256 → EReal) (d : Fin 512) :
    ∑ k, a k * spread (f k) d = spread (fun e => ∑ k, a k * f k e) d := by
  unfold spread
  (repeat' split) <;> simp

/-- A product with padded weights is padded. -/
theorem sum_padded {n : ℕ} (a : Fin n → EReal) (f : Fin n → Fin 32 → EReal) (d : Fin 128) :
    ∑ k, a k * padded (f k) d = padded (fun e => ∑ k, a k * f k e) d := by
  unfold padded
  (repeat' split) <;> simp

/-- A product with weights turned by a quarter is turned by a quarter, where all is finite. -/
theorem sum_quarter {n : ℕ} {a : Fin n → EReal} {f : Fin n → Fin 32 → EReal} (ha : ∀ k, Finite (a k))
    (hf : ∀ k e, Finite (f k e)) (d : Fin 128) :
    ∑ k, a k * quarter (f k) d = quarter (fun e => ∑ k, a k * f k e) d := by
  unfold quarter
  split_ifs with h1 h2 h3
  · simp
  · simp only [mul_neg]
    exact sum_negated _ fun k => (ha k).mul (hf k _)
  · rfl
  · simp

/-- The cosines of a slot, laid out over the places of a head. -/
def cosineAt (s : Fin 8320) (n : Fin 128) : EReal :=
  if n.val < 64 then 1 else if h : n.val - 64 < 32 then Ideal.cos (theta s ⟨n - 64, h⟩) else 0

/-- The sines of a slot, laid out in the same way. -/
def sineAt (s : Fin 8320) (n : Fin 128) : EReal :=
  if n.val < 64 then 0 else if h : n.val - 64 < 32 then Ideal.sin (theta s ⟨n - 64, h⟩) else 0

/-- The features times the cosines plus the turned features times the sines are the rotary turn. -/
theorem turned_padded (s : Fin 8320) (f : Fin 32 → EReal) (n : Fin 128) :
    padded f n * cosineAt s n + quarter f n * sineAt s n =
      if n.val < 64 then 0 else if h : n.val - 64 < 32 then turned s f ⟨n - 64, h⟩ else 0 := by
  unfold padded quarter cosineAt sineAt
  by_cases h1 : n.val < 64
  · simp [h1]
  · by_cases h2 : n.val - 64 < 32
    · simp only [h1, h2, if_false, if_true, dite_true, turned]
      have e : (n.val - 64 - 16) % 32 = n.val - 64 - 16 := by omega
      simp only [e]
    · simp [h1, h2]

end Cert.Projection
-- ==== Proof.ProjectPacking.lean ====
module

public import proofs.«01_k».proof.Proof.Projection
public import proofs.«01_k».proof.Proof.Gen.ProjectIdeal.Value
public import Idealize.ShloMosaic.Lib.Pipeline.ValueKit
public import Idealize.ShloMosaic.Lib.Pointwise

@[expose] public section

/-! How the input projection's weights and rotary tables are laid out for the kernel, and what stands in each
    range of their columns. -/

set_option maxRecDepth 16384

noncomputable section

namespace Cert.ProjectIdeal.Packing

open Cert.ProjectIdeal Cert.ProjectIdeal.Gen Idealize.ShloMosaic Idealize.ShloMosaic.TcCoe Idealize.SL.Sem
open Cert.Projection

/-- The rotary angles of each slot: the position, counted from slot 112, times each of sixteen frequencies, twice. -/
def angles : FVec Ideal S8320x32 .f32 :=
    concatenate S8320x32 1 [⟨S8320x16, mulf (broadcastInDim S8320x16 ![0, 1] bcast_S8320x1_S8320x16_0_1
    (broadcastInDim S8320x1 ![0] bcast_S8320_S8320x1_0 (sitofp .f32 (subi (iotaInDim S8320 32 0) (broadcastInDim
    S8320 ![] bcast_S_S8320 (constantI S_ 32 112#32)))))) (broadcastInDim S8320x16 ![0, 1]
    bcast_S1x16_S8320x16_0_1 (broadcastInDim S1x16 ![1] bcast_S16_S1x16_1 (Host.powf (broadcastInDim S16 ![]
    bcast_S_S16 (constant S_ .f32 0x461C4000#32)) (Host.divf (Host.negf (addf (broadcastInDim S16 ![] bcast_S_S16
    (constant S_ .f32 0x00000000#32)) (mulf (broadcastInDim S16 ![] bcast_S_S16 (constant S_ .f32
    0x40000000#32)) ((sitofp (F := Ideal) .f32 (iotaInDim S16 32 0)))))) (broadcastInDim S16 ![] bcast_S_S16
    (constant S_ .f32 0x42000000#32))))))⟩, ⟨S8320x16, mulf (broadcastInDim S8320x16 ![0, 1]
    bcast_S8320x1_S8320x16_0_1 (broadcastInDim S8320x1 ![0] bcast_S8320_S8320x1_0 (sitofp .f32 (subi ((iotaInDim
    S8320 32 0)) (broadcastInDim S8320 ![] bcast_S_S8320 (constantI S_ 32 112#32)))))) (broadcastInDim S8320x16
    ![0, 1] bcast_S1x16_S8320x16_0_1 (broadcastInDim S1x16 ![1] bcast_S16_S1x16_1 (Host.powf (broadcastInDim S16 ![]
    bcast_S_S16 (constant S_ .f32 0x461C4000#32)) (Host.divf (Host.negf (addf (broadcastInDim S16 ![] bcast_S_S16
    (constant S_ .f32 0x00000000#32)) (mulf (broadcastInDim S16 ![] bcast_S_S16 (constant S_ .f32
    0x40000000#32)) ((sitofp (F := Ideal) .f32 (iotaInDim S16 32 0)))))) (broadcastInDim S16 ![] bcast_S_S16
    (constant S_ .f32 0x42000000#32))))))⟩] concatenates_S8320x16_S8320x16_S8320x32_d1

/-- The cosines each slot is multiplied by, laid out over the 128 columns of a head: ones, the angles’ cosines, zeros. -/
def cosines : FVec Ideal S8320x128 .f32 :=
    concatenate S8320x128 1 [⟨S8320x64, broadcastInDim S8320x64 ![] bcast_S_S8320x64 (constant S_ .f32
    0x3F800000#32)⟩, ⟨S8320x32, Host.cos angles⟩, ⟨S8320x32, broadcastInDim S8320x32 ![] bcast_S_S8320x32
    (constant S_ .f32 0x00000000#32)⟩] concatenates_S8320x64_S8320x32_S8320x32_S8320x128_d1

/-- The sines, laid out in the same way: zeros, the angles’ sines, zeros. -/
def sines : FVec Ideal S8320x128 .f32 :=
    concatenate S8320x128 1 [⟨S8320x64, broadcastInDim S8320x64 ![] bcast_S_S8320x64 (constant S_ .f32
    0x00000000#32)⟩, ⟨S8320x32, Host.sin angles⟩, ⟨S8320x32, broadcastInDim S8320x32 ![] bcast_S_S8320x32
    (constant S_ .f32 0x00000000#32)⟩] concatenates_S8320x64_S8320x32_S8320x32_S8320x128_d1

/-- The input weights laid out for three products, up to the latent keys and values. -/
def packed (w : FVec Ideal S1024x2464 .f32) : FVec Ideal S1024x2816 .f32 :=
    concatenate S1024x2816 1 [⟨S1024x512, mulf (extractStridedSlice S1024x512 ![0, 0] w
    slices_S1024x2464_S1024x512_0_0) (broadcastInDim S1024x512 ![] bcast_S_S1024x512 (constant S_ .f32
    0x3E000000#32))⟩, ⟨S1024x512, extractStridedSlice S1024x512 ![0, 512] w slices_S1024x2464_S1024x512_0_512⟩,
    ⟨S1024x512, extractStridedSlice S1024x512 ![0, 1024] w slices_S1024x2464_S1024x512_0_1024⟩, ⟨S1024x64, mulf
    (extractStridedSlice S1024x64 ![0, 0] (extractStridedSlice S1024x256 ![0, 1536] w
    slices_S1024x2464_S1024x256_0_1536) slices_S1024x256_S1024x64_0_0) (broadcastInDim S1024x64 ![] bcast_S_S1024x64
    (constant S_ .f32 0x3E000000#32))⟩, ⟨S1024x64, broadcastInDim S1024x64 ![] bcast_S_S1024x64 (constant S_ .f32
    0x00000000#32)⟩, ⟨S1024x64, mulf (extractStridedSlice S1024x64 ![0, 64] (extractStridedSlice S1024x256 ![0,
    1536] w slices_S1024x2464_S1024x256_0_1536) slices_S1024x256_S1024x64_0_64) (broadcastInDim S1024x64 ![]
    bcast_S_S1024x64 (constant S_ .f32 0x3E000000#32))⟩, ⟨S1024x64, broadcastInDim S1024x64 ![] bcast_S_S1024x64
    (constant S_ .f32 0x00000000#32)⟩, ⟨S1024x64, broadcastInDim S1024x64 ![] bcast_S_S1024x64 (constant S_ .f32
    0x00000000#32)⟩, ⟨S1024x64, mulf (extractStridedSlice S1024x64 ![0, 128] (extractStridedSlice S1024x256 ![0,
    1536] w slices_S1024x2464_S1024x256_0_1536) slices_S1024x256_S1024x64_0_128) (broadcastInDim S1024x64 ![]
    bcast_S_S1024x64 (constant S_ .f32 0x3E000000#32))⟩, ⟨S1024x64, broadcastInDim S1024x64 ![] bcast_S_S1024x64
    (constant S_ .f32 0x00000000#32)⟩, ⟨S1024x64, mulf (extractStridedSlice S1024x64 ![0, 192]
    (extractStridedSlice S1024x256 ![0, 1536] w slices_S1024x2464_S1024x256_0_1536) slices_S1024x256_S1024x64_0_192)
    (broadcastInDim S1024x64 ![] bcast_S_S1024x64 (constant S_ .f32 0x3E000000#32))⟩, ⟨S1024x128,
    extractStridedSlice S1024x128 ![0, 1792] w slices_S1024x2464_S1024x128_0_1792⟩, ⟨S1024x128, extractStridedSlice
    S1024x128 ![0, 1920] w slices_S1024x2464_S1024x128_0_1920⟩, ⟨S1024x128, concatenate S1024x128 1 [⟨S1024x64,
    extractStridedSlice S1024x64 ![0, 64] (extractStridedSlice S1024x128 ![0, 1920] w
    slices_S1024x2464_S1024x128_0_1920) slices_S1024x128_S1024x64_0_64⟩, ⟨S1024x64, extractStridedSlice S1024x64
    ![0, 0] (extractStridedSlice S1024x128 ![0, 1920] w slices_S1024x2464_S1024x128_0_1920)
    slices_S1024x128_S1024x64_0_0⟩] concatenates_S1024x64_S1024x64_S1024x128_d1⟩, ⟨S1024x256, extractStridedSlice
    S1024x256 ![0, 2048] w slices_S1024x2464_S1024x256_0_2048⟩, ⟨S1024x128, extractStridedSlice S1024x128 ![0, 2304]
    w slices_S1024x2464_S1024x128_0_2304⟩]
    concatenates_S1024x512_S1024x512_S1024x512_S1024x64_S1024x64_S1024x64_S1024x64_S1024x64_S1024x64_S1024x64_S1024x64_S1024x128_S1024x128_S1024x128_S1024x256_S1024x128_S1024x2816_d1

/-- The rest of the input weights: the rotary keys, then the rotary keys turned by a quarter. -/
def packedRope (w : FVec Ideal S1024x2464 .f32) : FVec Ideal S1024x256 .f32 :=
    concatenate S1024x256 1 [⟨S1024x64, broadcastInDim S1024x64 ![] bcast_S_S1024x64 (constant S_ .f32
    0x00000000#32)⟩, ⟨S1024x32, extractStridedSlice S1024x32 ![0, 2432] w slices_S1024x2464_S1024x32_0_2432⟩,
    ⟨S1024x32, broadcastInDim S1024x32 ![] bcast_S_S1024x32 (constant S_ .f32 0x00000000#32)⟩, ⟨S1024x64,
    broadcastInDim S1024x64 ![] bcast_S_S1024x64 (constant S_ .f32 0x00000000#32)⟩, ⟨S1024x32, concatenate
    S1024x32 1 [⟨S1024x16, Host.negf (extractStridedSlice S1024x16 ![0, 16] (extractStridedSlice S1024x32 ![0, 2432]
    w slices_S1024x2464_S1024x32_0_2432) slices_S1024x32_S1024x16_0_16)⟩, ⟨S1024x16, extractStridedSlice S1024x16
    ![0, 0] (extractStridedSlice S1024x32 ![0, 2432] w slices_S1024x2464_S1024x32_0_2432)
    slices_S1024x32_S1024x16_0_0⟩] concatenates_S1024x16_S1024x16_S1024x32_d1⟩, ⟨S1024x32, broadcastInDim S1024x32
    ![] bcast_S_S1024x32 (constant S_ .f32 0x00000000#32)⟩]
    concatenates_S1024x64_S1024x32_S1024x32_S1024x64_S1024x32_S1024x32_S1024x256_d1

/-- The input weights as the kernel takes them. -/
def wide (w : FVec Ideal S1024x2464 .f32) : FVec Ideal S1024x3072 .bf16 :=
    truncf .bf16 (concatenate S1024x3072 1 [⟨S1024x2816, packed w⟩, ⟨S1024x256, packedRope w⟩]
    concatenates_S1024x2816_S1024x256_S1024x3072_d1) bitsLt_bf16_f32

/-- The weights of the latent queries: each head filled up to 128 columns, then the same turned by a quarter. -/
def queries (w : FVec Ideal S256x384 .f32) : FVec Ideal S256x1024 .bf16 :=
    concatenate S256x1024 1 [⟨S256x512, truncf .bf16 (shapeCast S256x512 (concatenate S256x4x128 2 [⟨S256x4x64,
    extractStridedSlice S256x4x64 ![0, 0, 0] (shapeCast S256x4x96 w shapeCasts_S256x384_S256x4x96)
    slices_S256x4x96_S256x4x64_0_0_0⟩, ⟨S256x4x32, extractStridedSlice S256x4x32 ![0, 0, 64] (shapeCast S256x4x96 w
    shapeCasts_S256x384_S256x4x96) slices_S256x4x96_S256x4x32_0_0_64⟩, ⟨S256x4x32, broadcastInDim S256x4x32 ![]
    bcast_S_S256x4x32 (constant S_ .f32 0x00000000#32)⟩] concatenates_S256x4x64_S256x4x32_S256x4x32_S256x4x128_d2)
    shapeCasts_S256x4x128_S256x512) bitsLt_bf16_f32⟩, ⟨S256x512, truncf .bf16 (shapeCast S256x512 (concatenate
    S256x4x128 2 [⟨S256x4x64, broadcastInDim S256x4x64 ![] bcast_S_S256x4x64 (constant S_ .f32 0x00000000#32)⟩,
    ⟨S256x4x32, concatenate S256x4x32 2 [⟨S256x4x16, Host.negf (extractStridedSlice S256x4x16 ![0, 0, 16]
    (extractStridedSlice S256x4x32 ![0, 0, 64] (shapeCast S256x4x96 w shapeCasts_S256x384_S256x4x96)
    slices_S256x4x96_S256x4x32_0_0_64) slices_S256x4x32_S256x4x16_0_0_16)⟩, ⟨S256x4x16, extractStridedSlice
    S256x4x16 ![0, 0, 0] (extractStridedSlice S256x4x32 ![0, 0, 64] (shapeCast S256x4x96 w
    shapeCasts_S256x384_S256x4x96) slices_S256x4x96_S256x4x32_0_0_64) slices_S256x4x32_S256x4x16_0_0_0⟩]
    concatenates_S256x4x16_S256x4x16_S256x4x32_d2⟩, ⟨S256x4x32, broadcastInDim S256x4x32 ![] bcast_S_S256x4x32
    (constant S_ .f32 0x00000000#32)⟩] concatenates_S256x4x64_S256x4x32_S256x4x32_S256x4x128_d2)
    shapeCasts_S256x4x128_S256x512) bitsLt_bf16_f32⟩] concatenates_S256x512_S256x512_S256x1024_d1

/-- The weights of the latent keys and values: each head’s keys filled up to 128 columns, then the values. -/
def keys (w : FVec Ideal S128x512 .f32) : FVec Ideal S128x768 .bf16 :=
    concatenate S128x768 1 [⟨S128x512, truncf .bf16 (shapeCast S128x512 (concatenate S128x4x128 2 [⟨S128x4x64,
    extractStridedSlice S128x4x64 ![0, 0, 0] (shapeCast S128x4x128 w shapeCasts_S128x512_S128x4x128)
    slices_S128x4x128_S128x4x64_0_0_0⟩, ⟨S128x4x64, broadcastInDim S128x4x64 ![] bcast_S_S128x4x64 (constant S_
    .f32 0x00000000#32)⟩] concatenates_S128x4x64_S128x4x64_S128x4x128_d2) shapeCasts_S128x4x128_S128x512)
    bitsLt_bf16_f32⟩, ⟨S128x256, truncf .bf16 (shapeCast S128x256 (extractStridedSlice S128x4x64 ![0, 0, 64]
    (shapeCast S128x4x128 w shapeCasts_S128x512_S128x4x128) slices_S128x4x128_S128x4x64_0_0_64)
    shapeCasts_S128x4x64_S128x256) bitsLt_bf16_f32⟩] concatenates_S128x512_S128x256_S128x768_d1

variable (m : (ℓ : Loc nD τ sig) → Buf (Elt Ideal) ℓ) (c : Dev nD)

/-- The host code's values at the launch. -/
theorem cosines_value : V m c main_v24 = cosines := rfl
theorem sines_value : V m c main_v26 = sines := rfl
set_option maxHeartbeats 2000000 in
theorem wide_value : V m c main_v63 = wide (m (c.tc.loc main_arg2)) := by
  show StableHlo.after hostOps0 (fun b => m (c, b)) (Proc.tc.devRef main_v63) = _
  after_results_simp <;> (try dsimp only [Matrix.cons_val]) <;> (try after_results_simp) <;> rfl
set_option maxHeartbeats 2000000 in
theorem queries_value : V m c main_v88 = queries (m (c.tc.loc main_arg5)) := by
  show StableHlo.after hostOps0 (fun b => m (c, b)) (Proc.tc.devRef main_v88) = _
  after_results_simp <;> (try dsimp only [Matrix.cons_val]) <;> (try after_results_simp) <;> rfl
theorem keys_value : V m c main_v89 = keys (m (c.tc.loc main_arg6)) := rfl

/-- Below column 2816 the kernel's weights are the packed ones. -/
theorem wide_packed (w : FVec Ideal S1024x2464 .f32) (k : Fin 1024) (n : Fin 2816) :
    wide w (ix2 k ⟨n, by omega⟩) = packed w (ix2 k n) := by
  pointwise [wide]

/-! The pieces of the packed weights, by their first columns. -/

theorem packed_a (w : FVec Ideal S1024x2464 .f32) (k : Fin 1024) (n : Fin 512) :
    packed w (ix2 k ⟨n, by omega⟩) = w (ix2 k ⟨n, by omega⟩) * eighth := by
  refine Eq.trans (b := (mulf (extractStridedSlice S1024x512 ![0, 0] w slices_S1024x2464_S1024x512_0_0) (broadcastInDim S1024x512 ![]
    bcast_S_S1024x512 (constant S_ .f32 0x3E000000#32)) : FVec Ideal S1024x512 .f32) (ix2 k n))
    (concatenate_apply_piece (t := S1024x2816) 1 _ _ (ix2 k ⟨n, by omega⟩) 0 ?_ S1024x512 _ ?_ rfl 0 rfl (ix2 k n)
    (fun b hb => ?_) (Nat.zero_add _)) ?_
  · show 0 < 16
    omega
  · rfl
  · match b with
    | ⟨0, _⟩ => rfl
    | ⟨1, _⟩ => exact absurd rfl hb
  · pointwise [eighth]

theorem packed_ak (w : FVec Ideal S1024x2464 .f32) (k : Fin 1024) (n : Fin 512) :
    packed w (ix2 k ⟨512 + n, by omega⟩) = w (ix2 k ⟨512 + n, by omega⟩) := by
  refine Eq.trans (b := (extractStridedSlice S1024x512 ![0, 512] w slices_S1024x2464_S1024x512_0_512 : FVec Ideal S1024x512 .f32) (ix2 k n))
    (concatenate_apply_piece (t := S1024x2816) 1 _ _ (ix2 k ⟨512 + n, by omega⟩) 1 ?_ S1024x512 _ ?_ rfl 512 rfl (ix2 k n)
    (fun b hb => ?_) rfl) ?_
  · show 1 < 16
    omega
  · rfl
  · match b with
    | ⟨0, _⟩ => rfl
    | ⟨1, _⟩ => exact absurd rfl hb
  · pointwise

theorem packed_av (w : FVec Ideal S1024x2464 .f32) (k : Fin 1024) (n : Fin 512) :
    packed w (ix2 k ⟨1024 + n, by omega⟩) = w (ix2 k ⟨1024 + n, by omega⟩) := by
  refine Eq.trans (b := (extractStridedSlice S1024x512 ![0, 1024] w slices_S1024x2464_S1024x512_0_1024 : FVec Ideal S1024x512 .f32) (ix2 k n))
    (concatenate_apply_piece (t := S1024x2816) 1 _ _ (ix2 k ⟨1024 + n, by omega⟩) 2 ?_ S1024x512 _ ?_ rfl 1024 rfl (ix2 k n)
    (fun b hb => ?_) rfl) ?_
  · show 2 < 16
    omega
  · rfl
  · match b with
    | ⟨0, _⟩ => rfl
    | ⟨1, _⟩ => exact absurd rfl hb
  · pointwise

theorem packed_q0 (w : FVec Ideal S1024x2464 .f32) (k : Fin 1024) (n : Fin 64) :
    packed w (ix2 k ⟨1536 + n, by omega⟩) = w (ix2 k ⟨1536 + n, by omega⟩) * eighth := by
  refine Eq.trans (b := (mulf (extractStridedSlice S1024x64 ![0, 0] (extractStridedSlice S1024x256 ![0, 1536] w
    slices_S1024x2464_S1024x256_0_1536) slices_S1024x256_S1024x64_0_0) (broadcastInDim S1024x64 ![] bcast_S_S1024x64
    (constant S_ .f32 0x3E000000#32)) : FVec Ideal S1024x64 .f32) (ix2 k n))
    (concatenate_apply_piece (t := S1024x2816) 1 _ _ (ix2 k ⟨1536 + n, by omega⟩) 3 ?_ S1024x64 _ ?_ rfl 1536 rfl (ix2 k n)
    (fun b hb => ?_) rfl) ?_
  · show 3 < 16
    omega
  · rfl
  · match b with
    | ⟨0, _⟩ => rfl
    | ⟨1, _⟩ => exact absurd rfl hb
  · pointwise [eighth]

theorem packed_z1 (w : FVec Ideal S1024x2464 .f32) (k : Fin 1024) (n : Fin 64) :
    packed w (ix2 k ⟨1600 + n, by omega⟩) = (0 : EReal) := by
  refine Eq.trans (b := (broadcastInDim S1024x64 ![] bcast_S_S1024x64 (constant S_ .f32 0x00000000#32) : FVec Ideal S1024x64 .f32) (ix2 k n))
    (concatenate_apply_piece (t := S1024x2816) 1 _ _ (ix2 k ⟨1600 + n, by omega⟩) 4 ?_ S1024x64 _ ?_ rfl 1600 rfl (ix2 k n)
    (fun b hb => ?_) rfl) ?_
  · show 4 < 16
    omega
  · rfl
  · match b with
    | ⟨0, _⟩ => rfl
    | ⟨1, _⟩ => exact absurd rfl hb
  · pointwise

theorem packed_q1 (w : FVec Ideal S1024x2464 .f32) (k : Fin 1024) (n : Fin 64) :
    packed w (ix2 k ⟨1664 + n, by omega⟩) = w (ix2 k ⟨1600 + n, by omega⟩) * eighth := by
  refine Eq.trans (b := (mulf (extractStridedSlice S1024x64 ![0, 64] (extractStridedSlice S1024x256 ![0, 1536] w
    slices_S1024x2464_S1024x256_0_1536) slices_S1024x256_S1024x64_0_64) (broadcastInDim S1024x64 ![]
    bcast_S_S1024x64 (constant S_ .f32 0x3E000000#32)) : FVec Ideal S1024x64 .f32) (ix2 k n))
    (concatenate_apply_piece (t := S1024x2816) 1 _ _ (ix2 k ⟨1664 + n, by omega⟩) 5 ?_ S1024x64 _ ?_ rfl 1664 rfl (ix2 k n)
    (fun b hb => ?_) rfl) ?_
  · show 5 < 16
    omega
  · rfl
  · match b with
    | ⟨0, _⟩ => rfl
    | ⟨1, _⟩ => exact absurd rfl hb
  · pointwise [eighth]
    exact congrArg (fun z => w (ix2 k z) * Ideal.ofBits FTy.f32 1040187392#32) (Fin.ext (by dsimp only; omega))

theorem packed_z3 (w : FVec Ideal S1024x2464 .f32) (k : Fin 1024) (n : Fin 64) :
    packed w (ix2 k ⟨1728 + n, by omega⟩) = (0 : EReal) := by
  refine Eq.trans (b := (broadcastInDim S1024x64 ![] bcast_S_S1024x64 (constant S_ .f32 0x00000000#32) : FVec Ideal S1024x64 .f32) (ix2 k n))
    (concatenate_apply_piece (t := S1024x2816) 1 _ _ (ix2 k ⟨1728 + n, by omega⟩) 6 ?_ S1024x64 _ ?_ rfl 1728 rfl (ix2 k n)
    (fun b hb => ?_) rfl) ?_
  · show 6 < 16
    omega
  · rfl
  · match b with
    | ⟨0, _⟩ => rfl
    | ⟨1, _⟩ => exact absurd rfl hb
  · pointwise

theorem packed_z4 (w : FVec Ideal S1024x2464 .f32) (k : Fin 1024) (n : Fin 64) :
    packed w (ix2 k ⟨1792 + n, by omega⟩) = (0 : EReal) := by
  refine Eq.trans (b := (broadcastInDim S1024x64 ![] bcast_S_S1024x64 (constant S_ .f32 0x00000000#32) : FVec Ideal S1024x64 .f32) (ix2 k n))
    (concatenate_apply_piece (t := S1024x2816) 1 _ _ (ix2 k ⟨1792 + n, by omega⟩) 7 ?_ S1024x64 _ ?_ rfl 1792 rfl (ix2 k n)
    (fun b hb => ?_) rfl) ?_
  · show 7 < 16
    omega
  · rfl
  · match b with
    | ⟨0, _⟩ => rfl
    | ⟨1, _⟩ => exact absurd rfl hb
  · pointwise

theorem packed_q2 (w : FVec Ideal S1024x2464 .f32) (k : Fin 1024) (n : Fin 64) :
    packed w (ix2 k ⟨1856 + n, by omega⟩) = w (ix2 k ⟨1664 + n, by omega⟩) * eighth := by
  refine Eq.trans (b := (mulf (extractStridedSlice S1024x64 ![0, 128] (extractStridedSlice S1024x256 ![0, 1536] w
    slices_S1024x2464_S1024x256_0_1536) slices_S1024x256_S1024x64_0_128) (broadcastInDim S1024x64 ![]
    bcast_S_S1024x64 (constant S_ .f32 0x3E000000#32)) : FVec Ideal S1024x64 .f32) (ix2 k n))
    (concatenate_apply_piece (t := S1024x2816) 1 _ _ (ix2 k ⟨1856 + n, by omega⟩) 8 ?_ S1024x64 _ ?_ rfl 1856 rfl (ix2 k n)
    (fun b hb => ?_) rfl) ?_
  · show 8 < 16
    omega
  · rfl
  · match b with
    | ⟨0, _⟩ => rfl
    | ⟨1, _⟩ => exact absurd rfl hb
  · pointwise [eighth]
    exact congrArg (fun z => w (ix2 k z) * Ideal.ofBits FTy.f32 1040187392#32) (Fin.ext (by dsimp only; omega))

theorem packed_z6 (w : FVec Ideal S1024x2464 .f32) (k : Fin 1024) (n : Fin 64) :
    packed w (ix2 k ⟨1920 + n, by omega⟩) = (0 : EReal) := by
  refine Eq.trans (b := (broadcastInDim S1024x64 ![] bcast_S_S1024x64 (constant S_ .f32 0x00000000#32) : FVec Ideal S1024x64 .f32) (ix2 k n))
    (concatenate_apply_piece (t := S1024x2816) 1 _ _ (ix2 k ⟨1920 + n, by omega⟩) 9 ?_ S1024x64 _ ?_ rfl 1920 rfl (ix2 k n)
    (fun b hb => ?_) rfl) ?_
  · show 9 < 16
    omega
  · rfl
  · match b with
    | ⟨0, _⟩ => rfl
    | ⟨1, _⟩ => exact absurd rfl hb
  · pointwise

theorem packed_q3 (w : FVec Ideal S1024x2464 .f32) (k : Fin 1024) (n : Fin 64) :
    packed w (ix2 k ⟨1984 + n, by omega⟩) = w (ix2 k ⟨1728 + n, by omega⟩) * eighth := by
  refine Eq.trans (b := (mulf (extractStridedSlice S1024x64 ![0, 192] (extractStridedSlice S1024x256 ![0, 1536] w
    slices_S1024x2464_S1024x256_0_1536) slices_S1024x256_S1024x64_0_192) (broadcastInDim S1024x64 ![]
    bcast_S_S1024x64 (constant S_ .f32 0x3E000000#32)) : FVec Ideal S1024x64 .f32) (ix2 k n))
    (concatenate_apply_piece (t := S1024x2816) 1 _ _ (ix2 k ⟨1984 + n, by omega⟩) 10 ?_ S1024x64 _ ?_ rfl 1984 rfl (ix2 k n)
    (fun b hb => ?_) rfl) ?_
  · show 10 < 16
    omega
  · rfl
  · match b with
    | ⟨0, _⟩ => rfl
    | ⟨1, _⟩ => exact absurd rfl hb
  · pointwise [eighth]
    exact congrArg (fun z => w (ix2 k z) * Ideal.ofBits FTy.f32 1040187392#32) (Fin.ext (by dsimp only; omega))

theorem packed_bk (w : FVec Ideal S1024x2464 .f32) (k : Fin 1024) (n : Fin 128) :
    packed w (ix2 k ⟨2048 + n, by omega⟩) = w (ix2 k ⟨1792 + n, by omega⟩) := by
  refine Eq.trans (b := (extractStridedSlice S1024x128 ![0, 1792] w slices_S1024x2464_S1024x128_0_1792 : FVec Ideal S1024x128 .f32) (ix2 k n))
    (concatenate_apply_piece (t := S1024x2816) 1 _ _ (ix2 k ⟨2048 + n, by omega⟩) 11 ?_ S1024x128 _ ?_ rfl 2048 rfl (ix2 k n)
    (fun b hb => ?_) rfl) ?_
  · show 11 < 16
    omega
  · rfl
  · match b with
    | ⟨0, _⟩ => rfl
    | ⟨1, _⟩ => exact absurd rfl hb
  · pointwise

theorem packed_bv (w : FVec Ideal S1024x2464 .f32) (k : Fin 1024) (n : Fin 128) :
    packed w (ix2 k ⟨2176 + n, by omega⟩) = w (ix2 k ⟨1920 + n, by omega⟩) := by
  refine Eq.trans (b := (extractStridedSlice S1024x128 ![0, 1920] w slices_S1024x2464_S1024x128_0_1920 : FVec Ideal S1024x128 .f32) (ix2 k n))
    (concatenate_apply_piece (t := S1024x2816) 1 _ _ (ix2 k ⟨2176 + n, by omega⟩) 12 ?_ S1024x128 _ ?_ rfl 2176 rfl (ix2 k n)
    (fun b hb => ?_) rfl) ?_
  · show 12 < 16
    omega
  · rfl
  · match b with
    | ⟨0, _⟩ => rfl
    | ⟨1, _⟩ => exact absurd rfl hb
  · pointwise

set_option maxHeartbeats 4000000 in
theorem packed_bvs (w : FVec Ideal S1024x2464 .f32) (k : Fin 1024) (n : Fin 128) :
    packed w (ix2 k ⟨2304 + n, by omega⟩) = if n.val < 64 then w (ix2 k ⟨1984 + n % 64, by omega⟩) else w (ix2 k ⟨1920 + n % 64, by omega⟩) := by
  refine Eq.trans (b := (concatenate S1024x128 1 [⟨S1024x64, extractStridedSlice S1024x64 ![0, 64] (extractStridedSlice S1024x128 ![0,
    1920] w slices_S1024x2464_S1024x128_0_1920) slices_S1024x128_S1024x64_0_64⟩, ⟨S1024x64, extractStridedSlice
    S1024x64 ![0, 0] (extractStridedSlice S1024x128 ![0, 1920] w slices_S1024x2464_S1024x128_0_1920)
    slices_S1024x128_S1024x64_0_0⟩] concatenates_S1024x64_S1024x64_S1024x128_d1 : FVec Ideal S1024x128 .f32) (ix2 k n))
    (concatenate_apply_piece (t := S1024x2816) 1 _ _ (ix2 k ⟨2304 + n, by omega⟩) 13 ?_ S1024x128 _ ?_ rfl 2304 rfl (ix2 k n)
    (fun b hb => ?_) rfl) ?_
  · show 13 < 16
    omega
  · rfl
  · match b with
    | ⟨0, _⟩ => rfl
    | ⟨1, _⟩ => exact absurd rfl hb
  · pointwise
    split_ifs <;> exact congrArg (fun z => w (ix2 k z)) (Fin.ext (by dsimp only; omega))

set_option maxHeartbeats 4000000 in
theorem packed_cq (w : FVec Ideal S1024x2464 .f32) (k : Fin 1024) (n : Fin 256) :
    packed w (ix2 k ⟨2432 + n, by omega⟩) = w (ix2 k ⟨2048 + n, by omega⟩) := by
  refine Eq.trans (b := (extractStridedSlice S1024x256 ![0, 2048] w slices_S1024x2464_S1024x256_0_2048 : FVec Ideal S1024x256 .f32) (ix2 k n))
    (concatenate_apply_piece (t := S1024x2816) 1 _ _ (ix2 k ⟨2432 + n, by omega⟩) 14 ?_ S1024x256 _ ?_ rfl 2432 rfl (ix2 k n)
    (fun b hb => ?_) rfl) ?_
  · show 14 < 16
    omega
  · rfl
  · match b with
    | ⟨0, _⟩ => rfl
    | ⟨1, _⟩ => exact absurd rfl hb
  · pointwise

set_option maxHeartbeats 4000000 in
theorem packed_ckv (w : FVec Ideal S1024x2464 .f32) (k : Fin 1024) (n : Fin 128) :
    packed w (ix2 k ⟨2688 + n, by omega⟩) = w (ix2 k ⟨2304 + n, by omega⟩) := by
  refine Eq.trans (b := (extractStridedSlice S1024x128 ![0, 2304] w slices_S1024x2464_S1024x128_0_2304 : FVec Ideal S1024x128 .f32) (ix2 k n))
    (concatenate_apply_piece (t := S1024x2816) 1 _ _ (ix2 k ⟨2688 + n, by omega⟩) 15 ?_ S1024x128 _ ?_ rfl 2688 rfl (ix2 k n)
    (fun b hb => ?_) rfl) ?_
  · show 15 < 16
    omega
  · rfl
  · match b with
    | ⟨0, _⟩ => rfl
    | ⟨1, _⟩ => exact absurd rfl hb
  · pointwise

/-- Columns 1536 to 2047: the scaled query weights of the second attention, spread over eight places. -/
theorem packed_spread (w : FVec Ideal S1024x2464 .f32) (k : Fin 1024) (d : Fin 512) :
    packed w (ix2 k ⟨1536 + d, by omega⟩) = spread (fun e => w (ix2 k ⟨1536 + e, by omega⟩) * eighth) d := by
  unfold spread
  by_cases h1 : d.val < 64
  · rw [dif_pos h1]
    refine (congrArg (fun z => packed w (ix2 k z)) (Fin.ext (by dsimp only; omega))).trans ((packed_q0 w k ⟨d - 0, by omega⟩).trans ?_)
    exact congrArg (fun z => w (ix2 k z) * eighth) (Fin.ext (by dsimp only; omega))
  rw [dif_neg h1]
  by_cases h2 : d.val < 128
  · rw [if_pos h2]
    refine (congrArg (fun z => packed w (ix2 k z)) (Fin.ext (by dsimp only; omega))).trans ((packed_z1 w k ⟨d - 64, by omega⟩).trans ?_)
    rfl
  rw [if_neg h2]
  by_cases h3 : d.val < 192
  · rw [dif_pos h3]
    refine (congrArg (fun z => packed w (ix2 k z)) (Fin.ext (by dsimp only; omega))).trans ((packed_q1 w k ⟨d - 128, by omega⟩).trans ?_)
    exact congrArg (fun z => w (ix2 k z) * eighth) (Fin.ext (by dsimp only; omega))
  rw [dif_neg h3]
  by_cases h4 : d.val < 320
  · rw [if_pos h4]
    by_cases h5 : d.val < 256
    · refine (congrArg (fun z => packed w (ix2 k z)) (Fin.ext (by dsimp only; omega))).trans ((packed_z3 w k ⟨d - 192, by omega⟩).trans ?_)
      rfl
    · refine (congrArg (fun z => packed w (ix2 k z)) (Fin.ext (by dsimp only; omega))).trans ((packed_z4 w k ⟨d - 256, by omega⟩).trans ?_)
      rfl
  rw [if_neg h4]
  by_cases h6 : d.val < 384
  · rw [dif_pos h6]
    refine (congrArg (fun z => packed w (ix2 k z)) (Fin.ext (by dsimp only; omega))).trans ((packed_q2 w k ⟨d - 320, by omega⟩).trans ?_)
    exact congrArg (fun z => w (ix2 k z) * eighth) (Fin.ext (by dsimp only; omega))
  rw [dif_neg h6]
  by_cases h7 : d.val < 448
  · rw [if_pos h7]
    refine (congrArg (fun z => packed w (ix2 k z)) (Fin.ext (by dsimp only; omega))).trans ((packed_z6 w k ⟨d - 384, by omega⟩).trans ?_)
    rfl
  rw [if_neg h7]
  refine (congrArg (fun z => packed w (ix2 k z)) (Fin.ext (by dsimp only; omega))).trans ((packed_q3 w k ⟨d - 448, by omega⟩).trans ?_)
  exact congrArg (fun z => w (ix2 k z) * eighth) (Fin.ext (by dsimp only; omega))

/-- The rotary keys' columns, filled up to 128. -/
theorem wide_rope (w : FVec Ideal S1024x2464 .f32) (k : Fin 1024) (n : Fin 128) : wide w (ix2 k ⟨2816 + n, by omega⟩) =
    padded (fun i => w (ix2 k ⟨2432 + i, by omega⟩)) n := by
  have h : wide w (ix2 k ⟨2816 + n, by omega⟩) = packedRope w (ix2 k ⟨n, by omega⟩) := by
    pointwise [wide]
  rw [h]
  unfold padded
  pointwise [packedRope]
  (repeat' split) <;> first
    | omega
    | rfl
    | exact congrArg (fun z => w (ix2 k z)) (Fin.ext (by dsimp only; omega))

/-- The same columns turned by a quarter. -/
theorem wide_turn (w : FVec Ideal S1024x2464 .f32) (k : Fin 1024) (n : Fin 128) : wide w (ix2 k ⟨2944 + n, by omega⟩) =
    quarter (fun i => w (ix2 k ⟨2432 + i, by omega⟩)) n := by
  have h : wide w (ix2 k ⟨2944 + n, by omega⟩) = packedRope w (ix2 k ⟨128 + n, by omega⟩) := by
    pointwise [wide]
    rw [dif_neg (by omega)]
    exact congrArg (fun z => packedRope w (ix2 k z)) (Fin.ext (by dsimp only; omega))
  rw [h]
  unfold quarter
  pointwise [packedRope]
  (repeat' split) <;> first
    | omega
    | rfl
    | exact congrArg (fun z => w (ix2 k z)) (Fin.ext (by dsimp only; omega))
    | exact congrArg (fun z => -w (ix2 k z)) (Fin.ext (by dsimp only; omega))

/-- The plain query weights of a place of a head. -/
theorem queries_plain (w : FVec Ideal S256x384 .f32) (k : Fin 256) (d : Fin 512) : queries w (ix2 k ⟨d, by omega⟩) =
    if h : d.val % 128 < 64 then w (ix2 k ⟨d / 128 * 96 + d % 128, by omega⟩)
    else padded (fun i => w (ix2 k ⟨d / 128 * 96 + (64 + i), by omega⟩)) ⟨d % 128, by omega⟩ := by
  unfold padded
  pointwise [queries]
  (repeat' split) <;> first
    | omega
    | rfl
    | exact congrArg (fun z => w (ix2 k z)) (Fin.ext (by dsimp only; omega))

/-- The query weights turned by a quarter. -/
theorem queries_turn (w : FVec Ideal S256x384 .f32) (k : Fin 256) (d : Fin 512) : queries w (ix2 k ⟨512 + d, by omega⟩) =
    quarter (fun i => w (ix2 k ⟨d / 128 * 96 + (64 + i), by omega⟩)) ⟨d % 128, by omega⟩ := by
  unfold quarter
  pointwise [queries]
  (repeat' split) <;> first
    | omega
    | rfl
    | exact congrArg (fun z => w (ix2 k z)) (Fin.ext (by dsimp only; omega))
    | exact congrArg (fun z => -w (ix2 k z)) (Fin.ext (by dsimp only; omega))

/-- The key weights of a place of a head. -/
theorem keys_plain (w : FVec Ideal S128x512 .f32) (k : Fin 128) (d : Fin 512) : keys w (ix2 k ⟨d, by omega⟩) =
    if d.val % 128 < 64 then w (ix2 k d) else 0 := by
  pointwise [keys]
  (repeat' split) <;> first
    | omega
    | rfl
    | exact congrArg (fun z => w (ix2 k z)) (Fin.ext (by dsimp only; omega))

/-- The value weights. -/
theorem keys_value_columns (w : FVec Ideal S128x512 .f32) (k : Fin 128) (d : Fin 256) : keys w (ix2 k ⟨512 + d, by omega⟩) =
    w (ix2 k ⟨d / 64 * 128 + (64 + d % 64), by omega⟩) := by
  pointwise [keys]
  first
    | done
    | exact congrArg (fun z => w (ix2 k z)) (Fin.ext (by dsimp only; omega))

/-- The angle of a slot and a feature. -/
theorem angles_entry (s : Fin 8320) (i : Fin 32) : angles (ix2 s i) = theta s i := by
  pointwise [angles]
  rfl

/-- The cosines of a slot. -/
theorem cosines_entry (s : Fin 8320) (n : Fin 128) : cosines (ix2 s n) =
    if n.val < 64 then 1 else if h : n.val - 64 < 32 then Ideal.cos (theta s ⟨n - 64, h⟩) else 0 := by
  pointwise [cosines]
  simp only [angles_entry]
  (repeat' split) <;> first
    | omega
    | rfl

/-- The sines of a slot. -/
theorem sines_entry (s : Fin 8320) (n : Fin 128) : sines (ix2 s n) =
    if n.val < 64 then 0 else if h : n.val - 64 < 32 then Ideal.sin (theta s ⟨n - 64, h⟩) else 0 := by
  pointwise [sines]
  simp only [angles_entry]
  (repeat' split) <;> first
    | omega
    | rfl

end Cert.ProjectIdeal.Packing
-- ==== Proof.ProjectPayloads.lean ====
module

public import proofs.«01_k».proof.Proof.Projection
public import proofs.«01_k».proof.Proof.Gen.ProjectIdeal.Value
public import Idealize.ShloMosaic.Lib.Pipeline.ValueKit
public import Idealize.ShloMosaic.Lib.Pointwise

@[expose] public section

/-! What one grid point of the input projection computes from its blocks, one entry at a time. -/

set_option maxRecDepth 16384

noncomputable section

namespace Cert.ProjectIdeal.Payloads

open Cert.ProjectIdeal Cert.ProjectIdeal.Gen Idealize.ShloMosaic Idealize.ShloMosaic.TcCoe Idealize.SL.Sem
open Cert.Projection Cert.FeedForward

variable (X : Vec Ideal S1x640x1024 .f32) (G : Vec Ideal S1x1024 .f32) (P : Vec Ideal S1024x1024 .bf16)

/-- The normalised rows. -/
theorem pay4_entry (r : Fin 640) (k : Fin 1024) :
    k0_pay4 X G (ix2 r k) = normed (fun k => X (ix3 0 r k)) (fun k => G (ix2 0 k)) k := by
  pointwise [k0_pay4]
  rfl

/-- Their products with a third of the weights. -/
theorem pay5_entry (r : Fin 640) (n : Fin 1024) : k0_pay5 X G P (ix2 r n) =
    ∑ k, normed (fun k => X (ix3 0 r k)) (fun k => G (ix2 0 k)) k * P (ix2 k n) := by
  pointwise [k0_pay5]
  simp only [pay4_entry]

theorem pay8_entry (r : Fin 640) (n : Fin 1024) : k0_pay8 X G P (ix2 r n) =
    ∑ k, normed (fun k => X (ix3 0 r k)) (fun k => G (ix2 0 k)) k * P (ix2 k n) := by
  pointwise [k0_pay8]
  simp only [pay4_entry]

theorem pay12_entry (r : Fin 640) (n : Fin 1024) : k0_pay12 (k0_pay4 X G) P (ix2 r n) =
    ∑ k, normed (fun k => X (ix3 0 r k)) (fun k => G (ix2 0 k)) k * P (ix2 k n) := by
  pointwise [k0_pay12]
  simp only [pay4_entry]

/-! Where each result stands in the products. -/

theorem pay6_entry (u : Fin 1) (r : Fin 640) (d : Fin 512) : k0_pay6 X G P (ix3 u r d) =
    k0_pay5 X G P (ix2 r ⟨d, by omega⟩) := by
  generalize hK : k0_pay5 X G P = K
  unfold k0_pay6
  rw [hK]
  pointwise

theorem pay7_entry (u : Fin 1) (r : Fin 640) (d : Fin 512) : k0_pay7 X G P (ix3 u r d) =
    k0_pay5 X G P (ix2 r ⟨512 + d, by omega⟩) := by
  generalize hK : k0_pay5 X G P = K
  unfold k0_pay7
  rw [hK]
  pointwise

theorem pay10_entry (u : Fin 1) (r : Fin 640) (d : Fin 512) : k0_pay10 (k0_pay9 X G P) (ix3 u r d) =
    k0_pay8 X G P (ix2 r ⟨d, by omega⟩) := by
  generalize hK : k0_pay8 X G P = K
  unfold k0_pay10 k0_pay9
  rw [hK]
  pointwise

theorem pay11_entry (K : FVec Ideal S640x1024 .f32) (u : Fin 1) (r : Fin 640) (d : Fin 512) : k0_pay11 K (ix3 u r d) =
    K (ix2 r ⟨512 + d, by omega⟩) := by
  pointwise [k0_pay11]

theorem pay13_entry (A : FVec Ideal S640x1024 .bf16) (u : Fin 1) (r : Fin 640) (d : Fin 128) :
    k0_pay13 A P (ix3 u r d) = k0_pay12 A P (ix2 r ⟨d, by omega⟩) := by
  generalize hK : k0_pay12 A P = K
  unfold k0_pay13
  rw [hK]
  pointwise

theorem pay14_entry (A : FVec Ideal S640x1024 .bf16) (u : Fin 1) (r : Fin 640) (d : Fin 128) :
    k0_pay14 A P (ix3 u r d) = k0_pay12 A P (ix2 r ⟨128 + d, by omega⟩) := by
  generalize hK : k0_pay12 A P = K
  unfold k0_pay14
  rw [hK]
  pointwise

theorem pay15_entry (A : FVec Ideal S640x1024 .bf16) (u : Fin 1) (r : Fin 640) (d : Fin 128) :
    k0_pay15 A P (ix3 u r d) = k0_pay12 A P (ix2 r ⟨256 + d, by omega⟩) := by
  generalize hK : k0_pay12 A P = K
  unfold k0_pay15
  rw [hK]
  pointwise

theorem pay20_entry (A : FVec Ideal S640x1024 .bf16) (r : Fin 640) (d : Fin 256) :
    k0_pay20 A P (ix2 r d) = k0_pay12 A P (ix2 r ⟨384 + d, by omega⟩) := by
  generalize hK : k0_pay12 A P = K
  unfold k0_pay20
  rw [hK]
  pointwise

/-- The cosines, the same for each of four heads. -/
theorem pay18_entry (C : Vec Ideal S640x128 .f32) (r : Fin 640) (d : Fin 512) :
    k0_pay18 C (ix2 r d) = C (ix2 r ⟨d % 128, by omega⟩) := by
  pointwise [k0_pay18, k0_pay16]
  (repeat' split) <;> exact congrArg (fun z => C (ix2 r z)) (Fin.ext (by dsimp only; omega))

theorem pay19_entry (C : Vec Ideal S640x128 .f32) (r : Fin 640) (d : Fin 512) :
    k0_pay19 C (ix2 r d) = C (ix2 r ⟨d % 128, by omega⟩) := by
  pointwise [k0_pay19, k0_pay17]
  (repeat' split) <;> exact congrArg (fun z => C (ix2 r z)) (Fin.ext (by dsimp only; omega))

/-- The query heads. -/
theorem pay21_entry (C S : FVec Ideal S640x512 .f32) (Q : FVec Ideal S640x256 .f32) (g : Vec Ideal S1x256 .f32)
    (W : Vec Ideal S256x1024 .bf16) (u : Fin 1) (r : Fin 640) (d : Fin 512) : k0_pay21 C S Q g W (ix3 u r d) =
    ((∑ k, normedBy (Ideal.ofBits FTy.f32 1132462080#32) (fun k => Q (ix2 r k)) (fun k => g (ix2 0 k)) k
        * W (ix2 k ⟨d, by omega⟩)) * C (ix2 r d)
      + (∑ k, normedBy (Ideal.ofBits FTy.f32 1132462080#32) (fun k => Q (ix2 r k)) (fun k => g (ix2 0 k)) k
        * W (ix2 k ⟨512 + d, by omega⟩)) * S (ix2 r d)) * scale := by
  pointwise [k0_pay21]
  rfl

/-- The widened latent keys and values. -/
theorem pay1_entry (U : FVec Ideal S640x1024 .f32) (g : Vec Ideal S1x128 .f32) (W : Vec Ideal S128x768 .bf16) (r : Fin 640)
    (n : Fin 768) : k0_pay1 (k0_pay22 U) (k0_pay23 g) W (ix2 r n) =
    ∑ k, normedBy (Ideal.ofBits FTy.f32 1124073472#32) (fun k : Fin 128 => U (ix2 r ⟨640 + k, by omega⟩))
      (fun k => g (ix2 0 k)) k * W (ix2 k n) := by
  pointwise [k0_pay1, k0_pay22, k0_pay23]
  rfl

/-- The key heads. -/
theorem pay2_entry (U : FVec Ideal S640x1024 .f32) (C S A B : FVec Ideal S640x128 .f32) (W : Vec Ideal S128x768 .bf16)
    (u : Fin 1) (r : Fin 640) (d : Fin 512) : k0_pay2 U C S A B W (ix3 u r d) =
    k0_pay1 A B W (ix2 r ⟨d, by omega⟩)
      + (U (ix2 r ⟨768 + d % 128, by omega⟩) * C (ix2 r ⟨d % 128, by omega⟩)
        + U (ix2 r ⟨896 + d % 128, by omega⟩) * S (ix2 r ⟨d % 128, by omega⟩)) := by
  generalize hK : k0_pay1 A B W = K
  unfold k0_pay2
  rw [hK]
  pointwise
  (repeat' split) <;> first
    | omega
    | (refine congrArg (fun z => K (ix2 r ⟨d, by omega⟩) + z) ?_
       refine congrArg₂ (· + ·) (congrArg₂ (· * ·) (congrArg (fun z => U (ix2 r z)) (Fin.ext (by dsimp only; omega)))
         (congrArg (fun z => C (ix2 r z)) (Fin.ext (by dsimp only; omega))))
         (congrArg₂ (· * ·) (congrArg (fun z => U (ix2 r z)) (Fin.ext (by dsimp only; omega)))
         (congrArg (fun z => S (ix2 r z)) (Fin.ext (by dsimp only; omega)))))

/-- The values. -/
theorem pay3_entry (A B : FVec Ideal S640x128 .f32) (W : Vec Ideal S128x768 .bf16) (u : Fin 1) (r : Fin 640) (d : Fin 256) :
    k0_pay3 A B W (ix3 u r d) = k0_pay1 A B W (ix2 r ⟨512 + d, by omega⟩) := by
  generalize hK : k0_pay1 A B W = K
  unfold k0_pay3
  rw [hK]
  pointwise

end Cert.ProjectIdeal.Payloads
-- ==== Proof.ProjectRows.lean ====
module

public import proofs.«01_k».proof.Proof.ProjectionFacts
public import proofs.«01_k».proof.Proof.ProjectPacking
public import proofs.«01_k».proof.Proof.ProjectPayloads

@[expose] public section

/-! The input projection's kernel: its ten results as functions of the arguments, the products they are cut from, and
    its blocks. -/

set_option maxRecDepth 16384

noncomputable section

namespace Cert.ProjectIdeal.Rows

open Cert.ProjectIdeal Cert.ProjectIdeal.Gen Idealize.ShloMosaic Idealize.ShloMosaic.TcCoe Idealize.SL.Sem
open Cert.Projection Cert.FeedForward Cert.ProjectIdeal.Packing Cert.ProjectIdeal.Payloads

variable (m : (ℓ : Loc nD τ sig) → Buf (Elt Ideal) ℓ) (c : Dev nD)

/-! The arguments, and what the results are made of. -/

abbrev row (b : Fin 10) (s : Fin 8320) (k : Fin 1024) : EReal := m (c.tc.loc main_arg0) (ix3 b s k)
abbrev gain (k : Fin 1024) : EReal := m (c.tc.loc main_arg1) (ix1 k)
abbrev weight (k : Fin 1024) (j : Fin 2464) : EReal := m (c.tc.loc main_arg2) (ix2 k j)
abbrev gainQ (k : Fin 256) : EReal := m (c.tc.loc main_arg3) (ix1 k)
abbrev gainK (k : Fin 128) : EReal := m (c.tc.loc main_arg4) (ix1 k)
abbrev weightQ (k : Fin 256) (j : Fin 384) : EReal := m (c.tc.loc main_arg5) (ix2 k j)
abbrev weightK (k : Fin 128) (j : Fin 512) : EReal := m (c.tc.loc main_arg6) (ix2 k j)

/-- Column `j` of a slot's projected row. -/
abbrev column (b : Fin 10) (s : Fin 8320) (j : Fin 2464) : EReal := col (row m c b s) (gain m c) (weight m c) j

/-- The arguments that must be finite are. -/
structure FiniteArgs : Prop where
  row : ∀ b s k, Finite (row m c b s k)
  gain : ∀ k, Finite (gain m c k)
  weight : ∀ k j, Finite (weight m c k j)
  gainQ : ∀ k, Finite (gainQ m c k)
  weightQ : ∀ k j, Finite (weightQ m c k j)

/-! The ten results. -/

/-- The first attention's scaled queries, its keys and its values. -/
def result0 : S10x8320x512.Idx → EReal := fun i => column m c (i 0) (i 1) ⟨(i 2).val, by have h : (i 2).val < 512 := (i 2).isLt; omega⟩ * eighth
def result1 : S10x8320x512.Idx → EReal := fun i => column m c (i 0) (i 1) ⟨512 + (i 2).val, by have h : (i 2).val < 512 := (i 2).isLt; omega⟩
def result2 : S10x8320x512.Idx → EReal := fun i => column m c (i 0) (i 1) ⟨1024 + (i 2).val, by have h : (i 2).val < 512 := (i 2).isLt; omega⟩

/-- The second attention's spread queries, its keys, its values and its values with the halves swapped. -/
def result3 : S10x8320x512.Idx → EReal := fun i =>
  spread (fun e => column m c (i 0) (i 1) ⟨1536 + e, by omega⟩ * eighth) (i 2)
def result4 : S10x8320x128.Idx → EReal := fun i => column m c (i 0) (i 1) ⟨1792 + (i 2).val, by have h : (i 2).val < 128 := (i 2).isLt; omega⟩
def result5 : S10x8320x128.Idx → EReal := fun i => column m c (i 0) (i 1) ⟨1920 + (i 2).val, by have h : (i 2).val < 128 := (i 2).isLt; omega⟩
def result6 : S10x8320x128.Idx → EReal := fun i =>
  if (i 2).val < 64 then column m c (i 0) (i 1) ⟨1984 + (i 2).val % 64, by omega⟩
  else column m c (i 0) (i 1) ⟨1920 + (i 2).val % 64, by omega⟩

/-- The latent attention's query heads, key heads and values. -/
def result7 : S10x8320x512.Idx → EReal := fun i =>
  queryHeads (i 1) (query (row m c (i 0) (i 1)) (gain m c) (weight m c) (gainQ m c) (weightQ m c)) (i 2)
def result8 : S10x8320x512.Idx → EReal := fun i =>
  keyHeads (i 1) (key (row m c (i 0) (i 1)) (gain m c) (weight m c) (gainK m c) (weightK m c))
    (fun e => column m c (i 0) (i 1) ⟨2432 + e, by omega⟩) (i 2)
def result9 : S10x8320x256.Idx → EReal := fun i =>
  key (row m c (i 0) (i 1)) (gain m c) (weight m c) (gainK m c) (weightK m c)
    ⟨(i 2).val / 64 * 128 + (64 + (i 2).val % 64), by have h : (i 2).val < 256 := (i 2).isLt; omega⟩

/-! The products with the packed weights. -/

/-- A slot's normalised row times column `n` of the packed weights. -/
def product (b : Fin 10) (s : Fin 8320) (n : Fin 3072) : EReal :=
  ∑ k, normed (row m c b s) (gain m c) k * wide (m (c.tc.loc main_arg2)) (ix2 k n)

/-- A column below 2816, read as a column of the packed weights. -/
theorem wide_below (w : FVec Ideal S1024x2464 .f32) (k : Fin 1024) (n : ℕ) (h : n < 2816) :
    wide w (ix2 k ⟨n, by omega⟩) = packed w (ix2 k ⟨n, h⟩) := wide_packed w k ⟨n, h⟩

variable (b : Fin 10) (s : Fin 8320)

theorem product_a (n : Fin 512) : product m c b s ⟨n, by omega⟩ = column m c b s ⟨n, by omega⟩ * eighth := by
  unfold product
  simp only [fun k => wide_below (m (c.tc.loc main_arg2)) k (n) (by omega), packed_a]
  exact sum_scaled _ _

theorem product_ak (n : Fin 512) : product m c b s ⟨512 + n, by omega⟩ = column m c b s ⟨512 + n, by omega⟩ := by
  unfold product
  simp only [fun k => wide_below (m (c.tc.loc main_arg2)) k (512 + n) (by omega), packed_ak]
  rfl

theorem product_av (n : Fin 512) : product m c b s ⟨1024 + n, by omega⟩ = column m c b s ⟨1024 + n, by omega⟩ := by
  unfold product
  simp only [fun k => wide_below (m (c.tc.loc main_arg2)) k (1024 + n) (by omega), packed_av]
  rfl

theorem product_bk (n : Fin 128) : product m c b s ⟨2048 + n, by omega⟩ = column m c b s ⟨1792 + n, by omega⟩ := by
  unfold product
  simp only [fun k => wide_below (m (c.tc.loc main_arg2)) k (2048 + n) (by omega), packed_bk]
  rfl

theorem product_bv (n : Fin 128) : product m c b s ⟨2176 + n, by omega⟩ = column m c b s ⟨1920 + n, by omega⟩ := by
  unfold product
  simp only [fun k => wide_below (m (c.tc.loc main_arg2)) k (2176 + n) (by omega), packed_bv]
  rfl

theorem product_cq (n : Fin 256) : product m c b s ⟨2432 + n, by omega⟩ = column m c b s ⟨2048 + n, by omega⟩ := by
  unfold product
  simp only [fun k => wide_below (m (c.tc.loc main_arg2)) k (2432 + n) (by omega), packed_cq]
  rfl

theorem product_ckv (n : Fin 128) : product m c b s ⟨2688 + n, by omega⟩ = column m c b s ⟨2304 + n, by omega⟩ := by
  unfold product
  simp only [fun k => wide_below (m (c.tc.loc main_arg2)) k (2688 + n) (by omega), packed_ckv]
  rfl

theorem product_spread (n : Fin 512) : product m c b s ⟨1536 + n, by omega⟩ = spread (fun e => column m c b s ⟨1536 + e, by omega⟩ * eighth) n := by
  unfold product
  simp only [fun k => wide_below (m (c.tc.loc main_arg2)) k (1536 + n) (by omega), packed_spread]
  rw [sum_spread]
  simp only [sum_scaled]
  rfl

theorem product_bvs (n : Fin 128) : product m c b s ⟨2304 + n, by omega⟩ =
    if n.val < 64 then column m c b s ⟨1984 + n % 64, by omega⟩ else column m c b s ⟨1920 + n % 64, by omega⟩ := by
  unfold product
  simp only [fun k => wide_below (m (c.tc.loc main_arg2)) k (2304 + n) (by omega), packed_bvs]
  split_ifs <;> rfl

theorem product_rope (n : Fin 128) : product m c b s ⟨2816 + n, by omega⟩ =
    padded (fun e => column m c b s ⟨2432 + e, by omega⟩) n := by
  unfold product
  simp only [wide_rope]
  exact sum_padded _ _ n

variable {m c}

theorem product_turn (hf : FiniteArgs m c) (n : Fin 128) : product m c b s ⟨2944 + n, by omega⟩ =
    quarter (fun e => column m c b s ⟨2432 + e, by omega⟩) n := by
  unfold product
  simp only [wide_turn]
  exact sum_quarter (finite_normed (hf.row b s) hf.gain) (fun k e => hf.weight k _) n

omit b in
/-- The widened latent queries times the cosines, plus the turned ones times the sines, are the query heads. -/
theorem heads_turn {a : Fin 256 → EReal} (ha : ∀ k, Finite (a k)) {w : FVec Ideal S256x384 .f32}
    (hw : ∀ k j, Finite (w (ix2 k j))) (d : Fin 512) :
    ((∑ k, a k * queries w (ix2 k ⟨d, by omega⟩)) * cosineAt s ⟨d % 128, by omega⟩
      + (∑ k, a k * queries w (ix2 k ⟨512 + d, by omega⟩)) * sineAt s ⟨d % 128, by omega⟩) * scale
      = queryHeads s (fun j => ∑ k, a k * w (ix2 k j)) d := by
  unfold queryHeads
  refine congrArg (· * scale) ?_
  simp only [queries_plain, queries_turn]
  rw [sum_quarter ha fun k e => hw k _]
  by_cases h : d.val % 128 < 64
  · simp only [h, dite_true]
    simp [cosineAt, sineAt, quarter, h]
  · simp only [h, dite_false]
    rw [sum_padded, turned_padded, if_neg (by exact h)]

omit b in
/-- The key weights filled up with zeros. -/
theorem keys_sum (a : Fin 128 → EReal) (w : FVec Ideal S128x512 .f32) (d : Fin 512) :
    ∑ k, a k * keys w (ix2 k ⟨d, by omega⟩) = if d.val % 128 < 64 then ∑ k, a k * w (ix2 k d) else 0 := by
  simp only [keys_plain]
  split_ifs <;> simp

omit b in
/-- The widened latent keys plus the turned rotary keys are the key heads. -/
theorem keys_turn (q : Fin 512 → EReal) (r : Fin 32 → EReal) (d : Fin 512) :
    (if d.val % 128 < 64 then q d else 0)
      + (padded r ⟨d % 128, by omega⟩ * cosineAt s ⟨d % 128, by omega⟩
        + quarter r ⟨d % 128, by omega⟩ * sineAt s ⟨d % 128, by omega⟩) = keyHeads s q r d := by
  rw [turned_padded]
  unfold keyHeads
  by_cases h : d.val % 128 < 64
  · simp [h]
  · simp [h]

omit b s
variable (m c)

/-! The blocks. -/

/-- Where each window stands at each of the 130 grid points: rows and results at block `(t / 13, t % 13)`, the rotary
    tables at block `t % 13`, weights and gains whole. -/
theorem idx : ∀ t, win0_0.index t = ![t.val / 13, t.val % 13, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 13, 0] ∧ win0_8.index t = ![t.val % 13, 0]
    ∧ win0_9.index t = ![t.val / 13, t.val % 13, 0] ∧ win0_10.index t = ![t.val / 13, t.val % 13, 0]
    ∧ win0_11.index t = ![t.val / 13, t.val % 13, 0] ∧ win0_12.index t = ![t.val / 13, t.val % 13, 0]
    ∧ win0_13.index t = ![t.val / 13, t.val % 13, 0] ∧ win0_14.index t = ![t.val / 13, t.val % 13, 0]
    ∧ win0_15.index t = ![t.val / 13, t.val % 13, 0] ∧ win0_16.index t = ![t.val / 13, t.val % 13, 0]
    ∧ win0_17.index t = ![t.val / 13, t.val % 13, 0] ∧ win0_18.index t = ![t.val / 13, t.val % 13, 0] := by
  decide +kernel

/-- The batch that grid point `t` works on. -/
def batch (t : Fin cfg0.N) : Fin 10 := ⟨t.val / 13, by have : t.val < 130 := t.isLt; omega⟩

/-- The slot that row `r` of grid point `t`'s block is. -/
def slot (t : Fin cfg0.N) (r : Fin 640) : Fin 8320 := ⟨t.val % 13 * 640 + r, by omega⟩

variable (t : Fin cfg0.N)

theorem rows_block (r : Fin 640) (k : Fin 1024) : iblk m c 0 t (ix3 0 r k) = row m c (batch t) (slot t r) k := by
  blk_ext [iblk, V, idx t, batch, slot]

theorem gain_block (k : Fin 1024) : iblk m c 1 t (ix2 0 k) = gain m c k := by
  blk_ext! [iblk, V, idx t]

theorem gainQ_block (k : Fin 256) : iblk m c 3 t (ix2 0 k) = gainQ m c k := by
  blk_ext! [iblk, V, idx t]

theorem gainK_block (k : Fin 128) : iblk m c 4 t (ix2 0 k) = gainK m c k := by
  blk_ext! [iblk, V, idx t]

theorem weights_block (k : Fin 1024) (n : Fin 3072) :
    iblk m c 2 t (ix2 k n) = wide (m (c.tc.loc main_arg2)) (ix2 k n) := by
  rw [← wide_value]
  blk_ext [iblk, idx t]

theorem queries_block (k : Fin 256) (n : Fin 1024) :
    iblk m c 5 t (ix2 k n) = queries (m (c.tc.loc main_arg5)) (ix2 k n) := by
  rw [← queries_value]
  blk_ext [iblk, idx t]

theorem keys_block (k : Fin 128) (n : Fin 768) : iblk m c 6 t (ix2 k n) = keys (m (c.tc.loc main_arg6)) (ix2 k n) := by
  rw [← keys_value m c]
  blk_ext [iblk, idx t]

theorem cosines_block (r : Fin 640) (n : Fin 128) : iblk m c 7 t (ix2 r n) = cosineAt (slot t r) n := by
  refine Eq.trans (b := V m c main_v24 (ix2 (slot t r) n)) ?_ ?_
  · blk_ext [iblk, idx t, slot]
  · rw [cosines_value, cosines_entry]
    rfl

theorem sines_block (r : Fin 640) (n : Fin 128) : iblk m c 8 t (ix2 r n) = sineAt (slot t r) n := by
  refine Eq.trans (b := V m c main_v26 (ix2 (slot t r) n)) ?_ ?_
  · blk_ext [iblk, idx t, slot]
  · rw [sines_value, sines_entry]
    rfl

/-! The three products of a grid point. -/

theorem third0 (k : Fin 1024) (n : Fin 1024) : View.ld (iblk m c 2 t) r0_2 (ix2 k n) =
    wide (m (c.tc.loc main_arg2)) (ix2 k ⟨n, by omega⟩) := by
  rw [← weights_block m c t]
  pointwise

theorem third1 (k : Fin 1024) (n : Fin 1024) : View.ld (iblk m c 2 t) r0_4 (ix2 k n) =
    wide (m (c.tc.loc main_arg2)) (ix2 k ⟨1024 + n, by omega⟩) := by
  rw [← weights_block m c t]
  pointwise

theorem third2 (k : Fin 1024) (n : Fin 1024) : View.ld (iblk m c 2 t) r0_5 (ix2 k n) =
    wide (m (c.tc.loc main_arg2)) (ix2 k ⟨2048 + n, by omega⟩) := by
  rw [← weights_block m c t]
  pointwise

theorem first_product (r : Fin 640) (n : Fin 1024) : k0_pay5 (iblk m c 0 t) (iblk m c 1 t) (View.ld (iblk m c 2 t) r0_2)
    (ix2 r n) = product m c (batch t) (slot t r) ⟨n, by omega⟩ := by
  refine (pay5_entry _ _ _ r n).trans ?_
  simp only [rows_block, gain_block, third0]
  rfl

theorem second_product (r : Fin 640) (n : Fin 1024) : k0_pay8 (iblk m c 0 t) (iblk m c 1 t) (View.ld (iblk m c 2 t) r0_4)
    (ix2 r n) = product m c (batch t) (slot t r) ⟨1024 + n, by omega⟩ := by
  refine (pay8_entry _ _ _ r n).trans ?_
  simp only [rows_block, gain_block, third1]
  rfl

theorem third_product (r : Fin 640) (n : Fin 1024) :
    k0_pay12 (k0_pay4 (iblk m c 0 t) (iblk m c 1 t)) (View.ld (iblk m c 2 t) r0_5) (ix2 r n) =
      product m c (batch t) (slot t r) ⟨2048 + n, by omega⟩ := by
  refine (pay12_entry _ _ _ r n).trans ?_
  simp only [rows_block, gain_block, third2]
  rfl

/-- A product at a column given in another way. -/
theorem product_at (b : Fin 10) (s : Fin 8320) {i j : Fin 3072} (h : i.val = j.val) :
    product m c b s i = product m c b s j := congrArg _ (Fin.ext h)

/-- The place of the block's element in result 0. -/
theorem place9 (u : Fin 1) (r : Fin 640) (d : Fin 512) :
    ((View.whole main_v93_0).slice (win0_9.rect t)).emb (ix3 u r d) = ix3 (batch t) (slot t r) d := by
  blk_ext [idx t, batch, slot]

/-- The place of the block's element in result 1. -/
theorem place10 (u : Fin 1) (r : Fin 640) (d : Fin 512) :
    ((View.whole main_v93_1).slice (win0_10.rect t)).emb (ix3 u r d) = ix3 (batch t) (slot t r) d := by
  blk_ext [idx t, batch, slot]

/-- The place of the block's element in result 2. -/
theorem place11 (u : Fin 1) (r : Fin 640) (d : Fin 512) :
    ((View.whole main_v93_2).slice (win0_11.rect t)).emb (ix3 u r d) = ix3 (batch t) (slot t r) d := by
  blk_ext [idx t, batch, slot]

/-- The place of the block's element in result 3. -/
theorem place12 (u : Fin 1) (r : Fin 640) (d : Fin 512) :
    ((View.whole main_v93_3).slice (win0_12.rect t)).emb (ix3 u r d) = ix3 (batch t) (slot t r) d := by
  blk_ext [idx t, batch, slot]

/-- The place of the block's element in result 4. -/
theorem place13 (u : Fin 1) (r : Fin 640) (d : Fin 128) :
    ((View.whole main_v93_4).slice (win0_13.rect t)).emb (ix3 u r d) = ix3 (batch t) (slot t r) d := by
  blk_ext [idx t, batch, slot]

/-- The place of the block's element in result 5. -/
theorem place14 (u : Fin 1) (r : Fin 640) (d : Fin 128) :
    ((View.whole main_v93_5).slice (win0_14.rect t)).emb (ix3 u r d) = ix3 (batch t) (slot t r) d := by
  blk_ext [idx t, batch, slot]

/-- The place of the block's element in result 6. -/
theorem place15 (u : Fin 1) (r : Fin 640) (d : Fin 128) :
    ((View.whole main_v93_6).slice (win0_15.rect t)).emb (ix3 u r d) = ix3 (batch t) (slot t r) d := by
  blk_ext [idx t, batch, slot]

/-- The place of the block's element in result 7. -/
theorem place16 (u : Fin 1) (r : Fin 640) (d : Fin 512) :
    ((View.whole main_v93_7).slice (win0_16.rect t)).emb (ix3 u r d) = ix3 (batch t) (slot t r) d := by
  blk_ext [idx t, batch, slot]

/-- The place of the block's element in result 8. -/
theorem place17 (u : Fin 1) (r : Fin 640) (d : Fin 512) :
    ((View.whole main_v93_8).slice (win0_17.rect t)).emb (ix3 u r d) = ix3 (batch t) (slot t r) d := by
  blk_ext [idx t, batch, slot]

/-- The place of the block's element in result 9. -/
theorem place18 (u : Fin 1) (r : Fin 640) (d : Fin 256) :
    ((View.whole main_v93_9).slice (win0_18.rect t)).emb (ix3 u r d) = ix3 (batch t) (slot t r) d := by
  blk_ext [idx t, batch, slot]

end Cert.ProjectIdeal.Rows
-- ==== Proof.ProjectKernel.lean ====
module

public import proofs.«01_k».proof.Proof.ProjectRows

@[expose] public section

/-! The input projection's kernel: what stands in its ten result arrays after the run. -/

set_option maxRecDepth 16384
set_option maxHeartbeats 1000000

noncomputable section

namespace Cert.ProjectIdeal.Rows

open Cert.ProjectIdeal Cert.ProjectIdeal.Gen Idealize.ShloMosaic Idealize.ShloMosaic.TcCoe Idealize.SL.Sem
open Cert.Projection Cert.FeedForward Cert.ProjectIdeal.Packing Cert.ProjectIdeal.Payloads

variable (m : (ℓ : Loc nD τ sig) → Buf (Elt Ideal) ℓ) (c : Dev nD)

/-- The generated name of the normalised rows. -/
theorem pay24_eq (x0 : Vec Ideal S1x640x1024 .f32) (x1 : Vec Ideal S1x1024 .f32) (x2 : Vec Ideal S1024x3072 .bf16)
    (x3 : Vec Ideal S1x256 .f32) (x4 : Vec Ideal S1x128 .f32) (x5 : Vec Ideal S256x1024 .bf16)
    (x6 : Vec Ideal S128x768 .bf16) (x7 x8 : Vec Ideal S640x128 .f32) :
    k0_pay24 x0 x1 x2 x3 x4 x5 x6 x7 x8 = k0_pay4 x0 x1 :=
  congrArg₂ k0_pay4 (View.ld_unit_lit _ x0 (by decide)) (View.ld_unit_lit _ x1 (by decide))

/-- The generated name of the latent gain. -/
theorem pay27_eq (x0 : Vec Ideal S1x640x1024 .f32) (x1 : Vec Ideal S1x1024 .f32) (x2 : Vec Ideal S1024x3072 .bf16)
    (x3 : Vec Ideal S1x256 .f32) (x4 : Vec Ideal S1x128 .f32) (x5 : Vec Ideal S256x1024 .bf16)
    (x6 : Vec Ideal S128x768 .bf16) (x7 x8 : Vec Ideal S640x128 .f32) :
    k0_pay27 x0 x1 x2 x3 x4 x5 x6 x7 x8 = k0_pay23 x4 := congrArg k0_pay23 (View.ld_unit_lit _ x4 (by decide))

/-- The rows' products with the last third of the packed weights, under the generated names. -/
theorem last_product (t : Fin cfg0.N) (r : Fin 640) (n : Fin 1024) :
    k0_pay25 (iblk m c 0 t) (iblk m c 1 t) (iblk m c 2 t) (iblk m c 3 t) (iblk m c 4 t)
      (iblk m c 5 t) (iblk m c 6 t) (iblk m c 7 t) (iblk m c 8 t) (ix2 r n) =
      product m c (batch t) (slot t r) ⟨2048 + n, by omega⟩ := by
  unfold k0_pay25
  rw [pay24_eq]
  exact third_product m c t r n

/-- Result 0 after the run. -/
theorem kernel_result0 : (dats m 0 c).arrAt 9 (cfgs 0).N = result0 m c := by
  refine (dats m 0 c).arrAt_eq_of_covers 9 _ (by decide +kernel) fun t hf y => ?_
  blk_simp
  rw [after0_9]
  frame_out
  idx_vars y
  refine Eq.trans ?_ (congrArg (result0 m c) (place9 t y0 y1 y2).symm)
  refine (pay6_entry _ _ _ y0 y1 y2).trans ((first_product m c t y1 _).trans ?_)
  refine (product_at m c _ _ (j := ⟨y2, by omega⟩) (by first | rfl | (dsimp only; omega))).trans ?_
  exact product_a m c _ _ _

/-- Result 1 after the run. -/
theorem kernel_result1 : (dats m 0 c).arrAt 10 (cfgs 0).N = result1 m c := by
  refine (dats m 0 c).arrAt_eq_of_covers 10 _ (by decide +kernel) fun t hf y => ?_
  blk_simp
  rw [after0_10]
  frame_out
  idx_vars y
  refine Eq.trans ?_ (congrArg (result1 m c) (place10 t y0 y1 y2).symm)
  refine (pay7_entry _ _ _ y0 y1 y2).trans ((first_product m c t y1 _).trans ?_)
  refine (product_at m c _ _ (j := ⟨512 + y2, by omega⟩) (by first | rfl | (dsimp only; omega))).trans ?_
  exact product_ak m c _ _ _

/-- Result 2 after the run. -/
theorem kernel_result2 : (dats m 0 c).arrAt 11 (cfgs 0).N = result2 m c := by
  refine (dats m 0 c).arrAt_eq_of_covers 11 _ (by decide +kernel) fun t hf y => ?_
  blk_simp
  rw [after0_11]
  frame_out
  idx_vars y
  refine Eq.trans ?_ (congrArg (result2 m c) (place11 t y0 y1 y2).symm)
  refine (pay10_entry _ _ _ y0 y1 y2).trans ((second_product m c t y1 _).trans ?_)
  refine (product_at m c _ _ (j := ⟨1024 + y2, by omega⟩) (by first | rfl | (dsimp only; omega))).trans ?_
  exact product_av m c _ _ _

/-- Result 3 after the run. -/
theorem kernel_result3 : (dats m 0 c).arrAt 12 (cfgs 0).N = result3 m c := by
  refine (dats m 0 c).arrAt_eq_of_covers 12 _ (by decide +kernel) fun t hf y => ?_
  blk_simp
  rw [after0_12]
  frame_out
  idx_vars y
  refine Eq.trans ?_ (congrArg (result3 m c) (place12 t y0 y1 y2).symm)
  refine (pay11_entry _ y0 y1 y2).trans ((second_product m c t y1 _).trans ?_)
  refine (product_at m c _ _ (j := ⟨1536 + y2, by omega⟩) (by first | rfl | (dsimp only; omega))).trans ?_
  exact product_spread m c _ _ _

/-- Result 4 after the run. -/
theorem kernel_result4 : (dats m 0 c).arrAt 13 (cfgs 0).N = result4 m c := by
  refine (dats m 0 c).arrAt_eq_of_covers 13 _ (by decide +kernel) fun t hf y => ?_
  blk_simp
  rw [after0_13]
  frame_out
  rw [pay24_eq]
  idx_vars y
  refine Eq.trans ?_ (congrArg (result4 m c) (place13 t y0 y1 y2).symm)
  refine (pay13_entry _ _ y0 y1 y2).trans ((third_product m c t y1 _).trans ?_)
  refine (product_at m c _ _ (j := ⟨2048 + y2, by omega⟩) (by first | rfl | (dsimp only; omega))).trans ?_
  exact product_bk m c _ _ _

/-- Result 5 after the run. -/
theorem kernel_result5 : (dats m 0 c).arrAt 14 (cfgs 0).N = result5 m c := by
  refine (dats m 0 c).arrAt_eq_of_covers 14 _ (by decide +kernel) fun t hf y => ?_
  blk_simp
  rw [after0_14]
  frame_out
  rw [pay24_eq]
  idx_vars y
  refine Eq.trans ?_ (congrArg (result5 m c) (place14 t y0 y1 y2).symm)
  refine (pay14_entry _ _ y0 y1 y2).trans ((third_product m c t y1 _).trans ?_)
  refine (product_at m c _ _ (j := ⟨2176 + y2, by omega⟩) (by first | rfl | (dsimp only; omega))).trans ?_
  exact product_bv m c _ _ _

/-- Result 6 after the run. -/
theorem kernel_result6 : (dats m 0 c).arrAt 15 (cfgs 0).N = result6 m c := by
  refine (dats m 0 c).arrAt_eq_of_covers 15 _ (by decide +kernel) fun t hf y => ?_
  blk_simp
  rw [after0_15]
  frame_out
  rw [pay24_eq]
  idx_vars y
  refine Eq.trans ?_ (congrArg (result6 m c) (place15 t y0 y1 y2).symm)
  refine (pay15_entry _ _ y0 y1 y2).trans ((third_product m c t y1 _).trans ?_)
  refine (product_at m c _ _ (j := ⟨2304 + y2, by omega⟩) (by first | rfl | (dsimp only; omega))).trans ?_
  exact product_bvs m c _ _ _

/-- The query heads from blocks whose entries are known. -/
theorem queries_of {C S : FVec Ideal S640x512 .f32} {Q : FVec Ideal S640x256 .f32} {g : Vec Ideal S1x256 .f32}
    {W : Vec Ideal S256x1024 .bf16} {a q : Fin 256 → EReal} {w : FVec Ideal S256x384 .f32} {s : Fin 8320} {r : Fin 640}
    (hQ : ∀ k, Q (ix2 r k) = a k) (hg : ∀ k, g (ix2 0 k) = q k) (hW : ∀ k n, W (ix2 k n) = queries w (ix2 k n))
    (hC : ∀ d : Fin 512, C (ix2 r d) = cosineAt s ⟨d % 128, by omega⟩)
    (hS : ∀ d : Fin 512, S (ix2 r d) = sineAt s ⟨d % 128, by omega⟩)
    (ha : ∀ k, Finite (a k)) (hq : ∀ k, Finite (q k)) (hw : ∀ k j, Finite (w (ix2 k j))) (u : Fin 1) (d : Fin 512) :
    k0_pay21 C S Q g W (ix3 u r d) =
      queryHeads s (fun j => ∑ k, normedBy (Ideal.ofBits FTy.f32 1132462080#32) a q k * w (ix2 k j)) d := by
  rw [pay21_entry]
  simp only [hQ, hg, hW, hC, hS]
  exact heads_turn s (finite_normedBy latent_pos ha hq) hw d

/-- Result 7 after the run. -/
theorem kernel_result7 (hf' : FiniteArgs m c) : (dats m 0 c).arrAt 16 (cfgs 0).N = result7 m c := by
  refine (dats m 0 c).arrAt_eq_of_covers 16 _ (by decide +kernel) fun t hf y => ?_
  blk_simp
  rw [after0_16]
  frame_out
  rw [pay24_eq]
  idx_vars y
  refine Eq.trans ?_ (congrArg (result7 m c) (place16 t y0 y1 y2).symm)
  have hq : ∀ k : Fin 256, product m c (batch t) (slot t y1) ⟨2048 + (384 + k), by omega⟩ =
      column m c (batch t) (slot t y1) ⟨2048 + k, by omega⟩ := fun k =>
    (product_at m c _ _ (j := ⟨2432 + k, by omega⟩) (by first | rfl | (dsimp only; omega))).trans (product_cq m c _ _ k)
  exact queries_of (a := fun k => column m c (batch t) (slot t y1) ⟨2048 + k, by omega⟩) (q := gainQ m c)
    (w := m (c.tc.loc main_arg5)) (s := slot t y1)
    (fun k => (pay20_entry _ _ y1 k).trans ((third_product m c t y1 _).trans (hq k)))
    (gainQ_block m c t) (queries_block m c t)
    (fun d => (pay18_entry _ y1 d).trans (cosines_block m c t y1 _))
    (fun d => (pay19_entry _ y1 d).trans (sines_block m c t y1 _))
    (fun k => finite_col (hf'.row _ _) hf'.gain hf'.weight _) hf'.gainQ hf'.weightQ y0 y2

/-- The cosines and sines as the keys take them. -/
theorem pay16_entry (C : Vec Ideal S640x128 .f32) (r : Fin 640) (e : Fin 128) : k0_pay16 C (ix2 r e) = C (ix2 r e) := by
  pointwise [k0_pay16]

theorem pay17_entry (C : Vec Ideal S640x128 .f32) (r : Fin 640) (e : Fin 128) : k0_pay17 C (ix2 r e) = C (ix2 r e) := by
  pointwise [k0_pay17]

/-- The key heads from blocks whose entries are known. -/
theorem keys_of {U : FVec Ideal S640x1024 .f32} {C S : FVec Ideal S640x128 .f32} {g : Vec Ideal S1x128 .f32}
    {W : Vec Ideal S128x768 .bf16} {a q : Fin 128 → EReal} {w : FVec Ideal S128x512 .f32} {x : Fin 32 → EReal}
    {s : Fin 8320} {r : Fin 640}
    (hU : ∀ k : Fin 128, U (ix2 r ⟨640 + k, by omega⟩) = a k) (hg : ∀ k, g (ix2 0 k) = q k)
    (hW : ∀ k n, W (ix2 k n) = keys w (ix2 k n))
    (hr : ∀ e : Fin 128, U (ix2 r ⟨768 + e, by omega⟩) = padded x e)
    (ht : ∀ e : Fin 128, U (ix2 r ⟨896 + e, by omega⟩) = quarter x e)
    (hC : ∀ e, C (ix2 r e) = cosineAt s e) (hS : ∀ e, S (ix2 r e) = sineAt s e) (u : Fin 1) (d : Fin 512) :
    k0_pay2 U C S (k0_pay22 U) (k0_pay23 g) W (ix3 u r d) =
      keyHeads s (fun j => ∑ k, normedBy (Ideal.ofBits FTy.f32 1124073472#32) a q k * w (ix2 k j)) x d := by
  rw [pay2_entry, pay1_entry, hr ⟨d % 128, by omega⟩, ht ⟨d % 128, by omega⟩, hC, hS]
  simp only [hU, hg, hW]
  rw [keys_sum]
  exact keys_turn s (fun j => ∑ k, normedBy (Ideal.ofBits FTy.f32 1124073472#32) a q k * w (ix2 k j)) x d

/-- Result 8 after the run. -/
theorem kernel_result8 (hf' : FiniteArgs m c) : (dats m 0 c).arrAt 17 (cfgs 0).N = result8 m c := by
  refine (dats m 0 c).arrAt_eq_of_covers 17 _ (by decide +kernel) fun t hf y => ?_
  blk_simp
  rw [after0_17]
  frame_out
  rw [pay27_eq]
  unfold k0_pay26
  idx_vars y
  refine Eq.trans ?_ (congrArg (result8 m c) (place17 t y0 y1 y2).symm)
  have hk : ∀ k : Fin 128, k0_pay25 (iblk m c 0 t) (iblk m c 1 t) (iblk m c 2 t) (iblk m c 3 t) (iblk m c 4 t)
      (iblk m c 5 t) (iblk m c 6 t) (iblk m c 7 t) (iblk m c 8 t) (ix2 y1 ⟨640 + k, by omega⟩) =
      column m c (batch t) (slot t y1) ⟨2304 + k, by omega⟩ := fun k =>
    (last_product m c t y1 _).trans
      ((product_at m c _ _ (j := ⟨2688 + k, by omega⟩) (by first | rfl | (dsimp only; omega))).trans (product_ckv m c _ _ k))
  have hr : ∀ e : Fin 128, k0_pay25 (iblk m c 0 t) (iblk m c 1 t) (iblk m c 2 t) (iblk m c 3 t) (iblk m c 4 t)
      (iblk m c 5 t) (iblk m c 6 t) (iblk m c 7 t) (iblk m c 8 t) (ix2 y1 ⟨768 + e, by omega⟩) =
      padded (fun e => column m c (batch t) (slot t y1) ⟨2432 + e, by omega⟩) e := fun e =>
    (last_product m c t y1 _).trans
      ((product_at m c _ _ (j := ⟨2816 + e, by omega⟩) (by first | rfl | (dsimp only; omega))).trans (product_rope m c _ _ e))
  have ht : ∀ e : Fin 128, k0_pay25 (iblk m c 0 t) (iblk m c 1 t) (iblk m c 2 t) (iblk m c 3 t) (iblk m c 4 t)
      (iblk m c 5 t) (iblk m c 6 t) (iblk m c 7 t) (iblk m c 8 t) (ix2 y1 ⟨896 + e, by omega⟩) =
      quarter (fun e => column m c (batch t) (slot t y1) ⟨2432 + e, by omega⟩) e := fun e =>
    (last_product m c t y1 _).trans
      ((product_at m c _ _ (j := ⟨2944 + e, by omega⟩) (by first | rfl | (dsimp only; omega))).trans (product_turn _ _ hf' e))
  exact keys_of (a := fun k => column m c (batch t) (slot t y1) ⟨2304 + k, by omega⟩) (q := gainK m c)
    (w := m (c.tc.loc main_arg6)) (x := fun e => column m c (batch t) (slot t y1) ⟨2432 + e, by omega⟩) (s := slot t y1)
    hk (gainK_block m c t) (keys_block m c t) hr ht
    (fun e => (pay16_entry _ y1 e).trans (cosines_block m c t y1 e))
    (fun e => (pay17_entry _ y1 e).trans (sines_block m c t y1 e)) y0 y2

/-- Result 9 after the run. -/
theorem kernel_result9 : (dats m 0 c).arrAt 18 (cfgs 0).N = result9 m c := by
  refine (dats m 0 c).arrAt_eq_of_covers 18 _ (by decide +kernel) fun t hf y => ?_
  blk_simp
  rw [after0_18]
  frame_out
  rw [pay27_eq]
  unfold k0_pay26
  idx_vars y
  refine Eq.trans ?_ (congrArg (result9 m c) (place18 t y0 y1 y2).symm)
  have hk : ∀ k : Fin 128, k0_pay25 (iblk m c 0 t) (iblk m c 1 t) (iblk m c 2 t) (iblk m c 3 t) (iblk m c 4 t)
      (iblk m c 5 t) (iblk m c 6 t) (iblk m c 7 t) (iblk m c 8 t) (ix2 y1 ⟨640 + k, by omega⟩) =
      column m c (batch t) (slot t y1) ⟨2304 + k, by omega⟩ := fun k =>
    (last_product m c t y1 _).trans
      ((product_at m c _ _ (j := ⟨2688 + k, by omega⟩) (by first | rfl | (dsimp only; omega))).trans (product_ckv m c _ _ k))
  refine (pay3_entry _ _ _ y0 y1 y2).trans ((pay1_entry _ _ _ y1 _).trans ?_)
  simp only [hk, gainK_block, keys_block, keys_value_columns]
  rfl

end Cert.ProjectIdeal.Rows
-- ==== Proof.ProjectReference.lean ====
module

public import proofs.«01_k».proof.Proof.Projection
public import proofs.«01_k».proof.Proof.Gen.ProjectRefIdeal.Run
public import Idealize.ShloMosaic.Lib.Pipeline.ValueKit
public import Idealize.ShloMosaic.Lib.Pointwise

@[expose] public section

/-! The reference of the input projection, result by result, one entry at a time. -/

set_option maxRecDepth 16384

noncomputable section

namespace Cert.ProjectRefIdeal.Entries

open Cert.ProjectRefIdeal Cert.ProjectRefIdeal.Gen Cert.ProjectRefIdeal.Value Idealize.ShloMosaic
open Idealize.ShloMosaic.TcCoe Idealize.SL.Sem
open Cert.Projection Cert.FeedForward

variable (m : (ℓ : Loc nD τ sig) → Buf (Elt Ideal) ℓ) (c : Dev nD)

/-- The projected rows: the normalised rows times the input weights. -/
def projected : FVec Ideal S10x8320x2464 .f32 :=
  Host.dotGeneral (φ₂ := .f32) dot_S10x8320x1024_S1024x2464_S10x8320x2464_2_0_01_1_n_n none (mulf (mulf (m
    (c.tc.loc main_arg0)) (broadcastInDim S10x8320x1024 ![0, 1, 2] bcast_S10x8320x1_S10x8320x1024_0_1_2 (Host.rsqrt
    (addf (Host.divf (broadcastInDim S10x8320x1 ![0, 1] bcast_S10x8320_S10x8320x1_0_1 (Host.reduceAdd (mulf (m
    (c.tc.loc main_arg0)) (m (c.tc.loc main_arg0))) (constant S_ .f32 0x00000000#32)
    reducesTo_S10x8320x1024_S10x8320_d2 h_S_)) (broadcastInDim S10x8320x1 ![] bcast_S_S10x8320x1 (constant S_ .f32
    0x44800000#32))) (broadcastInDim S10x8320x1 ![] bcast_S_S10x8320x1 (constant S_ .f32 0x358637BD#32))))))
    (broadcastInDim S10x8320x1024 ![0, 1, 2] bcast_S1x1x1024_S10x8320x1024_0_1_2 (broadcastInDim S1x1x1024 ![2]
    bcast_S1024_S1x1x1024_2 (m (c.tc.loc main_arg1))))) (m (c.tc.loc main_arg2))

/-- The latent queries, widened. -/
def queryRows : FVec Ideal S10x8320x384 .f32 :=
  Host.dotGeneral (φ₂ := .f32) dot_S10x8320x256_S256x384_S10x8320x384_2_0_01_1_n_n none (mulf (mulf
    (extractStridedSlice S10x8320x256 ![0, 0, 2048] (projected m c) slices_S10x8320x2464_S10x8320x256_0_0_2048)
    (broadcastInDim S10x8320x256 ![0, 1, 2] bcast_S10x8320x1_S10x8320x256_0_1_2 (Host.rsqrt (addf (Host.divf
    (broadcastInDim S10x8320x1 ![0, 1] bcast_S10x8320_S10x8320x1_0_1 (Host.reduceAdd (mulf (extractStridedSlice
    S10x8320x256 ![0, 0, 2048] (projected m c) slices_S10x8320x2464_S10x8320x256_0_0_2048) (extractStridedSlice
    S10x8320x256 ![0, 0, 2048] (projected m c) slices_S10x8320x2464_S10x8320x256_0_0_2048)) (constant S_ .f32
    0x00000000#32) reducesTo_S10x8320x256_S10x8320_d2 h_S_)) (broadcastInDim S10x8320x1 ![] bcast_S_S10x8320x1
    (constant S_ .f32 0x43800000#32))) (broadcastInDim S10x8320x1 ![] bcast_S_S10x8320x1 (constant S_ .f32
    0x358637BD#32)))))) (broadcastInDim S10x8320x256 ![0, 1, 2] bcast_S1x1x256_S10x8320x256_0_1_2 (broadcastInDim
    S1x1x256 ![2] bcast_S256_S1x1x256_2 (m (c.tc.loc main_arg3))))) (m (c.tc.loc main_arg5))

/-- The latent keys and values, widened. -/
def keyRows : FVec Ideal S10x8320x512 .f32 :=
  Host.dotGeneral (φ₂ := .f32) dot_S10x8320x128_S128x512_S10x8320x512_2_0_01_1_n_n none (mulf (mulf
    (extractStridedSlice S10x8320x128 ![0, 0, 2304] (projected m c) slices_S10x8320x2464_S10x8320x128_0_0_2304)
    (broadcastInDim S10x8320x128 ![0, 1, 2] bcast_S10x8320x1_S10x8320x128_0_1_2 (Host.rsqrt (addf (Host.divf
    (broadcastInDim S10x8320x1 ![0, 1] bcast_S10x8320_S10x8320x1_0_1 (Host.reduceAdd (mulf (extractStridedSlice
    S10x8320x128 ![0, 0, 2304] (projected m c) slices_S10x8320x2464_S10x8320x128_0_0_2304) (extractStridedSlice
    S10x8320x128 ![0, 0, 2304] (projected m c) slices_S10x8320x2464_S10x8320x128_0_0_2304)) (constant S_ .f32
    0x00000000#32) reducesTo_S10x8320x128_S10x8320_d2 h_S_)) (broadcastInDim S10x8320x1 ![] bcast_S_S10x8320x1
    (constant S_ .f32 0x43000000#32))) (broadcastInDim S10x8320x1 ![] bcast_S_S10x8320x1 (constant S_ .f32
    0x358637BD#32)))))) (broadcastInDim S10x8320x128 ![0, 1, 2] bcast_S1x1x128_S10x8320x128_0_1_2 (broadcastInDim
    S1x1x128 ![2] bcast_S128_S1x1x128_2 (m (c.tc.loc main_arg4))))) (m (c.tc.loc main_arg6))

/-- The rotary angles. -/
def angles : FVec Ideal S8320x32 .f32 :=
  concatenate S8320x32 1 [⟨S8320x16, (mulf (broadcastInDim S8320x16 ![0, 1] bcast_S8320x1_S8320x16_0_1
    (broadcastInDim S8320x1 ![0] bcast_S8320_S8320x1_0 (sitofp (F := Ideal) .f32 (subi (iotaInDim S8320 32 0)
    (broadcastInDim S8320 ![] bcast_S_S8320 (constantI S_ 32 112#32)))))) (broadcastInDim S8320x16 ![0, 1]
    bcast_S1x16_S8320x16_0_1 (broadcastInDim S1x16 ![1] bcast_S16_S1x16_1 (Host.powf (broadcastInDim S16 ![]
    bcast_S_S16 (constant (F := Ideal) S_ .f32 0x461C4000#32)) (Host.divf (Host.negf (addf (broadcastInDim S16 ![]
    bcast_S_S16 (constant (F := Ideal) S_ .f32 0x00000000#32)) (mulf (broadcastInDim S16 ![] bcast_S_S16 (constant
    (F := Ideal) S_ .f32 0x40000000#32)) (sitofp (F := Ideal) .f32 (iotaInDim S16 32 0))))) (broadcastInDim S16 ![]
    bcast_S_S16 (constant (F := Ideal) S_ .f32 0x42000000#32)))))))⟩, ⟨S8320x16, (mulf (broadcastInDim S8320x16 ![0,
    1] bcast_S8320x1_S8320x16_0_1 (broadcastInDim S8320x1 ![0] bcast_S8320_S8320x1_0 (sitofp (F := Ideal) .f32 (subi
    (iotaInDim S8320 32 0) (broadcastInDim S8320 ![] bcast_S_S8320 (constantI S_ 32 112#32)))))) (broadcastInDim
    S8320x16 ![0, 1] bcast_S1x16_S8320x16_0_1 (broadcastInDim S1x16 ![1] bcast_S16_S1x16_1 (Host.powf
    (broadcastInDim S16 ![] bcast_S_S16 (constant (F := Ideal) S_ .f32 0x461C4000#32)) (Host.divf (Host.negf (addf
    (broadcastInDim S16 ![] bcast_S_S16 (constant (F := Ideal) S_ .f32 0x00000000#32)) (mulf (broadcastInDim S16 ![]
    bcast_S_S16 (constant (F := Ideal) S_ .f32 0x40000000#32)) (sitofp (F := Ideal) .f32 (iotaInDim S16 32 0)))))
    (broadcastInDim S16 ![] bcast_S_S16 (constant (F := Ideal) S_ .f32 0x42000000#32)))))))⟩]
    concatenates_S8320x16_S8320x16_S8320x32_d1

/-- The second attention's queries, from the projected rows. -/
def spreadForm (u : FVec Ideal S10x8320x2464 .f32) : FVec Ideal S10x8320x512 .bf16 :=
  truncf .bf16 ((concatenate S10x8320x512 2 [⟨S10x8320x64, ((extractStridedSlice S10x8320x64 ![0, 0, 0] (mulf
    (extractStridedSlice S10x8320x256 ![0, 0, 1536] u slices_S10x8320x2464_S10x8320x256_0_0_1536) (broadcastInDim
    S10x8320x256 ![] bcast_S_S10x8320x256 (constant S_ .f32 0x3E000000#32)))
    slices_S10x8320x256_S10x8320x64_0_0_0))⟩, ⟨S10x8320x64, ((broadcastInDim S10x8320x64 ![] bcast_S_S10x8320x64
    (constant S_ .f32 0x00000000#32)))⟩, ⟨S10x8320x64, ((extractStridedSlice S10x8320x64 ![0, 0, 64] (mulf
    (extractStridedSlice S10x8320x256 ![0, 0, 1536] u slices_S10x8320x2464_S10x8320x256_0_0_1536) (broadcastInDim
    S10x8320x256 ![] bcast_S_S10x8320x256 (constant S_ .f32 0x3E000000#32)))
    slices_S10x8320x256_S10x8320x64_0_0_64))⟩, ⟨S10x8320x64, ((broadcastInDim S10x8320x64 ![] bcast_S_S10x8320x64
    (constant S_ .f32 0x00000000#32)))⟩, ⟨S10x8320x64, ((broadcastInDim S10x8320x64 ![] bcast_S_S10x8320x64
    (constant S_ .f32 0x00000000#32)))⟩, ⟨S10x8320x64, ((extractStridedSlice S10x8320x64 ![0, 0, 128] (mulf
    (extractStridedSlice S10x8320x256 ![0, 0, 1536] u slices_S10x8320x2464_S10x8320x256_0_0_1536) (broadcastInDim
    S10x8320x256 ![] bcast_S_S10x8320x256 (constant S_ .f32 0x3E000000#32)))
    slices_S10x8320x256_S10x8320x64_0_0_128))⟩, ⟨S10x8320x64, ((broadcastInDim S10x8320x64 ![] bcast_S_S10x8320x64
    (constant S_ .f32 0x00000000#32)))⟩, ⟨S10x8320x64, ((extractStridedSlice S10x8320x64 ![0, 0, 192] (mulf
    (extractStridedSlice S10x8320x256 ![0, 0, 1536] u slices_S10x8320x2464_S10x8320x256_0_0_1536) (broadcastInDim
    S10x8320x256 ![] bcast_S_S10x8320x256 (constant S_ .f32 0x3E000000#32)))
    slices_S10x8320x256_S10x8320x64_0_0_192))⟩]
    concatenates_S10x8320x64_S10x8320x64_S10x8320x64_S10x8320x64_S10x8320x64_S10x8320x64_S10x8320x64_S10x8320x64_S10x8320x512_d2))
    bitsLt_bf16_f32

/-- The latent attention's query heads, from the widened latent queries. -/
def queryForm (q : FVec Ideal S10x8320x384 .f32) : FVec Ideal S10x8320x512 .bf16 :=
  truncf .bf16 (shapeCast S10x8320x512 (mulf ((concatenate S10x8320x4x128 3 [⟨S10x8320x4x64, ((extractStridedSlice
    S10x8320x4x64 ![0, 0, 0, 0] (shapeCast S10x8320x4x96 q shapeCasts_S10x8320x384_S10x8320x4x96)
    slices_S10x8320x4x96_S10x8320x4x64_0_0_0_0))⟩, ⟨S10x8320x4x32, ((addf (mulf (extractStridedSlice S10x8320x4x32
    ![0, 0, 0, 64] (shapeCast S10x8320x4x96 q shapeCasts_S10x8320x384_S10x8320x4x96)
    slices_S10x8320x4x96_S10x8320x4x32_0_0_0_64) (broadcastInDim S10x8320x4x32 ![0, 1, 2, 3]
    bcast_S1x8320x1x32_S10x8320x4x32_0_1_2_3 (broadcastInDim S1x8320x1x32 ![1, 2, 3]
    bcast_S8320x1x32_S1x8320x1x32_1_2_3 (broadcastInDim S8320x1x32 ![0, 2] bcast_S8320x32_S8320x1x32_0_2 (Host.cos
    angles))))) (mulf (concatenate S10x8320x4x32 3 [⟨S10x8320x4x16, (Host.negf (extractStridedSlice S10x8320x4x16
    ![0, 0, 0, 16] (extractStridedSlice S10x8320x4x32 ![0, 0, 0, 64] (shapeCast S10x8320x4x96 q
    shapeCasts_S10x8320x384_S10x8320x4x96) slices_S10x8320x4x96_S10x8320x4x32_0_0_0_64)
    slices_S10x8320x4x32_S10x8320x4x16_0_0_0_16))⟩, ⟨S10x8320x4x16, (extractStridedSlice S10x8320x4x16 ![0, 0, 0, 0]
    (extractStridedSlice S10x8320x4x32 ![0, 0, 0, 64] (shapeCast S10x8320x4x96 q
    shapeCasts_S10x8320x384_S10x8320x4x96) slices_S10x8320x4x96_S10x8320x4x32_0_0_0_64)
    slices_S10x8320x4x32_S10x8320x4x16_0_0_0_0)⟩] concatenates_S10x8320x4x16_S10x8320x4x16_S10x8320x4x32_d3)
    (broadcastInDim S10x8320x4x32 ![0, 1, 2, 3] bcast_S1x8320x1x32_S10x8320x4x32_0_1_2_3 (broadcastInDim
    S1x8320x1x32 ![1, 2, 3] bcast_S8320x1x32_S1x8320x1x32_1_2_3 (broadcastInDim S8320x1x32 ![0, 2]
    bcast_S8320x32_S8320x1x32_0_2 (Host.sin angles)))))))⟩, ⟨S10x8320x4x32, ((broadcastInDim S10x8320x4x32 ![]
    bcast_S_S10x8320x4x32 (constant S_ .f32 0x00000000#32)))⟩]
    concatenates_S10x8320x4x64_S10x8320x4x32_S10x8320x4x32_S10x8320x4x128_d3)) (broadcastInDim S10x8320x4x128 ![]
    bcast_S_S10x8320x4x128 (constant S_ .f32 0x3DD105EC#32))) shapeCasts_S10x8320x4x128_S10x8320x512)
    bitsLt_bf16_f32

/-- The rotary keys among the projected rows. -/
def ropeForm (u : FVec Ideal S10x8320x2464 .f32) : FVec Ideal S10x8320x32 .f32 :=
  extractStridedSlice S10x8320x32 ![0, 0, 2432] u slices_S10x8320x2464_S10x8320x32_0_0_2432

/-- The plain key features among the widened latent keys. -/
def plainForm (k : FVec Ideal S10x8320x512 .f32) : FVec Ideal S10x8320x4x64 .f32 :=
  extractStridedSlice S10x8320x4x64 ![0, 0, 0, 0] (shapeCast S10x8320x4x128 k
    shapeCasts_S10x8320x512_S10x8320x4x128) slices_S10x8320x4x128_S10x8320x4x64_0_0_0_0

/-- The rotary keys turned. -/
def turnForm (r : FVec Ideal S10x8320x32 .f32) : FVec Ideal S10x8320x32 .f32 :=
  addf (mulf r (broadcastInDim S10x8320x32 ![0, 1, 2] bcast_S1x8320x32_S10x8320x32_0_1_2 (broadcastInDim
    S1x8320x32 ![1, 2] bcast_S8320x32_S1x8320x32_1_2 (Host.cos angles)))) (mulf (concatenate S10x8320x32 2
    [⟨S10x8320x16, (Host.negf (extractStridedSlice S10x8320x16 ![0, 0, 16] r
    slices_S10x8320x32_S10x8320x16_0_0_16))⟩, ⟨S10x8320x16, (extractStridedSlice S10x8320x16 ![0, 0, 0] r
    slices_S10x8320x32_S10x8320x16_0_0_0)⟩] concatenates_S10x8320x16_S10x8320x16_S10x8320x32_d2) (broadcastInDim
    S10x8320x32 ![0, 1, 2] bcast_S1x8320x32_S10x8320x32_0_1_2 (broadcastInDim S1x8320x32 ![1, 2]
    bcast_S8320x32_S1x8320x32_1_2 (Host.sin angles))))

/-- The turned rotary keys, the same for each of four heads. -/
def sharedForm (r : FVec Ideal S10x8320x32 .f32) : FVec Ideal S10x8320x4x32 .f32 :=
  broadcastInDim S10x8320x4x32 ![0, 1, 2, 3] bcast_S10x8320x1x32_S10x8320x4x32_0_1_2_3 (broadcastInDim
    S10x8320x1x32 ![0, 1, 3] bcast_S10x8320x32_S10x8320x1x32_0_1_3 r)

/-- The latent attention's key heads, from the plain key features and the shared ones. -/
def joinedForm (k : FVec Ideal S10x8320x4x64 .f32) (r : FVec Ideal S10x8320x4x32 .f32) :
    FVec Ideal S10x8320x4x128 .f32 :=
  concatenate S10x8320x4x128 3 [⟨S10x8320x4x64, (k)⟩, ⟨S10x8320x4x32, (r)⟩, ⟨S10x8320x4x32, ((broadcastInDim
    S10x8320x4x32 ![] bcast_S_S10x8320x4x32 (constant S_ .f32 0x00000000#32)))⟩]
    concatenates_S10x8320x4x64_S10x8320x4x32_S10x8320x4x32_S10x8320x4x128_d3

/-- The four heads side by side. -/
def keyForm (x : FVec Ideal S10x8320x4x128 .f32) : FVec Ideal S10x8320x512 .bf16 :=
  truncf .bf16 (shapeCast S10x8320x512 x shapeCasts_S10x8320x4x128_S10x8320x512) bitsLt_bf16_f32

/-- The first attention's queries, from the projected rows. -/
def aqForm (u : FVec Ideal S10x8320x2464 .f32) : FVec Ideal S10x8320x512 .bf16 :=
  truncf .bf16 (mulf (extractStridedSlice S10x8320x512 ![0, 0, 0] u slices_S10x8320x2464_S10x8320x512_0_0_0)
    (broadcastInDim S10x8320x512 ![] bcast_S_S10x8320x512 (constant S_ .f32 0x3E000000#32))) bitsLt_bf16_f32

/-- Its keys, from the projected rows. -/
def akForm (u : FVec Ideal S10x8320x2464 .f32) : FVec Ideal S10x8320x512 .bf16 :=
  truncf .bf16 (extractStridedSlice S10x8320x512 ![0, 0, 512] u slices_S10x8320x2464_S10x8320x512_0_0_512)
    bitsLt_bf16_f32

/-- Its values, from the projected rows. -/
def avForm (u : FVec Ideal S10x8320x2464 .f32) : FVec Ideal S10x8320x512 .bf16 :=
  truncf .bf16 (extractStridedSlice S10x8320x512 ![0, 0, 1024] u slices_S10x8320x2464_S10x8320x512_0_0_1024)
    bitsLt_bf16_f32

/-- The second attention's keys, from the projected rows. -/
def bkForm (u : FVec Ideal S10x8320x2464 .f32) : FVec Ideal S10x8320x128 .bf16 :=
  truncf .bf16 (extractStridedSlice S10x8320x128 ![0, 0, 1792] u slices_S10x8320x2464_S10x8320x128_0_0_1792)
    bitsLt_bf16_f32

/-- Its values, from the projected rows. -/
def bvForm (u : FVec Ideal S10x8320x2464 .f32) : FVec Ideal S10x8320x128 .bf16 :=
  truncf .bf16 (extractStridedSlice S10x8320x128 ![0, 0, 1920] u slices_S10x8320x2464_S10x8320x128_0_0_1920)
    bitsLt_bf16_f32

/-- Its values with the halves swapped, from the projected rows. -/
def bvsForm (u : FVec Ideal S10x8320x2464 .f32) : FVec Ideal S10x8320x128 .bf16 :=
  truncf .bf16 (concatenate S10x8320x128 2 [⟨S10x8320x64, (extractStridedSlice S10x8320x64 ![0, 0, 64]
    (extractStridedSlice S10x8320x128 ![0, 0, 1920] u slices_S10x8320x2464_S10x8320x128_0_0_1920)
    slices_S10x8320x128_S10x8320x64_0_0_64)⟩, ⟨S10x8320x64, (extractStridedSlice S10x8320x64 ![0, 0, 0]
    (extractStridedSlice S10x8320x128 ![0, 0, 1920] u slices_S10x8320x2464_S10x8320x128_0_0_1920)
    slices_S10x8320x128_S10x8320x64_0_0_0)⟩] concatenates_S10x8320x64_S10x8320x64_S10x8320x128_d2) bitsLt_bf16_f32

/-- The latent attention's values, from the widened latent keys and values. -/
def valueForm (k : FVec Ideal S10x8320x512 .f32) : FVec Ideal S10x8320x256 .bf16 :=
  truncf .bf16 (shapeCast S10x8320x256 (extractStridedSlice S10x8320x4x64 ![0, 0, 0, 64] (shapeCast S10x8320x4x128
    k shapeCasts_S10x8320x512_S10x8320x4x128) slices_S10x8320x4x128_S10x8320x4x64_0_0_0_64)
    shapeCasts_S10x8320x4x64_S10x8320x256) bitsLt_bf16_f32

/-- An entry of the projected rows. -/
theorem projected_entry (b : Fin 10) (s : Fin 8320) (j : Fin 2464) : projected m c (ix3 b s j) =
    col (fun k => m (c.tc.loc main_arg0) (ix3 b s k)) (fun k => m (c.tc.loc main_arg1) (ix1 k)) (fun k j => m (c.tc.loc main_arg2) (ix2 k j)) j := by
  pointwise [projected]
  rfl

/-- An entry of the widened latent queries. -/
theorem queryRows_entry (b : Fin 10) (s : Fin 8320) (j : Fin 384) : queryRows m c (ix3 b s j) =
    query (fun k => m (c.tc.loc main_arg0) (ix3 b s k)) (fun k => m (c.tc.loc main_arg1) (ix1 k)) (fun k j => m (c.tc.loc main_arg2) (ix2 k j))
      (fun k => m (c.tc.loc main_arg3) (ix1 k)) (fun k j => m (c.tc.loc main_arg5) (ix2 k j)) j := by
  pointwise [queryRows]
  simp only [projected_entry]
  rfl

/-- An entry of the widened latent keys and values. -/
theorem keyRows_entry (b : Fin 10) (s : Fin 8320) (j : Fin 512) : keyRows m c (ix3 b s j) =
    key (fun k => m (c.tc.loc main_arg0) (ix3 b s k)) (fun k => m (c.tc.loc main_arg1) (ix1 k)) (fun k j => m (c.tc.loc main_arg2) (ix2 k j))
      (fun k => m (c.tc.loc main_arg4) (ix1 k)) (fun k j => m (c.tc.loc main_arg6) (ix2 k j)) j := by
  pointwise [keyRows]
  simp only [projected_entry]
  rfl

/-- The rotary angle of a slot and a feature. -/
theorem angles_entry (s : Fin 8320) (i : Fin 32) : angles (ix2 s i) = theta s i := by
  pointwise [angles]
  rfl

/-- The scaled queries of the second attention, spread over eight places. -/
theorem spread_entry (u : FVec Ideal S10x8320x2464 .f32) (b : Fin 10) (s : Fin 8320) (d : Fin 512) :
    spreadForm u (ix3 b s d) = spread (fun e => u (ix3 b s ⟨1536 + e, by omega⟩) * eighth) d := by
  pointwise [spreadForm]
  unfold spread
  (repeat' split) <;> first
    | omega
    | exact congrArg (fun z => u (ix3 b s z) * eighth) (Fin.ext (by dsimp only; omega))
    | rfl

/-- The query heads of the latent attention. -/
theorem query_entry (q : FVec Ideal S10x8320x384 .f32) (b : Fin 10) (s : Fin 8320) (d : Fin 512) :
    queryForm q (ix3 b s d) = queryHeads s (fun j => q (ix3 b s j)) d := by
  pointwise [queryForm]
  simp only [angles_entry]
  rfl

/-- An entry of the rotary keys. -/
theorem rope_entry (u : FVec Ideal S10x8320x2464 .f32) (b : Fin 10) (s : Fin 8320) (i : Fin 32) :
    ropeForm u (ix3 b s i) = u (ix3 b s ⟨2432 + i, by omega⟩) := by
  pointwise [ropeForm]

/-- An entry of the plain key features. -/
theorem plain_entry (k : FVec Ideal S10x8320x512 .f32) (b : Fin 10) (s : Fin 8320) (h : Fin 4) (e : Fin 64) :
    plainForm k (ix4 b s h e) = k (ix3 b s ⟨h * 128 + e, by omega⟩) := by
  pointwise [plainForm]

/-- An entry of the turned rotary keys. -/
theorem turn_entry (r : FVec Ideal S10x8320x32 .f32) (b : Fin 10) (s : Fin 8320) (e : Fin 32) :
    turnForm r (ix3 b s e) = turned s (fun i => r (ix3 b s i)) e := by
  pointwise [turnForm]
  simp only [angles_entry]
  rfl

/-- An entry of the turned rotary keys, shared by the heads. -/
theorem shared_entry (r : FVec Ideal S10x8320x32 .f32) (b : Fin 10) (s : Fin 8320) (h : Fin 4) (e : Fin 32) :
    sharedForm r (ix4 b s h e) = r (ix3 b s e) := by
  pointwise [sharedForm]

/-- A head from its two parts. -/
theorem joined_entry (k : FVec Ideal S10x8320x4x64 .f32) (r : FVec Ideal S10x8320x4x32 .f32) (b : Fin 10) (s : Fin 8320)
    (h : Fin 4) (e : Fin 128) : joinedForm k r (ix4 b s h e) =
    if p : e.val < 64 then k (ix4 b s h ⟨e, p⟩)
    else if p : e.val - 64 < 32 then r (ix4 b s h ⟨e - 64, p⟩) else 0 := by
  pointwise [joinedForm]

/-- A place of the four heads. -/
theorem side_entry (x : FVec Ideal S10x8320x4x128 .f32) (b : Fin 10) (s : Fin 8320) (d : Fin 512) :
    keyForm x (ix3 b s d) = x (ix4 b s ⟨d / 128, by omega⟩ ⟨d % 128, by omega⟩) := by
  pointwise [keyForm]

/-- The key heads of the latent attention. -/
theorem key_entry (k : FVec Ideal S10x8320x512 .f32) (r : FVec Ideal S10x8320x32 .f32) (b : Fin 10) (s : Fin 8320)
    (d : Fin 512) : keyForm (joinedForm (plainForm k) (sharedForm (turnForm r))) (ix3 b s d) =
    keyHeads s (fun j => k (ix3 b s j)) (fun i => r (ix3 b s i)) d := by
  rw [side_entry, joined_entry]
  simp only [plain_entry, shared_entry, turn_entry]
  unfold keyHeads
  split_ifs
  · exact congrArg (fun z => k (ix3 b s z)) (Fin.ext (by dsimp only; omega))
  · rfl
  · rfl

/-! The results that are slices. -/

theorem aqForm_entry (u : FVec Ideal S10x8320x2464 .f32) (b : Fin 10) (s : Fin 8320) (d : Fin 512) :
    aqForm u (ix3 b s d) = u (ix3 b s ⟨d, by omega⟩) * eighth := by
  pointwise [aqForm]
  rfl

theorem akForm_entry (u : FVec Ideal S10x8320x2464 .f32) (b : Fin 10) (s : Fin 8320) (d : Fin 512) :
    akForm u (ix3 b s d) = u (ix3 b s ⟨512 + d, by omega⟩) := by
  pointwise [akForm]

theorem avForm_entry (u : FVec Ideal S10x8320x2464 .f32) (b : Fin 10) (s : Fin 8320) (d : Fin 512) :
    avForm u (ix3 b s d) = u (ix3 b s ⟨1024 + d, by omega⟩) := by
  pointwise [avForm]

theorem bkForm_entry (u : FVec Ideal S10x8320x2464 .f32) (b : Fin 10) (s : Fin 8320) (d : Fin 128) :
    bkForm u (ix3 b s d) = u (ix3 b s ⟨1792 + d, by omega⟩) := by
  pointwise [bkForm]

theorem bvForm_entry (u : FVec Ideal S10x8320x2464 .f32) (b : Fin 10) (s : Fin 8320) (d : Fin 128) :
    bvForm u (ix3 b s d) = u (ix3 b s ⟨1920 + d, by omega⟩) := by
  pointwise [bvForm]

theorem bvsForm_entry (u : FVec Ideal S10x8320x2464 .f32) (b : Fin 10) (s : Fin 8320) (d : Fin 128) :
    bvsForm u (ix3 b s d) = if d.val < 64 then u (ix3 b s ⟨1984 + d % 64, by omega⟩) else u (ix3 b s ⟨1920 + d % 64, by omega⟩) := by
  pointwise [bvsForm]
  split_ifs <;> exact congrArg (fun z => u (ix3 b s z)) (Fin.ext (by dsimp only; omega))

theorem value_entry (k : FVec Ideal S10x8320x512 .f32) (b : Fin 10) (s : Fin 8320) (d : Fin 256) :
    valueForm k (ix3 b s d) = k (ix3 b s ⟨d / 64 * 128 + (64 + d % 64), by omega⟩) := by
  pointwise [valueForm]

/-- The results that the run names are these. -/
theorem spread_form : res_main_v129 m c = spreadForm (projected m c) := rfl
theorem query_form : res_main_v133 m c = queryForm (queryRows m c) := rfl
theorem key_form : res_main_v134 m c = keyForm (joinedForm (plainForm (keyRows m c)) (sharedForm (turnForm (ropeForm (projected m c))))) := rfl

end Cert.ProjectRefIdeal.Entries
-- ==== Proof.ProjectFinite.lean ====
module

public import proofs.«01_k».proof.Proof.ProjectionFacts
public import proofs.«01_k».proof.Pre_finite
public import Idealize.ShloMosaic.Lib.ReduceAll
public import Idealize.ShloMosaic.Lib.Pointwise

@[expose] public section

/-! What the input projection's precondition says: five of the arguments hold finite values alone. -/

noncomputable section

namespace Cert.Pre_finite

open Idealize.ShloMosaic Cert.Projection

/-- The shape relations of the precondition. -/
instance facts : Facts where
  bcast_S_S10x8320x1024 := by decide
  reducesTo_S10x8320x1024_S_d0_1_2 := by decide
  h_S_ := by decide
  bcast_S_S1024 := by decide
  reducesTo_S1024_S_d0 := by decide
  bcast_S_S1024x2464 := by decide
  reducesTo_S1024x2464_S_d0_1 := by decide
  bcast_S_S256 := by decide
  reducesTo_S256_S_d0 := by decide
  bcast_S_S256x384 := by decide
  reducesTo_S256x384_S_d0_1 := by decide

instance : Subsingleton S_.Idx := ⟨fun a b => funext fun i => i.elim0⟩

/-- The pattern of infinity is infinity. -/
theorem infinity : Ideal.ofBits FTy.f32 0x7F800000#32 = (⊤ : EReal) := by
  decide

/-- A value whose size is below infinity is finite. -/
theorem finite_of_olt (x : EReal) (h : Ideal.cmp .olt (max x (-x)) (Ideal.ofBits FTy.f32 0x7F800000#32) = 1#1) :
    Finite x := by
  rw [infinity] at h
  have h' : max x (-x) < ⊤ := by
    by_contra hn
    simp [Ideal.cmp, hn] at h
  induction x using EReal.rec with
  | bot => simp at h'
  | coe r => exact ⟨r, rfl⟩
  | top => simp at h'

/-- An array all of whose sizes are below infinity holds finite values. -/
theorem finite_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : Finite (x i) :=
  finite_of_olt (x i) (Host.reduce_andi_all _ _ _ _ j e i)

/-- The precondition's five conclusions. -/
theorem finite_of_fn (a0 : FVec Ideal S10x8320x1024 .f32) (a1 : FVec Ideal S1024 .f32) (a2 : FVec Ideal S1024x2464 .f32)
    (a3 : FVec Ideal S256 .f32) (a4 : FVec Ideal S128 .f32) (a5 : FVec Ideal S256x384 .f32) (a6 : FVec Ideal S128x512 .f32)
    (h : fn (F := Ideal) a0 a1 a2 a3 a4 a5 a6 = fun _ => 1#1) :
    (∀ i, Finite (a0 i)) ∧ (∀ i, Finite (a1 i)) ∧ (∀ i, Finite (a2 i)) ∧ (∀ i, Finite (a3 i)) ∧ ∀ i, Finite (a5 i) := by
  have h0 := congrFun h (fun i => i.elim0)
  obtain ⟨h1, e5⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨finite_of_all a0 _ _ _ _ e0, finite_of_all a1 _ _ _ _ e1, finite_of_all a2 _ _ _ _ e2, finite_of_all a3 _ _ _ _ e3,
    finite_of_all a5 _ _ _ _ e5⟩

end Cert.Pre_finite
-- ==== Proof.Project.lean ====
module

public import proofs.«01_k».proof.Proof.ProjectKernel
public import proofs.«01_k».proof.Proof.ProjectReference
public import proofs.«01_k».proof.Proof.ProjectFinite
public import proofs.«01_k».proof.Defs

@[expose] public section

/-! The input projection: from finite arguments the kernel's ten result arrays and the reference's are the same
    functions of the arguments. -/

set_option maxRecDepth 16384

noncomputable section

namespace Cert.Proof

open Idealize.ShloMosaic Idealize.SL.Sem
open Cert.ProjectIdeal.Rows Cert.ProjectRefIdeal.Entries

/-- The precondition makes the arguments finite. -/
theorem finite_args {m : (ℓ : Loc Cert.ProjectIdeal.nD Cert.ProjectIdeal.τ Cert.ProjectIdeal.sig) → Buf (Elt Ideal) ℓ}
    (h : Cert.Pre_ProjectIdeal_finite m) (c : Dev Cert.ProjectIdeal.nD) : FiniteArgs m c := by
  obtain ⟨h0, h1, h2, h3, h5⟩ := Cert.Pre_finite.finite_of_fn _ _ _ _ _ _ _ (h c)
  exact ⟨fun _ _ _ => h0 _, fun _ => h1 _, fun _ _ => h2 _, fun _ => h3 _, fun _ _ => h5 _⟩

/-- From finite arguments the kernel and the reference end with equal result arrays. -/
theorem project : Cert.algebraic_ProjectIdeal_ProjectRefIdeal_pre_finite := by
  intro m g m' g' hpre hagree
  refine ⟨fun c => result0 m c, fun c => result1 m c, fun c => result2 m c, fun c => result3 m c, fun c => result4 m c,
    fun c => result5 m c, fun c => result6 m c, fun c => result7 m c, fun c => result8 m c, fun c => result9 m c, ?_, ?_⟩
  · refine (θ_run Cert.ProjectIdeal.defs _ _).mono (fun _ h c => ?_) (Cert.ProjectIdeal.Value.run_blocks m g)
    obtain ⟨h0, h1, h2, h3, h4, h5, h6, h7, h8, h9, h⟩ := h c
    exact ⟨h0.trans (kernel_result0 m c), h1.trans (kernel_result1 m c), h2.trans (kernel_result2 m c),
      h3.trans (kernel_result3 m c), h4.trans (kernel_result4 m c), h5.trans (kernel_result5 m c),
      h6.trans (kernel_result6 m c), h7.trans (kernel_result7 m c (finite_args hpre c)),
      h8.trans (kernel_result8 m c (finite_args hpre c)), h9.trans (kernel_result9 m c), h⟩
  · refine (θ_run Cert.ProjectRefIdeal.defs _ _).mono (fun _ h c => ?_) (Cert.ProjectRefIdeal.Value.run m' g')
    obtain ⟨h0, h1, h2, h3, h4, h5, h6, h7, h8, h9, h⟩ := h c
    obtain ⟨a0, a1, a2, a3, a4, a5, a6⟩ := hagree c
    have hu : ∀ b s j, projected m' c (ix3 b s j) = column m c b s j := fun b s j => by
      rw [projected_entry]
      simp only [a0, a1, a2]
    have hq : ∀ b s j, queryRows m' c (ix3 b s j) =
        Cert.Projection.query (row m c b s) (gain m c) (weight m c) (gainQ m c) (weightQ m c) j := fun b s j => by
      rw [queryRows_entry]
      simp only [a0, a1, a2, a3, a5]
    have hk : ∀ b s j, keyRows m' c (ix3 b s j) =
        Cert.Projection.key (row m c b s) (gain m c) (weight m c) (gainK m c) (weightK m c) j := fun b s j => by
      rw [keyRows_entry]
      simp only [a0, a1, a2, a4, a6]
    refine ⟨h0.trans ?_, h1.trans ?_, h2.trans ?_, h3.trans ?_, h4.trans ?_, h5.trans ?_, h6.trans ?_, h7.trans ?_,
      h8.trans ?_, h9.trans ?_, h⟩
    · show aqForm (projected m' c) = result0 m c
      funext i
      idx_vars i
      rw [aqForm_entry, hu]
      rfl
    · show akForm (projected m' c) = result1 m c
      funext i
      idx_vars i
      rw [akForm_entry, hu]
      rfl
    · show avForm (projected m' c) = result2 m c
      funext i
      idx_vars i
      rw [avForm_entry, hu]
      rfl
    · rw [spread_form]
      funext i
      idx_vars i
      rw [spread_entry]
      simp only [hu]
      rfl
    · show bkForm (projected m' c) = result4 m c
      funext i
      idx_vars i
      rw [bkForm_entry, hu]
      rfl
    · show bvForm (projected m' c) = result5 m c
      funext i
      idx_vars i
      rw [bvForm_entry, hu]
      rfl
    · show bvsForm (projected m' c) = result6 m c
      funext i
      idx_vars i
      rw [bvsForm_entry]
      simp only [hu]
      rfl
    · rw [query_form]
      funext i
      idx_vars i
      rw [query_entry]
      simp only [hq]
      rfl
    · rw [key_form]
      funext i
      idx_vars i
      rw [key_entry]
      simp only [hk, rope_entry, hu]
      rfl
    · show valueForm (keyRows m' c) = result9 m c
      funext i
      idx_vars i
      rw [value_entry, hk]
      rfl

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Sample.Frame
public import proofs.«01_k».proof.Proof.Gen.SampleIdeal.Frame
public import proofs.«01_k».proof.Proof.Gen.SampleIdeal.Value
public import proofs.«01_k».proof.Proof.Gen.SampleRefIdeal.Run
public import proofs.«01_k».proof.Proof.Gen.First.Frame
public import proofs.«01_k».proof.Proof.Gen.FirstIdeal.Frame
public import proofs.«01_k».proof.Proof.Gen.FirstIdeal.Value
public import proofs.«01_k».proof.Proof.Gen.FirstRefIdeal.Run
public import proofs.«01_k».proof.Proof.Gen.Mixed.Frame
public import proofs.«01_k».proof.Proof.Gen.MixedIdeal.Frame
public import proofs.«01_k».proof.Proof.Gen.MixedIdeal.Value
public import proofs.«01_k».proof.Proof.Gen.MixedRefIdeal.Run
public import proofs.«01_k».proof.Proof.Gen.Plain.Frame
public import proofs.«01_k».proof.Proof.Gen.PlainIdeal.Frame
public import proofs.«01_k».proof.Proof.Gen.PlainIdeal.Value
public import proofs.«01_k».proof.Proof.Gen.PlainRefIdeal.Run
public import proofs.«01_k».proof.Proof.Gen.Latent.Frame
public import proofs.«01_k».proof.Proof.Gen.LatentIdeal.Frame
public import proofs.«01_k».proof.Proof.Gen.LatentIdeal.Value
public import proofs.«01_k».proof.Proof.Gen.LatentRefIdeal.Run
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectRefIdeal.Run
public import proofs.«01_k».proof.Proof.Prompts
public import proofs.«01_k».proof.Proof.Samples
public import proofs.«01_k».proof.Proof.First
public import proofs.«01_k».proof.Proof.Mixed
public import proofs.«01_k».proof.Proof.Plain
public import proofs.«01_k».proof.Proof.Latent
public import proofs.«01_k».proof.Proof.Project
public import Idealize.ShloMosaic.Adequacy
public import Idealize.ShloMosaic.Init

@[expose] public section

/-! The five feed-forward calls, the latent attention call and the input projection call against the plain mathematics of each. -/

noncomputable section

namespace Cert.Proof

open Idealize.ShloMosaic Idealize.SL.Sem

/-- The prompts reference ends with its arguments unchanged and its semaphores at zero. -/
theorem frame_prompts : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The samples reference ends with its arguments unchanged and its semaphores at zero. -/
theorem frame_samples : Cert.quiescent_SampleRefIdeal := fun m ρ _ =>
  (θ_run Cert.SampleRefIdeal.defs _ _).mono (fun r h => ⟨fun c => (h c).2, sem_eq_zero_of_no_sems (by decide) r.2⟩)
    (Cert.SampleRefIdeal.Value.run (F := Ideal) m ρ)

/-- The first reference ends with its arguments unchanged and its semaphores at zero. -/
theorem frame_first : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

/-- The mixed reference ends with its arguments unchanged and its semaphores at zero. -/
theorem frame_mixed : Cert.quiescent_MixedRefIdeal := fun m ρ _ =>
  (θ_run Cert.MixedRefIdeal.defs _ _).mono (fun r h => ⟨fun c => (h c).2, sem_eq_zero_of_no_sems (by decide) r.2⟩)
    (Cert.MixedRefIdeal.Value.run (F := Ideal) m ρ)

/-- The plain reference ends with its arguments unchanged and its semaphores at zero. -/
theorem frame_plain : Cert.quiescent_PlainRefIdeal := fun m ρ _ =>
  (θ_run Cert.PlainRefIdeal.defs _ _).mono (fun r h => ⟨fun c => (h c).2, sem_eq_zero_of_no_sems (by decide) r.2⟩)
    (Cert.PlainRefIdeal.Value.run (F := Ideal) m ρ)

/-- The latent reference ends with its arguments unchanged and its semaphores at zero. -/
theorem frame_latent : Cert.quiescent_LatentRefIdeal := fun m ρ _ =>
  (θ_run Cert.LatentRefIdeal.defs _ _).mono (fun r h => ⟨fun c => (h c).2, sem_eq_zero_of_no_sems (by decide) r.2⟩)
    (Cert.LatentRefIdeal.Value.run (F := Ideal) m ρ)

/-- The projection reference ends with its arguments unchanged and its semaphores at zero. -/
theorem frame_project : Cert.quiescent_ProjectRefIdeal := fun m ρ _ =>
  (θ_run Cert.ProjectRefIdeal.defs _ _).mono
    (fun r h => ⟨fun c => (h c).2.2.2.2.2.2.2.2.2.2, sem_eq_zero_of_no_sems (by decide) r.2⟩)
    (Cert.ProjectRefIdeal.Value.run (F := Ideal) m ρ)

/-- Every claim of the certificate: for each of the seven calls the frames of the kernel, its idealization and the
    reference, the idealization's agreement with the program, and the equality of the result arrays (for the input
    projection from finite arguments). -/
theorem claim : Cert.Claim := ⟨Cert.Kernel.Gen.facts, Cert.KernelIdeal.Gen.facts, Cert.ReferenceIdeal.Gen.facts, Cert.Sample.Gen.facts, Cert.SampleIdeal.Gen.facts, Cert.SampleRefIdeal.Gen.facts, Cert.First.Gen.facts, Cert.FirstIdeal.Gen.facts, Cert.FirstRefIdeal.Gen.facts, Cert.Mixed.Gen.facts, Cert.MixedIdeal.Gen.facts, Cert.MixedRefIdeal.Gen.facts, Cert.Plain.Gen.facts, Cert.PlainIdeal.Gen.facts, Cert.PlainRefIdeal.Gen.facts, Cert.Latent.Gen.facts, Cert.LatentIdeal.Gen.facts, Cert.LatentRefIdeal.Gen.facts, Cert.Project.Gen.facts, Cert.ProjectIdeal.Gen.facts, Cert.ProjectRefIdeal.Gen.facts, Cert.Pre_finite.facts,
  fun m ρ _ => Cert.Kernel.Gen.frame m ρ,
  fun m ρ _ => Cert.KernelIdeal.Gen.frame m ρ,
  frame_prompts,
  fun m ρ _ => Cert.Sample.Gen.frame m ρ,
  fun m ρ _ => Cert.SampleIdeal.Gen.frame m ρ,
  frame_samples,
  fun m ρ _ => Cert.First.Gen.frame m ρ,
  fun m ρ _ => Cert.FirstIdeal.Gen.frame m ρ,
  frame_first,
  fun m ρ _ => Cert.Mixed.Gen.frame m ρ,
  fun m ρ _ => Cert.MixedIdeal.Gen.frame m ρ,
  frame_mixed,
  fun m ρ _ => Cert.Plain.Gen.frame m ρ,
  fun m ρ _ => Cert.PlainIdeal.Gen.frame m ρ,
  frame_plain,
  fun m ρ _ => Cert.Latent.Gen.frame m ρ,
  fun m ρ _ => Cert.LatentIdeal.Gen.frame m ρ,
  frame_latent,
  fun m ρ _ => Cert.Project.Gen.frame m ρ,
  fun m ρ _ => Cert.ProjectIdeal.Gen.frame m ρ,
  fun m ρ _ => Cert.ProjectIdeal.Gen.frame m ρ,
  frame_project,
  fun m ρ _ => frame_project m ρ trivial,
  trivial, prompts, trivial, samples, trivial, first, trivial, mixed, trivial, plain, trivial, latent, trivial, project⟩

end Cert.Proof

end
